-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_weights [hPre_finite_weights : Cert.Pre_finite_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_weights [hPre_finite_weights : Cert.Pre_finite_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_weights [hKernel3Ideal : Cert.Kernel3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_weights [hReference3Ideal : Cert.Reference3Ideal.Facts] [hPre_finite_weights : Cert.Pre_finite_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v274)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v274) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_weights [hKernel3Ideal : Cert.Kernel3Ideal.Facts] [hReference3Ideal : Cert.Reference3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v66)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v66) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v79) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_weights : Cert.Pre_finite_weights.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_weights (hKernel3Ideal := hKernel3Ideal) (hPre_finite_weights := hPre_finite_weights)
    ∧ quiescent_Reference3Ideal (hReference3Ideal := hReference3Ideal)
    ∧ quiescent_Reference3Ideal_pre_finite_weights (hReference3Ideal := hReference3Ideal) (hPre_finite_weights := hPre_finite_weights)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_weights (hKernel3Ideal := hKernel3Ideal) (hReference3Ideal := hReference3Ideal) (hPre_finite_weights := hPre_finite_weights)
-- ==== Pre_finite_scores.lean ====
abbrev S16x2048x512 : Shape := ⟨3, ![16, 2048, 512]⟩
abbrev S16x2048x5120 : Shape := ⟨3, ![16, 2048, 5120]⟩
abbrev S16x256x512 : Shape := ⟨3, ![16, 256, 512]⟩
abbrev S16x256x5120 : Shape := ⟨3, ![16, 256, 5120]⟩
abbrev S8x15x31 : Shape := ⟨3, ![8, 15, 31]⟩
abbrev S_ : Shape := ⟨0, ![]⟩

class Facts : Prop where
  bitsLt_bf16_f32 : FTy.bits .bf16 < FTy.bits .f32
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x256x512 : S_.BroadcastsInDim S16x256x512 (![] : Fin 0 → Fin S16x256x512.rank)
  reducesTo_S16x256x512_S_d0_1_2 : S16x256x512.ReducesTo [0, 1, 2] S_
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_arg6 : FVec F S8x15x31 .f32) (main_v16 : IVec S_ 1) (main_v17 : FVec F S16x256x512 .f32) : IVec S_ 1 :=
  let main_v18 : FVec F S16x256x512 .f32 := Host.absf main_v17
  let main_cst_4 : FVec F S_ .f32 := constant S_ .f32 0x7F800000#32
  let main_v19 : FVec F S16x256x512 .f32 := broadcastInDim S16x256x512 ![] bcast_S_S16x256x512 main_cst_4
  let main_v20 : IVec S16x256x512 1 := cmpf .olt main_v18 main_v19
  let main_c_5 : IVec S_ 1 := constantI S_ 1 1#1
  let main_v21 : IVec S_ 1 := (fun x v => Host.reduce IntOp.andi x v reducesTo_S16x256x512_S_d0_1_2 h_S_) main_v20 main_c_5
  let main_v22 : IVec S_ 1 := andi main_v16 main_v21
  let main_v23 : FVec F S8x15x31 .f32 := Host.absf main_arg6
  let main_cst_6 : FVec F S_ .f32 := constant S_ .f32 0x7F800000#32
  let main_v24 : FVec F S8x15x31 .f32 := broadcastInDim S8x15x31 ![] bcast_S_S8x15x31 main_cst_6
  let main_v25 : IVec S8x15x31 1 := cmpf .olt main_v23 main_v24
  let main_c_7 : IVec S_ 1 := constantI S_ 1 1#1
  let main_v26 : IVec S_ 1 := (fun x v => Host.reduce IntOp.andi x v reducesTo_S8x15x31_S_d0_1_2 h_S_) main_v25 main_c_7
  let main_v27 : IVec S_ 1 := andi main_v22 main_v26
  main_v27

def fn {F : FTy → Type} [FloatOps F] (main_arg0 : FVec F S16x2048x512 .bf16) (main_arg1 : FVec F S16x2048x512 .bf16) (main_arg2 : FVec F S16x2048x512 .bf16) (main_arg3 : FVec F S16x2048x5120 .bf16) (main_arg4 : FVec F S16x256x512 .bf16) (main_arg5 : FVec F S16x256x5120 .bf16) (main_arg6 : FVec F S8x15x31 .f32) : IVec S_ 1 :=
  let main_v0 : FVec F S16x2048x512 .f32 := (extf .f32 · bitsLt_bf16_f32) main_arg0
  let main_v1 : FVec F S16x2048x512 .f32 := Host.absf main_v0
  let main_cst : FVec F S_ .f32 := constant S_ .f32 0x7F800000#32
  let main_v2 : FVec F S16x2048x512 .f32 := broadcastInDim S16x2048x512 ![] bcast_S_S16x2048x512 main_cst
  let main_v3 : IVec S16x2048x512 1 := cmpf .olt main_v1 main_v2
  let main_c : IVec S_ 1 := constantI S_ 1 1#1
  let main_v4 : IVec S_ 1 := (fun x v => Host.reduce IntOp.andi x v reducesTo_S16x2048x512_S_d0_1_2 h_S_) main_v3 main_c
  let main_v5 : FVec F S16x2048x512 .f32 := (extf .f32 · bitsLt_bf16_f32) main_arg1
  let main_v6 : FVec F S16x2048x512 .f32 := Host.absf main_v5
  let main_cst_0 : FVec F S_ .f32 := constant S_ .f32 0x7F800000#32
  let main_v7 : FVec F S16x2048x512 .f32 := broadcastInDim S16x2048x512 ![] bcast_S_S16x2048x512 main_cst_0
  let main_v8 : IVec S16x2048x512 1 := cmpf .olt main_v6 main_v7
  let main_c_1 : IVec S_ 1 := constantI S_ 1 1#1
  let main_v9 : IVec S_ 1 := (fun x v => Host.reduce IntOp.andi x v reducesTo_S16x2048x512_S_d0_1_2 h_S_) main_v8 main_c_1
  let main_v10 : IVec S_ 1 := andi main_v4 main_v9
  let main_v11 : FVec F S16x2048x512 .f32 := (extf .f32 · bitsLt_bf16_f32) main_arg2
  let main_v12 : FVec F S16x2048x512 .f32 := Host.absf main_v11
  let main_cst_2 : FVec F S_ .f32 := constant S_ .f32 0x7F800000#32
  let main_v13 : FVec F S16x2048x512 .f32 := broadcastInDim S16x2048x512 ![] bcast_S_S16x2048x512 main_cst_2
  let main_v14 : IVec S16x2048x512 1 := cmpf .olt main_v12 main_v13
  let main_c_3 : IVec S_ 1 := constantI S_ 1 1#1
  let main_v15 : IVec S_ 1 := (fun x v => Host.reduce IntOp.andi x v reducesTo_S16x2048x512_S_d0_1_2 h_S_) main_v14 main_c_3
  let main_v16 : IVec S_ 1 := andi main_v10 main_v15
  let main_v17 : FVec F S16x256x512 .f32 := (extf .f32 · bitsLt_bf16_f32) main_arg4
  fn_part1 (F := F) main_arg6 main_v16 main_v17
-- ==== Pre_finite_weights.lean ====
abbrev S32768x1024 : Shape := ⟨2, ![32768, 1024]⟩
abbrev S32768 : Shape := ⟨1, ![32768]⟩
abbrev S32768x8 : Shape := ⟨2, ![32768, 8]⟩
abbrev S16x2048x1024 : Shape := ⟨3, ![16, 2048, 1024]⟩
abbrev S16x1x1024 : Shape := ⟨3, ![16, 1, 1024]⟩
abbrev S4x8x1024x256 : Shape := ⟨4, ![4, 8, 1024, 256]⟩
abbrev S4x8x256x1024 : Shape := ⟨4, ![4, 8, 256, 1024]⟩
abbrev S_ : Shape := ⟨0, ![]⟩

class Facts : Prop where
  bcast_S_S32768x8 : S_.BroadcastsInDim S32768x8 (![] : Fin 0 → Fin S32768x8.rank)
  reducesTo_S32768x8_S_d0_1 : S32768x8.ReducesTo [0, 1] S_
  h_S_ : 0 < S_.numel

variable [Facts]

def fn {F : FTy → Type} [FloatOps F] (main_arg0 : FVec F S32768x1024 .f32) (main_arg1 : IVec S32768 32) (main_arg2 : FVec F S32768x8 .f32) (main_arg3 : FVec F S16x2048x1024 .f32) (main_arg4 : FVec F S16x1x1024 .f32) (main_arg5 : FVec F S4x8x1024x256 .f32) (main_arg6 : FVec F S4x8x1024x256 .f32) (main_arg7 : FVec F S4x8x256x1024 .f32) : IVec S_ 1 :=
  let main_v0 : FVec F S32768x8 .f32 := Host.absf main_arg2
  let main_cst : FVec F S_ .f32 := constant S_ .f32 0x7F800000#32
  let main_v1 : FVec F S32768x8 .f32 := broadcastInDim S32768x8 ![] bcast_S_S32768x8 main_cst
  let main_v2 : IVec S32768x8 1 := cmpf .olt main_v0 main_v1
  let main_c : IVec S_ 1 := constantI S_ 1 1#1
  let main_v3 : IVec S_ 1 := (fun x v => Host.reduce IntOp.andi x v reducesTo_S32768x8_S_d0_1 h_S_) main_v2 main_c
  main_v3
-- ==== Kernel.lean ====
abbrev S16x2048x512 : Shape := ⟨3, ![16, 2048, 512]⟩
abbrev S16x2048x5120 : Shape := ⟨3, ![16, 2048, 5120]⟩
abbrev S16x256x512 : Shape := ⟨3, ![16, 256, 512]⟩
abbrev S16x256x5120 : Shape := ⟨3, ![16, 256, 5120]⟩
abbrev S8x15x31 : Shape := ⟨3, ![8, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S1x15x31 : Shape := ⟨3, ![1, 15, 31]⟩
abbrev S1x0x15x31 : Shape := ⟨4, ![1, 0, 15, 31]⟩
abbrev S0x15x31 : Shape := ⟨3, ![0, 15, 31]⟩
abbrev S8x1x31 : Shape := ⟨3, ![8, 1, 31]⟩
abbrev S8x1x0x31 : Shape := ⟨4, ![8, 1, 0, 31]⟩
abbrev S8x0x31 : Shape := ⟨3, ![8, 0, 31]⟩
abbrev S8x15x1 : Shape := ⟨3, ![8, 15, 1]⟩
abbrev S8x15x1x48 : Shape := ⟨4, ![8, 15, 1, 48]⟩
abbrev S8x15x48 : Shape := ⟨3, ![8, 15, 48]⟩
abbrev S8x15x127 : Shape := ⟨3, ![8, 15, 127]⟩
abbrev S8x15x64 : Shape := ⟨3, ![8, 15, 64]⟩
abbrev S8x15x1x64 : Shape := ⟨4, ![8, 15, 1, 64]⟩
abbrev S8x15x16x64 : Shape := ⟨4, ![8, 15, 16, 64]⟩
abbrev S8x15x64x64 : Shape := ⟨4, ![8, 15, 64, 64]⟩
abbrev S1x1x64x64 : Shape := ⟨4, ![1, 1, 64, 64]⟩
abbrev S8x64x15x64 : Shape := ⟨4, ![8, 64, 15, 64]⟩
abbrev S8x64x960 : Shape := ⟨3, ![8, 64, 960]⟩
abbrev S8x64x512 : Shape := ⟨3, ![8, 64, 512]⟩
abbrev S8x64x768 : Shape := ⟨3, ![8, 64, 768]⟩
abbrev S8x1x64x768 : Shape := ⟨4, ![8, 1, 64, 768]⟩
abbrev S8x16x64x768 : Shape := ⟨4, ![8, 16, 64, 768]⟩
abbrev S8x32x64x768 : Shape := ⟨4, ![8, 32, 64, 768]⟩
abbrev S8x8x256x768 : Shape := ⟨4, ![8, 8, 256, 768]⟩
abbrev S1x256x256 : Shape := ⟨3, ![1, 256, 256]⟩
abbrev S1x2048x256 : Shape := ⟨3, ![1, 2048, 256]⟩
abbrev S4x1x256x768 : Shape := ⟨4, ![4, 1, 256, 768]⟩
abbrev S1x768x256 : Shape := ⟨3, ![1, 768, 256]⟩
abbrev S768x256 : Shape := ⟨2, ![768, 256]⟩
abbrev S256x256 : Shape := ⟨2, ![256, 256]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 359
  | .vmem => 16
  | .smem => 0
  | _ => 0

abbrev hbmTy0_0 (i : Nat) : BufTy := match i % 128 with
  | 0 => ⟨S16x2048x512, .bf16⟩
  | 1 => ⟨S16x2048x512, .bf16⟩
  | 2 => ⟨S16x2048x512, .bf16⟩
  | 3 => ⟨S16x2048x5120, .bf16⟩
  | 4 => ⟨S16x256x512, .bf16⟩
  | 5 => ⟨S16x256x5120, .bf16⟩
  | 6 => ⟨S8x15x31, .f32⟩
  | 7 => ⟨S64, .i32⟩
  | 8 => ⟨S64x1, .i32⟩
  | 9 => ⟨S64, .i32⟩
  | 10 => ⟨S1x64, .i32⟩
  | 11 => ⟨S_, .i32⟩
  | 12 => ⟨S64x1, .i32⟩
  | 13 => ⟨S64x1, .i32⟩
  | 14 => ⟨S_, .i32⟩
  | 15 => ⟨S_, .i32⟩
  | 16 => ⟨S_, .i32⟩
  | 17 => ⟨S64x1, .i32⟩
  | 18 => ⟨S64x1, .i32⟩
  | 19 => ⟨S_, .i32⟩
  | 20 => ⟨S64x1, .i32⟩
  | 21 => ⟨S64x1, .i32⟩
  | 22 => ⟨S64x64, .i32⟩
  | 23 => ⟨S64x64, .i32⟩
  | 24 => ⟨S64x64, .i1⟩
  | 25 => ⟨S_, .i32⟩
  | 26 => ⟨S64x1, .i32⟩
  | 27 => ⟨S64x1, .i32⟩
  | 28 => ⟨S64x64, .i32⟩
  | 29 => ⟨S64x64, .i32⟩
  | 30 => ⟨S64x64, .i1⟩
  | 31 => ⟨S64x64, .i1⟩
  | 32 => ⟨S1x15x31, .f32⟩
  | 33 => ⟨S1x0x15x31, .f32⟩
  | 34 => ⟨S0x15x31, .f32⟩
  | 35 => ⟨S1x15x31, .f32⟩
  | 36 => ⟨S1x0x15x31, .f32⟩
  | 37 => ⟨S0x15x31, .f32⟩
  | 38 => ⟨S8x15x31, .f32⟩
  | 39 => ⟨S8x1x31, .f32⟩
  | 40 => ⟨S8x1x0x31, .f32⟩
  | 41 => ⟨S8x0x31, .f32⟩
  | 42 => ⟨S8x1x31, .f32⟩
  | 43 => ⟨S8x1x0x31, .f32⟩
  | 44 => ⟨S8x0x31, .f32⟩
  | 45 => ⟨S8x15x31, .f32⟩
  | 46 => ⟨S8x15x1, .f32⟩
  | 47 => ⟨S8x15x1x48, .f32⟩
  | 48 => ⟨S8x15x48, .f32⟩
  | 49 => ⟨S8x15x1, .f32⟩
  | 50 => ⟨S8x15x1x48, .f32⟩
  | 51 => ⟨S8x15x48, .f32⟩
  | 52 => ⟨S8x15x127, .f32⟩
  | 53 => ⟨S8x15x64, .f32⟩
  | 54 => ⟨S8x15x64, .f32⟩
  | 55 => ⟨S8x15x64, .f32⟩
  | 56 => ⟨S8x15x64, .f32⟩
  | 57 => ⟨S8x15x64, .f32⟩
  | 58 => ⟨S8x15x64, .f32⟩
  | 59 => ⟨S8x15x64, .f32⟩
  | 60 => ⟨S8x15x64, .f32⟩
  | 61 => ⟨S8x15x64, .f32⟩
  | 62 => ⟨S8x15x64, .f32⟩
  | 63 => ⟨S8x15x64, .f32⟩
  | 64 => ⟨S8x15x64, .f32⟩
  | 65 => ⟨S8x15x64, .f32⟩
  | 66 => ⟨S8x15x64, .f32⟩
  | 67 => ⟨S8x15x64, .f32⟩
  | 68 => ⟨S8x15x64, .f32⟩
  | 69 => ⟨S8x15x64, .f32⟩
  | 70 => ⟨S8x15x64, .f32⟩
  | 71 => ⟨S8x15x64, .f32⟩
  | 72 => ⟨S8x15x64, .f32⟩
  | 73 => ⟨S8x15x64, .f32⟩
  | 74 => ⟨S8x15x64, .f32⟩
  | 75 => ⟨S8x15x64, .f32⟩
  | 76 => ⟨S8x15x64, .f32⟩
  | 77 => ⟨S8x15x64, .f32⟩
  | 78 => ⟨S8x15x64, .f32⟩
  | 79 => ⟨S8x15x64, .f32⟩
  | 80 => ⟨S8x15x64, .f32⟩
  | 81 => ⟨S8x15x64, .f32⟩
  | 82 => ⟨S8x15x64, .f32⟩
  | 83 => ⟨S8x15x64, .f32⟩
  | 84 => ⟨S8x15x64, .f32⟩
  | 85 => ⟨S8x15x64, .f32⟩
  | 86 => ⟨S8x15x64, .f32⟩
  | 87 => ⟨S8x15x64, .f32⟩
  | 88 => ⟨S8x15x64, .f32⟩
  | 89 => ⟨S8x15x64, .f32⟩
  | 90 => ⟨S8x15x64, .f32⟩
  | 91 => ⟨S8x15x64, .f32⟩
  | 92 => ⟨S8x15x64, .f32⟩
  | 93 => ⟨S8x15x64, .f32⟩
  | 94 => ⟨S8x15x64, .f32⟩
  | 95 => ⟨S8x15x64, .f32⟩
  | 96 => ⟨S8x15x64, .f32⟩
  | 97 => ⟨S8x15x64, .f32⟩
  | 98 => ⟨S8x15x64, .f32⟩
  | 99 => ⟨S8x15x64, .f32⟩
  | 100 => ⟨S8x15x64, .f32⟩
  | 101 => ⟨S8x15x64, .f32⟩
  | 102 => ⟨S8x15x64, .f32⟩
  | 103 => ⟨S8x15x64, .f32⟩
  | 104 => ⟨S8x15x64, .f32⟩
  | 105 => ⟨S8x15x64, .f32⟩
  | 106 => ⟨S8x15x64, .f32⟩
  | 107 => ⟨S8x15x64, .f32⟩
  | 108 => ⟨S8x15x64, .f32⟩
  | 109 => ⟨S8x15x64, .f32⟩
  | 110 => ⟨S8x15x64, .f32⟩
  | 111 => ⟨S8x15x64, .f32⟩
  | 112 => ⟨S8x15x64, .f32⟩
  | 113 => ⟨S8x15x64, .f32⟩
  | 114 => ⟨S8x15x64, .f32⟩
  | 115 => ⟨S8x15x64, .f32⟩
  | 116 => ⟨S8x15x64, .f32⟩
  | 117 => ⟨S8x15x1x64, .f32⟩
  | 118 => ⟨S8x15x1x64, .f32⟩
  | 119 => ⟨S8x15x1x64, .f32⟩
  | 120 => ⟨S8x15x1x64, .f32⟩
  | 121 => ⟨S8x15x1x64, .f32⟩
  | 122 => ⟨S8x15x1x64, .f32⟩
  | 123 => ⟨S8x15x1x64, .f32⟩
  | 124 => ⟨S8x15x1x64, .f32⟩
  | 125 => ⟨S8x15x1x64, .f32⟩
  | 126 => ⟨S8x15x1x64, .f32⟩
  | 127 => ⟨S8x15x1x64, .f32⟩
  | _ => ⟨S16x2048x512, .bf16⟩

abbrev hbmTy0_1 (i : Nat) : BufTy := match i % 128 with
  | 0 => ⟨S8x15x1x64, .f32⟩
  | 1 => ⟨S8x15x1x64, .f32⟩
  | 2 => ⟨S8x15x1x64, .f32⟩
  | 3 => ⟨S8x15x1x64, .f32⟩
  | 4 => ⟨S8x15x1x64, .f32⟩
  | 5 => ⟨S8x15x1x64, .f32⟩
  | 6 => ⟨S8x15x1x64, .f32⟩
  | 7 => ⟨S8x15x1x64, .f32⟩
  | 8 => ⟨S8x15x1x64, .f32⟩
  | 9 => ⟨S8x15x1x64, .f32⟩
  | 10 => ⟨S8x15x1x64, .f32⟩
  | 11 => ⟨S8x15x1x64, .f32⟩
  | 12 => ⟨S8x15x1x64, .f32⟩
  | 13 => ⟨S8x15x1x64, .f32⟩
  | 14 => ⟨S8x15x1x64, .f32⟩
  | 15 => ⟨S8x15x1x64, .f32⟩
  | 16 => ⟨S8x15x1x64, .f32⟩
  | 17 => ⟨S8x15x1x64, .f32⟩
  | 18 => ⟨S8x15x1x64, .f32⟩
  | 19 => ⟨S8x15x1x64, .f32⟩
  | 20 => ⟨S8x15x1x64, .f32⟩
  | 21 => ⟨S8x15x1x64, .f32⟩
  | 22 => ⟨S8x15x1x64, .f32⟩
  | 23 => ⟨S8x15x1x64, .f32⟩
  | 24 => ⟨S8x15x1x64, .f32⟩
  | 25 => ⟨S8x15x1x64, .f32⟩
  | 26 => ⟨S8x15x1x64, .f32⟩
  | 27 => ⟨S8x15x1x64, .f32⟩
  | 28 => ⟨S8x15x1x64, .f32⟩
  | 29 => ⟨S8x15x1x64, .f32⟩
  | 30 => ⟨S8x15x1x64, .f32⟩
  | 31 => ⟨S8x15x1x64, .f32⟩
  | 32 => ⟨S8x15x1x64, .f32⟩
  | 33 => ⟨S8x15x1x64, .f32⟩
  | 34 => ⟨S8x15x1x64, .f32⟩
  | 35 => ⟨S8x15x1x64, .f32⟩
  | 36 => ⟨S8x15x1x64, .f32⟩
  | 37 => ⟨S8x15x1x64, .f32⟩
  | 38 => ⟨S8x15x1x64, .f32⟩
  | 39 => ⟨S8x15x1x64, .f32⟩
  | 40 => ⟨S8x15x1x64, .f32⟩
  | 41 => ⟨S8x15x1x64, .f32⟩
  | 42 => ⟨S8x15x1x64, .f32⟩
  | 43 => ⟨S8x15x1x64, .f32⟩
  | 44 => ⟨S8x15x1x64, .f32⟩
  | 45 => ⟨S8x15x1x64, .f32⟩
  | 46 => ⟨S8x15x1x64, .f32⟩
  | 47 => ⟨S8x15x1x64, .f32⟩
  | 48 => ⟨S8x15x1x64, .f32⟩
  | 49 => ⟨S8x15x1x64, .f32⟩
  | 50 => ⟨S8x15x1x64, .f32⟩
  | 51 => ⟨S8x15x1x64, .f32⟩
  | 52 => ⟨S8x15x1x64, .f32⟩
  | 53 => ⟨S8x15x16x64, .f32⟩
  | 54 => ⟨S8x15x16x64, .f32⟩
  | 55 => ⟨S8x15x16x64, .f32⟩
  | 56 => ⟨S8x15x16x64, .f32⟩
  | 57 => ⟨S8x15x64x64, .f32⟩
  | 58 => ⟨S1x1x64x64, .i1⟩
  | 59 => ⟨S_, .f32⟩
  | 60 => ⟨S_, .f32⟩
  | 61 => ⟨S8x15x64x64, .i1⟩
  | 62 => ⟨S8x15x64x64, .f32⟩
  | 63 => ⟨S8x15x64x64, .f32⟩
  | 64 => ⟨S8x64x15x64, .f32⟩
  | 65 => ⟨S8x64x960, .f32⟩
  | 66 => ⟨S8x64x512, .f32⟩
  | 67 => ⟨S_, .f32⟩
  | 68 => ⟨S_, .f32⟩
  | 69 => ⟨S8x64x768, .f32⟩
  | 70 => ⟨S8x64x512, .f32⟩
  | 71 => ⟨S_, .f32⟩
  | 72 => ⟨S_, .f32⟩
  | 73 => ⟨S8x64x768, .f32⟩
  | 74 => ⟨S8x64x512, .f32⟩
  | 75 => ⟨S_, .f32⟩
  | 76 => ⟨S_, .f32⟩
  | 77 => ⟨S8x64x768, .f32⟩
  | 78 => ⟨S8x64x512, .f32⟩
  | 79 => ⟨S_, .f32⟩
  | 80 => ⟨S_, .f32⟩
  | 81 => ⟨S8x64x768, .f32⟩
  | 82 => ⟨S8x64x512, .f32⟩
  | 83 => ⟨S_, .f32⟩
  | 84 => ⟨S_, .f32⟩
  | 85 => ⟨S8x64x768, .f32⟩
  | 86 => ⟨S8x64x512, .f32⟩
  | 87 => ⟨S_, .f32⟩
  | 88 => ⟨S_, .f32⟩
  | 89 => ⟨S8x64x768, .f32⟩
  | 90 => ⟨S8x64x512, .f32⟩
  | 91 => ⟨S_, .f32⟩
  | 92 => ⟨S_, .f32⟩
  | 93 => ⟨S8x64x768, .f32⟩
  | 94 => ⟨S8x64x512, .f32⟩
  | 95 => ⟨S_, .f32⟩
  | 96 => ⟨S_, .f32⟩
  | 97 => ⟨S8x64x768, .f32⟩
  | 98 => ⟨S8x64x512, .f32⟩
  | 99 => ⟨S_, .f32⟩
  | 100 => ⟨S_, .f32⟩
  | 101 => ⟨S8x64x768, .f32⟩
  | 102 => ⟨S8x64x512, .f32⟩
  | 103 => ⟨S_, .f32⟩
  | 104 => ⟨S_, .f32⟩
  | 105 => ⟨S8x64x768, .f32⟩
  | 106 => ⟨S8x64x512, .f32⟩
  | 107 => ⟨S_, .f32⟩
  | 108 => ⟨S_, .f32⟩
  | 109 => ⟨S8x64x768, .f32⟩
  | 110 => ⟨S8x64x512, .f32⟩
  | 111 => ⟨S_, .f32⟩
  | 112 => ⟨S_, .f32⟩
  | 113 => ⟨S8x64x768, .f32⟩
  | 114 => ⟨S8x64x512, .f32⟩
  | 115 => ⟨S_, .f32⟩
  | 116 => ⟨S_, .f32⟩
  | 117 => ⟨S8x64x768, .f32⟩
  | 118 => ⟨S8x64x512, .f32⟩
  | 119 => ⟨S_, .f32⟩
  | 120 => ⟨S_, .f32⟩
  | 121 => ⟨S8x64x768, .f32⟩
  | 122 => ⟨S8x64x512, .f32⟩
  | 123 => ⟨S_, .f32⟩
  | 124 => ⟨S_, .f32⟩
  | 125 => ⟨S8x64x768, .f32⟩
  | 126 => ⟨S8x64x512, .f32⟩
  | 127 => ⟨S_, .f32⟩
  | _ => ⟨S16x2048x512, .bf16⟩

abbrev hbmTy0_2 (i : Nat) : BufTy := match i % 128 with
  | 0 => ⟨S_, .f32⟩
  | 1 => ⟨S8x64x768, .f32⟩
  | 2 => ⟨S8x64x512, .f32⟩
  | 3 => ⟨S_, .f32⟩
  | 4 => ⟨S_, .f32⟩
  | 5 => ⟨S8x64x768, .f32⟩
  | 6 => ⟨S8x64x512, .f32⟩
  | 7 => ⟨S_, .f32⟩
  | 8 => ⟨S_, .f32⟩
  | 9 => ⟨S8x64x768, .f32⟩
  | 10 => ⟨S8x64x512, .f32⟩
  | 11 => ⟨S_, .f32⟩
  | 12 => ⟨S_, .f32⟩
  | 13 => ⟨S8x64x768, .f32⟩
  | 14 => ⟨S8x64x512, .f32⟩
  | 15 => ⟨S_, .f32⟩
  | 16 => ⟨S_, .f32⟩
  | 17 => ⟨S8x64x768, .f32⟩
  | 18 => ⟨S8x64x512, .f32⟩
  | 19 => ⟨S_, .f32⟩
  | 20 => ⟨S_, .f32⟩
  | 21 => ⟨S8x64x768, .f32⟩
  | 22 => ⟨S8x64x512, .f32⟩
  | 23 => ⟨S_, .f32⟩
  | 24 => ⟨S_, .f32⟩
  | 25 => ⟨S8x64x768, .f32⟩
  | 26 => ⟨S8x64x512, .f32⟩
  | 27 => ⟨S_, .f32⟩
  | 28 => ⟨S_, .f32⟩
  | 29 => ⟨S8x64x768, .f32⟩
  | 30 => ⟨S8x64x512, .f32⟩
  | 31 => ⟨S_, .f32⟩
  | 32 => ⟨S_, .f32⟩
  | 33 => ⟨S8x64x768, .f32⟩
  | 34 => ⟨S8x64x512, .f32⟩
  | 35 => ⟨S_, .f32⟩
  | 36 => ⟨S_, .f32⟩
  | 37 => ⟨S8x64x768, .f32⟩
  | 38 => ⟨S8x64x512, .f32⟩
  | 39 => ⟨S_, .f32⟩
  | 40 => ⟨S_, .f32⟩
  | 41 => ⟨S8x64x768, .f32⟩
  | 42 => ⟨S8x64x512, .f32⟩
  | 43 => ⟨S_, .f32⟩
  | 44 => ⟨S_, .f32⟩
  | 45 => ⟨S8x64x768, .f32⟩
  | 46 => ⟨S8x64x512, .f32⟩
  | 47 => ⟨S_, .f32⟩
  | 48 => ⟨S_, .f32⟩
  | 49 => ⟨S8x64x768, .f32⟩
  | 50 => ⟨S8x64x512, .f32⟩
  | 51 => ⟨S_, .f32⟩
  | 52 => ⟨S_, .f32⟩
  | 53 => ⟨S8x64x768, .f32⟩
  | 54 => ⟨S8x64x512, .f32⟩
  | 55 => ⟨S_, .f32⟩
  | 56 => ⟨S_, .f32⟩
  | 57 => ⟨S8x64x768, .f32⟩
  | 58 => ⟨S8x64x512, .f32⟩
  | 59 => ⟨S_, .f32⟩
  | 60 => ⟨S_, .f32⟩
  | 61 => ⟨S8x64x768, .f32⟩
  | 62 => ⟨S8x64x512, .f32⟩
  | 63 => ⟨S_, .f32⟩
  | 64 => ⟨S_, .f32⟩
  | 65 => ⟨S8x64x768, .f32⟩
  | 66 => ⟨S8x1x64x768, .f32⟩
  | 67 => ⟨S8x1x64x768, .f32⟩
  | 68 => ⟨S8x1x64x768, .f32⟩
  | 69 => ⟨S8x1x64x768, .f32⟩
  | 70 => ⟨S8x1x64x768, .f32⟩
  | 71 => ⟨S8x1x64x768, .f32⟩
  | 72 => ⟨S8x1x64x768, .f32⟩
  | 73 => ⟨S8x1x64x768, .f32⟩
  | 74 => ⟨S8x1x64x768, .f32⟩
  | 75 => ⟨S8x1x64x768, .f32⟩
  | 76 => ⟨S8x1x64x768, .f32⟩
  | 77 => ⟨S8x1x64x768, .f32⟩
  | 78 => ⟨S8x1x64x768, .f32⟩
  | 79 => ⟨S8x1x64x768, .f32⟩
  | 80 => ⟨S8x1x64x768, .f32⟩
  | 81 => ⟨S8x1x64x768, .f32⟩
  | 82 => ⟨S8x1x64x768, .f32⟩
  | 83 => ⟨S8x1x64x768, .f32⟩
  | 84 => ⟨S8x1x64x768, .f32⟩
  | 85 => ⟨S8x1x64x768, .f32⟩
  | 86 => ⟨S8x1x64x768, .f32⟩
  | 87 => ⟨S8x1x64x768, .f32⟩
  | 88 => ⟨S8x1x64x768, .f32⟩
  | 89 => ⟨S8x1x64x768, .f32⟩
  | 90 => ⟨S8x1x64x768, .f32⟩
  | 91 => ⟨S8x1x64x768, .f32⟩
  | 92 => ⟨S8x1x64x768, .f32⟩
  | 93 => ⟨S8x1x64x768, .f32⟩
  | 94 => ⟨S8x1x64x768, .f32⟩
  | 95 => ⟨S8x1x64x768, .f32⟩
  | 96 => ⟨S8x1x64x768, .f32⟩
  | 97 => ⟨S8x1x64x768, .f32⟩
  | 98 => ⟨S8x16x64x768, .f32⟩
  | 99 => ⟨S8x16x64x768, .f32⟩
  | 100 => ⟨S8x32x64x768, .f32⟩
  | 101 => ⟨S8x8x256x768, .f32⟩
  | 102 => ⟨S16x2048x512, .bf16⟩
  | _ => ⟨S16x2048x512, .bf16⟩

abbrev hbmTy (i : Nat) : BufTy := match i / 128 with
  | 0 => hbmTy0_0 i
  | 1 => hbmTy0_1 i
  | 2 => hbmTy0_2 i
  | _ => ⟨S16x2048x512, .bf16⟩

abbrev bufTy : (tb : Table) → Fin (tcTables nBuf tb) → BufTy
  | .hbm, ⟨i, _⟩ => hbmTy i
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S4x1x256x768, .f32⟩
  | .local _ .vmem, ⟨13, _⟩ => ⟨S4x1x256x768, .f32⟩
  | .local _ .vmem, ⟨14, _⟩ => ⟨S1x256x256, .bf16⟩
  | .local _ .vmem, ⟨15, _⟩ => ⟨S1x256x256, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_cst : Ref sig .tc := ⟨.hbm, 187, rfl⟩
abbrev main_call1_v0 : Ref sig .tc := ⟨.hbm, 188, rfl⟩
abbrev main_call1_v1 : Ref sig .tc := ⟨.hbm, 189, rfl⟩
abbrev main_call1_v2 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_cst_3 : Ref sig .tc := ⟨.hbm, 195, rfl⟩
abbrev main_call2_v0 : Ref sig .tc := ⟨.hbm, 196, rfl⟩
abbrev main_v175 : Ref sig .tc := ⟨.hbm, 197, rfl⟩
abbrev main_v176 : Ref sig .tc := ⟨.hbm, 198, rfl⟩
abbrev main_cst_4 : Ref sig .tc := ⟨.hbm, 199, rfl⟩
abbrev main_call3_v0 : Ref sig .tc := ⟨.hbm, 200, rfl⟩
abbrev main_v177 : Ref sig .tc := ⟨.hbm, 201, rfl⟩
abbrev main_v178 : Ref sig .tc := ⟨.hbm, 202, rfl⟩
abbrev main_cst_5 : Ref sig .tc := ⟨.hbm, 203, rfl⟩
abbrev main_call4_v0 : Ref sig .tc := ⟨.hbm, 204, rfl⟩
abbrev main_v179 : Ref sig .tc := ⟨.hbm, 205, rfl⟩
abbrev main_v180 : Ref sig .tc := ⟨.hbm, 206, rfl⟩
abbrev main_cst_6 : Ref sig .tc := ⟨.hbm, 207, rfl⟩
abbrev main_call5_v0 : Ref sig .tc := ⟨.hbm, 208, rfl⟩
abbrev main_v181 : Ref sig .tc := ⟨.hbm, 209, rfl⟩
abbrev main_v182 : Ref sig .tc := ⟨.hbm, 210, rfl⟩
abbrev main_cst_7 : Ref sig .tc := ⟨.hbm, 211, rfl⟩
abbrev main_call6_v0 : Ref sig .tc := ⟨.hbm, 212, rfl⟩
abbrev main_v183 : Ref sig .tc := ⟨.hbm, 213, rfl⟩
abbrev main_v184 : Ref sig .tc := ⟨.hbm, 214, rfl⟩
abbrev main_cst_8 : Ref sig .tc := ⟨.hbm, 215, rfl⟩
abbrev main_call7_v0 : Ref sig .tc := ⟨.hbm, 216, rfl⟩
abbrev main_v185 : Ref sig .tc := ⟨.hbm, 217, rfl⟩
abbrev main_v186 : Ref sig .tc := ⟨.hbm, 218, rfl⟩
abbrev main_cst_9 : Ref sig .tc := ⟨.hbm, 219, rfl⟩
abbrev main_call8_v0 : Ref sig .tc := ⟨.hbm, 220, rfl⟩
abbrev main_v187 : Ref sig .tc := ⟨.hbm, 221, rfl⟩
abbrev main_v188 : Ref sig .tc := ⟨.hbm, 222, rfl⟩
abbrev main_cst_10 : Ref sig .tc := ⟨.hbm, 223, rfl⟩
abbrev main_call9_v0 : Ref sig .tc := ⟨.hbm, 224, rfl⟩
abbrev main_v189 : Ref sig .tc := ⟨.hbm, 225, rfl⟩
abbrev main_v190 : Ref sig .tc := ⟨.hbm, 226, rfl⟩
abbrev main_cst_11 : Ref sig .tc := ⟨.hbm, 227, rfl⟩
abbrev main_call10_v0 : Ref sig .tc := ⟨.hbm, 228, rfl⟩
abbrev main_v191 : Ref sig .tc := ⟨.hbm, 229, rfl⟩
abbrev main_v192 : Ref sig .tc := ⟨.hbm, 230, rfl⟩
abbrev main_cst_12 : Ref sig .tc := ⟨.hbm, 231, rfl⟩
abbrev main_call11_v0 : Ref sig .tc := ⟨.hbm, 232, rfl⟩
abbrev main_v193 : Ref sig .tc := ⟨.hbm, 233, rfl⟩
abbrev main_v194 : Ref sig .tc := ⟨.hbm, 234, rfl⟩
abbrev main_cst_13 : Ref sig .tc := ⟨.hbm, 235, rfl⟩
abbrev main_call12_v0 : Ref sig .tc := ⟨.hbm, 236, rfl⟩
abbrev main_v195 : Ref sig .tc := ⟨.hbm, 237, rfl⟩
abbrev main_v196 : Ref sig .tc := ⟨.hbm, 238, rfl⟩
abbrev main_cst_14 : Ref sig .tc := ⟨.hbm, 239, rfl⟩
abbrev main_call13_v0 : Ref sig .tc := ⟨.hbm, 240, rfl⟩
abbrev main_v197 : Ref sig .tc := ⟨.hbm, 241, rfl⟩
abbrev main_v198 : Ref sig .tc := ⟨.hbm, 242, rfl⟩
abbrev main_cst_15 : Ref sig .tc := ⟨.hbm, 243, rfl⟩
abbrev main_call14_v0 : Ref sig .tc := ⟨.hbm, 244, rfl⟩
abbrev main_v199 : Ref sig .tc := ⟨.hbm, 245, rfl⟩
abbrev main_v200 : Ref sig .tc := ⟨.hbm, 246, rfl⟩
abbrev main_cst_16 : Ref sig .tc := ⟨.hbm, 247, rfl⟩
abbrev main_call15_v0 : Ref sig .tc := ⟨.hbm, 248, rfl⟩
abbrev main_v201 : Ref sig .tc := ⟨.hbm, 249, rfl⟩
abbrev main_v202 : Ref sig .tc := ⟨.hbm, 250, rfl⟩
abbrev main_cst_17 : Ref sig .tc := ⟨.hbm, 251, rfl⟩
abbrev main_call16_v0 : Ref sig .tc := ⟨.hbm, 252, rfl⟩
abbrev main_v203 : Ref sig .tc := ⟨.hbm, 253, rfl⟩
abbrev main_v204 : Ref sig .tc := ⟨.hbm, 254, rfl⟩
abbrev main_cst_18 : Ref sig .tc := ⟨.hbm, 255, rfl⟩
abbrev main_call17_v0 : Ref sig .tc := ⟨.hbm, 256, rfl⟩
abbrev main_v205 : Ref sig .tc := ⟨.hbm, 257, rfl⟩
abbrev main_v206 : Ref sig .tc := ⟨.hbm, 258, rfl⟩
abbrev main_cst_19 : Ref sig .tc := ⟨.hbm, 259, rfl⟩
abbrev main_call18_v0 : Ref sig .tc := ⟨.hbm, 260, rfl⟩
abbrev main_v207 : Ref sig .tc := ⟨.hbm, 261, rfl⟩
abbrev main_v208 : Ref sig .tc := ⟨.hbm, 262, rfl⟩
abbrev main_cst_20 : Ref sig .tc := ⟨.hbm, 263, rfl⟩
abbrev main_call19_v0 : Ref sig .tc := ⟨.hbm, 264, rfl⟩
abbrev main_v209 : Ref sig .tc := ⟨.hbm, 265, rfl⟩
abbrev main_v210 : Ref sig .tc := ⟨.hbm, 266, rfl⟩
abbrev main_cst_21 : Ref sig .tc := ⟨.hbm, 267, rfl⟩
abbrev main_call20_v0 : Ref sig .tc := ⟨.hbm, 268, rfl⟩
abbrev main_v211 : Ref sig .tc := ⟨.hbm, 269, rfl⟩
abbrev main_v212 : Ref sig .tc := ⟨.hbm, 270, rfl⟩
abbrev main_cst_22 : Ref sig .tc := ⟨.hbm, 271, rfl⟩
abbrev main_call21_v0 : Ref sig .tc := ⟨.hbm, 272, rfl⟩
abbrev main_v213 : Ref sig .tc := ⟨.hbm, 273, rfl⟩
abbrev main_v214 : Ref sig .tc := ⟨.hbm, 274, rfl⟩
abbrev main_cst_23 : Ref sig .tc := ⟨.hbm, 275, rfl⟩
abbrev main_call22_v0 : Ref sig .tc := ⟨.hbm, 276, rfl⟩
abbrev main_v215 : Ref sig .tc := ⟨.hbm, 277, rfl⟩
abbrev main_v216 : Ref sig .tc := ⟨.hbm, 278, rfl⟩
abbrev main_cst_24 : Ref sig .tc := ⟨.hbm, 279, rfl⟩
abbrev main_call23_v0 : Ref sig .tc := ⟨.hbm, 280, rfl⟩
abbrev main_v217 : Ref sig .tc := ⟨.hbm, 281, rfl⟩
abbrev main_v218 : Ref sig .tc := ⟨.hbm, 282, rfl⟩
abbrev main_cst_25 : Ref sig .tc := ⟨.hbm, 283, rfl⟩
abbrev main_call24_v0 : Ref sig .tc := ⟨.hbm, 284, rfl⟩
abbrev main_v219 : Ref sig .tc := ⟨.hbm, 285, rfl⟩
abbrev main_v220 : Ref sig .tc := ⟨.hbm, 286, rfl⟩
abbrev main_cst_26 : Ref sig .tc := ⟨.hbm, 287, rfl⟩
abbrev main_call25_v0 : Ref sig .tc := ⟨.hbm, 288, rfl⟩
abbrev main_v221 : Ref sig .tc := ⟨.hbm, 289, rfl⟩
abbrev main_v222 : Ref sig .tc := ⟨.hbm, 290, rfl⟩
abbrev main_cst_27 : Ref sig .tc := ⟨.hbm, 291, rfl⟩
abbrev main_call26_v0 : Ref sig .tc := ⟨.hbm, 292, rfl⟩
abbrev main_v223 : Ref sig .tc := ⟨.hbm, 293, rfl⟩
abbrev main_v224 : Ref sig .tc := ⟨.hbm, 294, rfl⟩
abbrev main_cst_28 : Ref sig .tc := ⟨.hbm, 295, rfl⟩
abbrev main_call27_v0 : Ref sig .tc := ⟨.hbm, 296, rfl⟩
abbrev main_v225 : Ref sig .tc := ⟨.hbm, 297, rfl⟩
abbrev main_v226 : Ref sig .tc := ⟨.hbm, 298, rfl⟩
abbrev main_cst_29 : Ref sig .tc := ⟨.hbm, 299, rfl⟩
abbrev main_call28_v0 : Ref sig .tc := ⟨.hbm, 300, rfl⟩
abbrev main_v227 : Ref sig .tc := ⟨.hbm, 301, rfl⟩
abbrev main_v228 : Ref sig .tc := ⟨.hbm, 302, rfl⟩
abbrev main_cst_30 : Ref sig .tc := ⟨.hbm, 303, rfl⟩
abbrev main_call29_v0 : Ref sig .tc := ⟨.hbm, 304, rfl⟩
abbrev main_v229 : Ref sig .tc := ⟨.hbm, 305, rfl⟩
abbrev main_v230 : Ref sig .tc := ⟨.hbm, 306, rfl⟩
abbrev main_cst_31 : Ref sig .tc := ⟨.hbm, 307, rfl⟩
abbrev main_call30_v0 : Ref sig .tc := ⟨.hbm, 308, rfl⟩
abbrev main_v231 : Ref sig .tc := ⟨.hbm, 309, rfl⟩
abbrev main_v232 : Ref sig .tc := ⟨.hbm, 310, rfl⟩
abbrev main_cst_32 : Ref sig .tc := ⟨.hbm, 311, rfl⟩
abbrev main_call31_v0 : Ref sig .tc := ⟨.hbm, 312, rfl⟩
abbrev main_v233 : Ref sig .tc := ⟨.hbm, 313, rfl⟩
abbrev main_v234 : Ref sig .tc := ⟨.hbm, 314, rfl⟩
abbrev main_cst_33 : Ref sig .tc := ⟨.hbm, 315, rfl⟩
abbrev main_call32_v0 : Ref sig .tc := ⟨.hbm, 316, rfl⟩
abbrev main_v235 : Ref sig .tc := ⟨.hbm, 317, rfl⟩
abbrev main_v236 : Ref sig .tc := ⟨.hbm, 318, rfl⟩
abbrev main_cst_34 : Ref sig .tc := ⟨.hbm, 319, rfl⟩
abbrev main_call33_v0 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let c20_i32 : BitVec 32 := 20#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  v4
def k0_off1 (i : grid0.Coords) : Fin 3 → Nat :=
  let c0 : Index := 0#32
  let c20_i32 : BitVec 32 := 20#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v6 : Index := Scalar.indexCast v5
  let c0_1 : Index := 0#32
  ![0, v6.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![arg2.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![arg2.toNat, c0_i32.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S4x1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16x2048x512 : Shape := ⟨3, ![16, 2048, 512]⟩
abbrev S16x2048x5120 : Shape := ⟨3, ![16, 2048, 5120]⟩
abbrev S16x256x512 : Shape := ⟨3, ![16, 256, 512]⟩
abbrev S16x256x5120 : Shape := ⟨3, ![16, 256, 5120]⟩
abbrev S8x15x31 : Shape := ⟨3, ![8, 15, 31]⟩
abbrev S16x2048x8x64 : Shape := ⟨4, ![16, 2048, 8, 64]⟩
abbrev S16x256x8x64 : Shape := ⟨4, ![16, 256, 8, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S4 : Shape := ⟨1, ![4]⟩
abbrev S4x1 : Shape := ⟨2, ![4, 1]⟩
abbrev S1x32 : Shape := ⟨2, ![1, 32]⟩
abbrev S4x32 : Shape := ⟨2, ![4, 32]⟩
abbrev S16 : Shape := ⟨1, ![16]⟩
abbrev S1x16 : Shape := ⟨2, ![1, 16]⟩
abbrev S4x16 : Shape := ⟨2, ![4, 16]⟩
abbrev S4x1x32 : Shape := ⟨3, ![4, 1, 32]⟩
abbrev S4x16x1 : Shape := ⟨3, ![4, 16, 1]⟩
abbrev S4x16x32 : Shape := ⟨3, ![4, 16, 32]⟩
abbrev S32x1x1x8x1 : Shape := ⟨5, ![32, 1, 1, 8, 1]⟩
abbrev S1x4x16x1x32 : Shape := ⟨5, ![1, 4, 16, 1, 32]⟩
abbrev S32x4x16x8x32 : Shape := ⟨5, ![32, 4, 16, 8, 32]⟩
abbrev S32x4x16x8x32x1 : Shape := ⟨6, ![32, 4, 16, 8, 32, 1]⟩
abbrev S32x4x16x8x32x2 : Shape := ⟨6, ![32, 4, 16, 8, 32, 2]⟩
abbrev S8x32x4x16x8x32 : Shape := ⟨6, ![8, 32, 4, 16, 8, 32]⟩
abbrev S1x1x4x16x1x32 : Shape := ⟨6, ![1, 1, 4, 16, 1, 32]⟩
abbrev S16x32x64x8x64 : Shape := ⟨5, ![16, 32, 64, 8, 64]⟩
abbrev S32x8x1 : Shape := ⟨3, ![32, 8, 1]⟩
abbrev S16x32x8x64x8x64 : Shape := ⟨6, ![16, 32, 8, 64, 8, 64]⟩
abbrev S4x32x1 : Shape := ⟨3, ![4, 32, 1]⟩
abbrev S1 : Shape := ⟨1, ![1]⟩
abbrev S1x1x1 : Shape := ⟨3, ![1, 1, 1]⟩
abbrev S16x32x8x4x32x8x64 : Shape := ⟨7, ![16, 32, 8, 4, 32, 8, 64]⟩
abbrev S16x32x4x16x8x64 : Shape := ⟨6, ![16, 32, 4, 16, 8, 64]⟩
abbrev S16x8x32x4x16x8x32 : Shape := ⟨7, ![16, 8, 32, 4, 16, 8, 32]⟩
abbrev S1x8x32x4x16x8x32 : Shape := ⟨7, ![1, 8, 32, 4, 16, 8, 32]⟩
abbrev S16x8x32x4x16x256 : Shape := ⟨6, ![16, 8, 32, 4, 16, 256]⟩
abbrev S16x8x32x4x16x512 : Shape := ⟨6, ![16, 8, 32, 4, 16, 512]⟩
abbrev S16x8x32x4x16 : Shape := ⟨5, ![16, 8, 32, 4, 16]⟩
abbrev S16x8x32x4x16x1 : Shape := ⟨6, ![16, 8, 32, 4, 16, 1]⟩
abbrev S16x32x4x8x64x16 : Shape := ⟨6, ![16, 32, 4, 8, 64, 16]⟩
abbrev S16x8x64x32x4x16 : Shape := ⟨6, ![16, 8, 64, 32, 4, 16]⟩

abbrev nBuf : Space → Nat
  | .hbm => 241
  | .vmem => 0
  | .smem => 0
  | _ => 0

abbrev hbmTy0_0 (i : Nat) : BufTy := match i % 128 with
  | 0 => ⟨S16x2048x512, .bf16⟩
  | 1 => ⟨S16x2048x512, .bf16⟩
  | 2 => ⟨S16x2048x512, .bf16⟩
  | 3 => ⟨S16x2048x5120, .bf16⟩
  | 4 => ⟨S16x256x512, .bf16⟩
  | 5 => ⟨S16x256x5120, .bf16⟩
  | 6 => ⟨S8x15x31, .f32⟩
  | 7 => ⟨S16x2048x512, .f32⟩
  | 8 => ⟨S16x2048x512, .f32⟩
  | 9 => ⟨S16x2048x512, .f32⟩
  | 10 => ⟨S16x2048x5120, .f32⟩
  | 11 => ⟨S16x256x512, .f32⟩
  | 12 => ⟨S16x256x5120, .f32⟩
  | 13 => ⟨S16x2048x512, .f32⟩
  | 14 => ⟨S16x256x512, .f32⟩
  | 15 => ⟨S16x2048x8x64, .f32⟩
  | 16 => ⟨S16x2048x8x64, .f32⟩
  | 17 => ⟨S16x2048x8x64, .f32⟩
  | 18 => ⟨S16x2048x8x64, .f32⟩
  | 19 => ⟨S16x256x8x64, .f32⟩
  | 20 => ⟨S16x256x8x64, .f32⟩
  | 21 => ⟨S32, .i32⟩
  | 22 => ⟨S_, .i32⟩
  | 23 => ⟨S32, .i32⟩
  | 24 => ⟨S32, .i32⟩
  | 25 => ⟨S_, .i32⟩
  | 26 => ⟨S_, .i32⟩
  | 27 => ⟨S_, .i32⟩
  | 28 => ⟨S32, .i32⟩
  | 29 => ⟨S32, .i32⟩
  | 30 => ⟨S_, .i32⟩
  | 31 => ⟨S32, .i32⟩
  | 32 => ⟨S32, .i32⟩
  | 33 => ⟨S32x1, .i32⟩
  | 34 => ⟨S8, .i32⟩
  | 35 => ⟨S1x8, .i32⟩
  | 36 => ⟨S32x8, .i32⟩
  | 37 => ⟨S32x8, .i32⟩
  | 38 => ⟨S32x8, .i32⟩
  | 39 => ⟨S4, .i32⟩
  | 40 => ⟨S_, .i32⟩
  | 41 => ⟨S4, .i32⟩
  | 42 => ⟨S4, .i32⟩
  | 43 => ⟨S_, .i32⟩
  | 44 => ⟨S4, .i32⟩
  | 45 => ⟨S4, .i32⟩
  | 46 => ⟨S_, .i32⟩
  | 47 => ⟨S_, .i32⟩
  | 48 => ⟨S_, .i32⟩
  | 49 => ⟨S4, .i32⟩
  | 50 => ⟨S4, .i32⟩
  | 51 => ⟨S_, .i32⟩
  | 52 => ⟨S4, .i32⟩
  | 53 => ⟨S4, .i32⟩
  | 54 => ⟨S4x1, .i32⟩
  | 55 => ⟨S32, .i32⟩
  | 56 => ⟨S1x32, .i32⟩
  | 57 => ⟨S4x32, .i32⟩
  | 58 => ⟨S4x32, .i32⟩
  | 59 => ⟨S4x32, .i32⟩
  | 60 => ⟨S4x1, .i32⟩
  | 61 => ⟨S_, .i32⟩
  | 62 => ⟨S4x1, .i32⟩
  | 63 => ⟨S4x1, .i32⟩
  | 64 => ⟨S16, .i32⟩
  | 65 => ⟨S1x16, .i32⟩
  | 66 => ⟨S4x16, .i32⟩
  | 67 => ⟨S4x16, .i32⟩
  | 68 => ⟨S4x16, .i32⟩
  | 69 => ⟨S_, .i32⟩
  | 70 => ⟨S4x16, .i32⟩
  | 71 => ⟨S4x16, .i32⟩
  | 72 => ⟨S_, .i32⟩
  | 73 => ⟨S_, .i32⟩
  | 74 => ⟨S_, .i32⟩
  | 75 => ⟨S4x16, .i32⟩
  | 76 => ⟨S4x16, .i32⟩
  | 77 => ⟨S_, .i32⟩
  | 78 => ⟨S4x16, .i32⟩
  | 79 => ⟨S4x16, .i32⟩
  | 80 => ⟨S4x1x32, .i32⟩
  | 81 => ⟨S4x16x1, .i32⟩
  | 82 => ⟨S4x16x32, .i32⟩
  | 83 => ⟨S4x16x32, .i32⟩
  | 84 => ⟨S4x16x32, .i1⟩
  | 85 => ⟨S4x16x1, .i32⟩
  | 86 => ⟨S_, .i32⟩
  | 87 => ⟨S4x16x1, .i32⟩
  | 88 => ⟨S4x16x1, .i32⟩
  | 89 => ⟨S4x16x32, .i32⟩
  | 90 => ⟨S4x16x32, .i32⟩
  | 91 => ⟨S4x16x32, .i1⟩
  | 92 => ⟨S4x16x32, .i1⟩
  | 93 => ⟨S32x1, .i32⟩
  | 94 => ⟨S32x8, .i32⟩
  | 95 => ⟨S32x8, .i32⟩
  | 96 => ⟨S4x16x1, .i32⟩
  | 97 => ⟨S4x16x32, .i32⟩
  | 98 => ⟨S4x16x32, .i32⟩
  | 99 => ⟨S4x16x32, .i32⟩
  | 100 => ⟨S_, .i32⟩
  | 101 => ⟨S_, .i32⟩
  | 102 => ⟨S_, .i32⟩
  | 103 => ⟨S4x16x32, .i32⟩
  | 104 => ⟨S4x16x32, .i32⟩
  | 105 => ⟨S_, .i32⟩
  | 106 => ⟨S4x16x32, .i32⟩
  | 107 => ⟨S4x16x32, .i32⟩
  | 108 => ⟨S32x1x1x8x1, .i32⟩
  | 109 => ⟨S_, .i32⟩
  | 110 => ⟨S32x1x1x8x1, .i32⟩
  | 111 => ⟨S32x1x1x8x1, .i32⟩
  | 112 => ⟨S1x4x16x1x32, .i32⟩
  | 113 => ⟨S_, .i32⟩
  | 114 => ⟨S1x4x16x1x32, .i32⟩
  | 115 => ⟨S1x4x16x1x32, .i32⟩
  | 116 => ⟨S_, .i32⟩
  | 117 => ⟨S32x1x1x8x1, .i32⟩
  | 118 => ⟨S32x1x1x8x1, .i1⟩
  | 119 => ⟨S_, .i32⟩
  | 120 => ⟨S32x1x1x8x1, .i32⟩
  | 121 => ⟨S32x1x1x8x1, .i32⟩
  | 122 => ⟨S32x1x1x8x1, .i32⟩
  | 123 => ⟨S_, .i32⟩
  | 124 => ⟨S1x4x16x1x32, .i32⟩
  | 125 => ⟨S1x4x16x1x32, .i1⟩
  | 126 => ⟨S_, .i32⟩
  | 127 => ⟨S1x4x16x1x32, .i32⟩
  | _ => ⟨S16x2048x512, .bf16⟩

abbrev hbmTy0_1 (i : Nat) : BufTy := match i % 128 with
  | 0 => ⟨S1x4x16x1x32, .i32⟩
  | 1 => ⟨S1x4x16x1x32, .i32⟩
  | 2 => ⟨S32x4x16x8x32, .i32⟩
  | 3 => ⟨S32x4x16x8x32, .i32⟩
  | 4 => ⟨S32x4x16x8x32x1, .i32⟩
  | 5 => ⟨S32x4x16x8x32x1, .i32⟩
  | 6 => ⟨S32x4x16x8x32x2, .i32⟩
  | 7 => ⟨S8x32x4x16x8x32, .f32⟩
  | 8 => ⟨S1x1x4x16x1x32, .i1⟩
  | 9 => ⟨S_, .f32⟩
  | 10 => ⟨S_, .f32⟩
  | 11 => ⟨S8x32x4x16x8x32, .i1⟩
  | 12 => ⟨S8x32x4x16x8x32, .f32⟩
  | 13 => ⟨S8x32x4x16x8x32, .f32⟩
  | 14 => ⟨S16x32x64x8x64, .f32⟩
  | 15 => ⟨S_, .i32⟩
  | 16 => ⟨S32x8, .i32⟩
  | 17 => ⟨S32x8, .i1⟩
  | 18 => ⟨S_, .i32⟩
  | 19 => ⟨S32x8, .i32⟩
  | 20 => ⟨S32x8, .i32⟩
  | 21 => ⟨S32x8, .i32⟩
  | 22 => ⟨S32x8x1, .i32⟩
  | 23 => ⟨S16x32x8x64x8x64, .f32⟩
  | 24 => ⟨S_, .i32⟩
  | 25 => ⟨S4x32, .i32⟩
  | 26 => ⟨S4x32, .i1⟩
  | 27 => ⟨S_, .i32⟩
  | 28 => ⟨S4x32, .i32⟩
  | 29 => ⟨S4x32, .i32⟩
  | 30 => ⟨S4x32, .i32⟩
  | 31 => ⟨S4x32x1, .i32⟩
  | 32 => ⟨S1, .i32⟩
  | 33 => ⟨S_, .i32⟩
  | 34 => ⟨S4x32x1, .i32⟩
  | 35 => ⟨S4x32x1, .i1⟩
  | 36 => ⟨S1x1x1, .i32⟩
  | 37 => ⟨S4x32x1, .i32⟩
  | 38 => ⟨S4x32x1, .i1⟩
  | 39 => ⟨S4x32x1, .i1⟩
  | 40 => ⟨S_, .i1⟩
  | 41 => ⟨S4x32, .i1⟩
  | 42 => ⟨S16x32x8x4x32x8x64, .f32⟩
  | 43 => ⟨S16x32x8x4x32x8x64, .i1⟩
  | 44 => ⟨S_, .f32⟩
  | 45 => ⟨S16x32x8x4x32x8x64, .f32⟩
  | 46 => ⟨S16x32x8x4x32x8x64, .f32⟩
  | 47 => ⟨S16x32x64x8x64, .f32⟩
  | 48 => ⟨S_, .i32⟩
  | 49 => ⟨S32x8, .i32⟩
  | 50 => ⟨S32x8, .i1⟩
  | 51 => ⟨S_, .i32⟩
  | 52 => ⟨S32x8, .i32⟩
  | 53 => ⟨S32x8, .i32⟩
  | 54 => ⟨S32x8, .i32⟩
  | 55 => ⟨S32x8x1, .i32⟩
  | 56 => ⟨S16x32x8x64x8x64, .f32⟩
  | 57 => ⟨S_, .i32⟩
  | 58 => ⟨S4x32, .i32⟩
  | 59 => ⟨S4x32, .i1⟩
  | 60 => ⟨S_, .i32⟩
  | 61 => ⟨S4x32, .i32⟩
  | 62 => ⟨S4x32, .i32⟩
  | 63 => ⟨S4x32, .i32⟩
  | 64 => ⟨S4x32x1, .i32⟩
  | 65 => ⟨S1, .i32⟩
  | 66 => ⟨S_, .i32⟩
  | 67 => ⟨S4x32x1, .i32⟩
  | 68 => ⟨S4x32x1, .i1⟩
  | 69 => ⟨S1x1x1, .i32⟩
  | 70 => ⟨S4x32x1, .i32⟩
  | 71 => ⟨S4x32x1, .i1⟩
  | 72 => ⟨S4x32x1, .i1⟩
  | 73 => ⟨S_, .i1⟩
  | 74 => ⟨S4x32, .i1⟩
  | 75 => ⟨S16x32x8x4x32x8x64, .f32⟩
  | 76 => ⟨S16x32x8x4x32x8x64, .i1⟩
  | 77 => ⟨S_, .f32⟩
  | 78 => ⟨S16x32x8x4x32x8x64, .f32⟩
  | 79 => ⟨S16x32x8x4x32x8x64, .f32⟩
  | 80 => ⟨S16x32x4x16x8x64, .f32⟩
  | 81 => ⟨S16x32x4x16x8x64, .f32⟩
  | 82 => ⟨S16x8x32x4x16x8x32, .f32⟩
  | 83 => ⟨S1x8x32x4x16x8x32, .f32⟩
  | 84 => ⟨S16x8x32x4x16x8x32, .f32⟩
  | 85 => ⟨S16x8x32x4x16x8x32, .f32⟩
  | 86 => ⟨S16x8x32x4x16x256, .f32⟩
  | 87 => ⟨S16x8x32x4x16x256, .f32⟩
  | 88 => ⟨S16x8x32x4x16x512, .f32⟩
  | 89 => ⟨S_, .f32⟩
  | 90 => ⟨S16x8x32x4x16, .f32⟩
  | 91 => ⟨S_, .f32⟩
  | 92 => ⟨S16x8x32x4x16, .f32⟩
  | 93 => ⟨S16x8x32x4x16, .f32⟩
  | 94 => ⟨S16x8x32x4x16x1, .f32⟩
  | 95 => ⟨S16x8x32x4x16x512, .f32⟩
  | 96 => ⟨S16x8x32x4x16x512, .f32⟩
  | 97 => ⟨S16x8x32x4x16x512, .f32⟩
  | 98 => ⟨S_, .f32⟩
  | 99 => ⟨S16x8x32x4x16, .f32⟩
  | 100 => ⟨S16x8x32x4x16x1, .f32⟩
  | 101 => ⟨S16x8x32x4x16x512, .f32⟩
  | 102 => ⟨S16x8x32x4x16x512, .f32⟩
  | 103 => ⟨S16x8x32x4x16x256, .f32⟩
  | 104 => ⟨S16x8x32x4x16x8x32, .f32⟩
  | 105 => ⟨S16x8x32x4x16x256, .f32⟩
  | 106 => ⟨S16x32x4x8x64x16, .f32⟩
  | 107 => ⟨S16x32x4x16x8x64, .f32⟩
  | 108 => ⟨S16x8x64x32x4x16, .f32⟩
  | 109 => ⟨S16x32x4x16x8x64, .f32⟩
  | 110 => ⟨S16x32x4x16x8x64, .f32⟩
  | 111 => ⟨S16x2048x512, .f32⟩
  | 112 => ⟨S16x2048x512, .bf16⟩
  | _ => ⟨S16x2048x512, .bf16⟩

abbrev hbmTy (i : Nat) : BufTy := match i / 128 with
  | 0 => hbmTy0_0 i
  | 1 => hbmTy0_1 i
  | _ => ⟨S16x2048x512, .bf16⟩

abbrev bufTy : (tb : Table) → Fin (tcTables nBuf tb) → BufTy
  | .hbm, ⟨i, _⟩ => hbmTy i
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_c_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_c_8 : Ref sig .tc := ⟨.hbm, 72, rfl⟩
abbrev main_c_9 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_11 : Ref sig .tc := ⟨.hbm, 100, rfl⟩
abbrev main_c_12 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_v66 : Ref sig .tc := ⟨.hbm, 107, rfl⟩
abbrev main_v67 : Ref sig .tc := ⟨.hbm, 108, rfl⟩
abbrev main_c_13 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_14 : Ref sig .tc := ⟨.hbm, 113, rfl⟩
abbrev main_v71 : Ref sig .tc := ⟨.hbm, 114, rfl⟩
abbrev main_v72 : Ref sig .tc := ⟨.hbm, 115, rfl⟩
abbrev main_c_15 : Ref sig .tc := ⟨.hbm, 116, rfl⟩
abbrev main_v73 : Ref sig .tc := ⟨.hbm, 117, rfl⟩
abbrev main_v74 : Ref sig .tc := ⟨.hbm, 118, rfl⟩
abbrev main_c_16 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_17 : Ref sig .tc := ⟨.hbm, 123, rfl⟩
abbrev main_v78 : Ref sig .tc := ⟨.hbm, 124, rfl⟩
abbrev main_v79 : Ref sig .tc := ⟨.hbm, 125, rfl⟩
abbrev main_c_18 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_v90 : Ref sig .tc := ⟨.hbm, 141, rfl⟩
abbrev main_v91 : Ref sig .tc := ⟨.hbm, 142, rfl⟩
abbrev main_c_19 : Ref sig .tc := ⟨.hbm, 143, rfl⟩
abbrev main_v92 : Ref sig .tc := ⟨.hbm, 144, rfl⟩
abbrev main_v93 : Ref sig .tc := ⟨.hbm, 145, rfl⟩
abbrev main_c_20 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_call5_c : Ref sig .tc := ⟨.hbm, 152, rfl⟩
abbrev main_call5_v0 : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_v5 : Ref sig .tc := ⟨.hbm, 159, rfl⟩
abbrev main_call5_c_1 : Ref sig .tc := ⟨.hbm, 160, rfl⟩
abbrev main_call5_c_2 : Ref sig .tc := ⟨.hbm, 161, rfl⟩
abbrev main_call5_v6 : Ref sig .tc := ⟨.hbm, 162, rfl⟩
abbrev main_call5_v7 : Ref sig .tc := ⟨.hbm, 163, rfl⟩
abbrev main_call5_v8 : Ref sig .tc := ⟨.hbm, 164, rfl⟩
abbrev main_call5_v9 : Ref sig .tc := ⟨.hbm, 165, rfl⟩
abbrev main_call5_v10 : Ref sig .tc := ⟨.hbm, 166, rfl⟩
abbrev main_call5_v11 : Ref sig .tc := ⟨.hbm, 167, rfl⟩
abbrev main_call5_c_3 : Ref sig .tc := ⟨.hbm, 168, rfl⟩
abbrev main_call5_v12 : Ref sig .tc := ⟨.hbm, 169, rfl⟩
abbrev main_call5_v13 : Ref sig .tc := ⟨.hbm, 170, rfl⟩
abbrev main_call5_v14 : Ref sig .tc := ⟨.hbm, 171, rfl⟩
abbrev main_call5_cst : Ref sig .tc := ⟨.hbm, 172, rfl⟩
abbrev main_call5_v15 : Ref sig .tc := ⟨.hbm, 173, rfl⟩
abbrev main_v99 : Ref sig .tc := ⟨.hbm, 174, rfl⟩
abbrev main_v100 : Ref sig .tc := ⟨.hbm, 175, rfl⟩
abbrev main_c_21 : Ref sig .tc := ⟨.hbm, 176, rfl⟩
abbrev main_v101 : Ref sig .tc := ⟨.hbm, 177, rfl⟩
abbrev main_v102 : Ref sig .tc := ⟨.hbm, 178, rfl⟩
abbrev main_c_22 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_call6_c : Ref sig .tc := ⟨.hbm, 185, rfl⟩
abbrev main_call6_v0 : Ref sig .tc := ⟨.hbm, 186, rfl⟩
abbrev main_call6_v1 : Ref sig .tc := ⟨.hbm, 187, rfl⟩
abbrev main_call6_c_0 : Ref sig .tc := ⟨.hbm, 188, rfl⟩
abbrev main_call6_v2 : Ref sig .tc := ⟨.hbm, 189, rfl⟩
abbrev main_call6_v3 : Ref sig .tc := ⟨.hbm, 190, rfl⟩
abbrev main_call6_v4 : Ref sig .tc := ⟨.hbm, 191, rfl⟩
abbrev main_call6_v5 : Ref sig .tc := ⟨.hbm, 192, rfl⟩
abbrev main_call6_c_1 : Ref sig .tc := ⟨.hbm, 193, rfl⟩
abbrev main_call6_c_2 : Ref sig .tc := ⟨.hbm, 194, rfl⟩
abbrev main_call6_v6 : Ref sig .tc := ⟨.hbm, 195, rfl⟩
abbrev main_call6_v7 : Ref sig .tc := ⟨.hbm, 196, rfl⟩
abbrev main_call6_v8 : Ref sig .tc := ⟨.hbm, 197, rfl⟩
abbrev main_call6_v9 : Ref sig .tc := ⟨.hbm, 198, rfl⟩
abbrev main_call6_v10 : Ref sig .tc := ⟨.hbm, 199, rfl⟩
abbrev main_call6_v11 : Ref sig .tc := ⟨.hbm, 200, rfl⟩
abbrev main_call6_c_3 : Ref sig .tc := ⟨.hbm, 201, rfl⟩
abbrev main_call6_v12 : Ref sig .tc := ⟨.hbm, 202, rfl⟩
abbrev main_call6_v13 : Ref sig .tc := ⟨.hbm, 203, rfl⟩
abbrev main_call6_v14 : Ref sig .tc := ⟨.hbm, 204, rfl⟩
abbrev main_call6_cst : Ref sig .tc := ⟨.hbm, 205, rfl⟩
abbrev main_call6_v15 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_cst_23 : Ref sig .tc := ⟨.hbm, 217, rfl⟩
abbrev main_v118 : Ref sig .tc := ⟨.hbm, 218, rfl⟩
abbrev main_cst_24 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_cst_25 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S16x1x1024 : Shape := ⟨3, ![16, 1, 1024]⟩
abbrev S1024x5120 : Shape := ⟨2, ![1024, 5120]⟩
abbrev S1x1024 : Shape := ⟨2, ![1, 1024]⟩
abbrev S16x2048x5120 : Shape := ⟨3, ![16, 2048, 5120]⟩
abbrev S1x1024x1024 : Shape := ⟨3, ![1, 1024, 1024]⟩
abbrev S1x1x1024 : Shape := ⟨3, ![1, 1, 1024]⟩
abbrev S1024x1280 : Shape := ⟨2, ![1024, 1280]⟩
abbrev S1x1024x1280 : Shape := ⟨3, ![1, 1024, 1280]⟩
abbrev S1024x1024 : Shape := ⟨2, ![1024, 1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5120, .f32⟩
  | .hbm, ⟨5, _⟩ => ⟨S1024x5120, .bf16⟩
  | .hbm, ⟨6, _⟩ => ⟨S1x1024, .f32⟩
  | .hbm, ⟨7, _⟩ => ⟨S16x2048x5120, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1280, .bf16⟩
  | .local _ .vmem, ⟨8, _⟩ => ⟨S1024x1280, .bf16⟩
  | .local _ .vmem, ⟨9, _⟩ => ⟨S1x1024x1280, .bf16⟩
  | .local _ .vmem, ⟨10, _⟩ => ⟨S1x1024x1280, .bf16⟩
  | .local _ .vmem, ⟨11, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S16x2048x1024 : Shape := ⟨3, ![16, 2048, 1024]⟩
abbrev S1024 : Shape := ⟨1, ![1024]⟩
abbrev S16x1x1024 : Shape := ⟨3, ![16, 1, 1024]⟩
abbrev S1024x5120 : Shape := ⟨2, ![1024, 5120]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5120 : Shape := ⟨3, ![16, 2048, 5120]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5120, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S_, .f32⟩
  | .hbm, ⟨22, _⟩ => ⟨S16x1x1024, .f32⟩
  | .hbm, ⟨23, _⟩ => ⟨S16x1x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x5120, .f32⟩
  | .hbm, ⟨29, _⟩ => ⟨S16x2048x5120, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel3.lean ====
abbrev S32768x1024 : Shape := ⟨2, ![32768, 1024]⟩
abbrev S32768 : Shape := ⟨1, ![32768]⟩
abbrev S32768x8 : Shape := ⟨2, ![32768, 8]⟩
abbrev S16x2048x1024 : Shape := ⟨3, ![16, 2048, 1024]⟩
abbrev S16x1x1024 : Shape := ⟨3, ![16, 1, 1024]⟩
abbrev S4x8x1024x256 : Shape := ⟨4, ![4, 8, 1024, 256]⟩
abbrev S4x8x256x1024 : Shape := ⟨4, ![4, 8, 256, 1024]⟩
abbrev S4 : Shape := ⟨1, ![4]⟩
abbrev S32768x1 : Shape := ⟨2, ![32768, 1]⟩
abbrev S1x4 : Shape := ⟨2, ![1, 4]⟩
abbrev S32768x4 : Shape := ⟨2, ![32768, 4]⟩
abbrev S_ : Shape := ⟨0, ![]⟩
abbrev S32768x4x1 : Shape := ⟨3, ![32768, 4, 1]⟩
abbrev S32768x1x8 : Shape := ⟨3, ![32768, 1, 8]⟩
abbrev S32768x4x8 : Shape := ⟨3, ![32768, 4, 8]⟩
abbrev S32768x32 : Shape := ⟨2, ![32768, 32]⟩
abbrev S1024x1024 : Shape := ⟨2, ![1024, 1024]⟩
abbrev S32x1024 : Shape := ⟨2, ![32, 1024]⟩
abbrev S32x1024x1 : Shape := ⟨3, ![32, 1024, 1]⟩
abbrev S32x1x1024 : Shape := ⟨3, ![32, 1, 1024]⟩
abbrev S32x1024x1024 : Shape := ⟨3, ![32, 1024, 1024]⟩
abbrev S1x1024x1024 : Shape := ⟨3, ![1, 1024, 1024]⟩
abbrev S32768x94 : Shape := ⟨2, ![32768, 94]⟩
abbrev S32768x128 : Shape := ⟨2, ![32768, 128]⟩
abbrev S4x2048x1024 : Shape := ⟨3, ![4, 2048, 1024]⟩
abbrev S4x1024x8x256 : Shape := ⟨4, ![4, 1024, 8, 256]⟩
abbrev S4x1024x2048 : Shape := ⟨3, ![4, 1024, 2048]⟩
abbrev S1024x32768 : Shape := ⟨2, ![1024, 32768]⟩
abbrev S1x1024x32768 : Shape := ⟨3, ![1, 1024, 32768]⟩
abbrev S1x32768x128 : Shape := ⟨3, ![1, 32768, 128]⟩
abbrev S128x32768 : Shape := ⟨2, ![128, 32768]⟩
abbrev S1x128x32768 : Shape := ⟨3, ![1, 128, 32768]⟩
abbrev S1x32768x1 : Shape := ⟨3, ![1, 32768, 1]⟩
abbrev S1x1x4 : Shape := ⟨3, ![1, 1, 4]⟩
abbrev S32x1024x4 : Shape := ⟨3, ![32, 1024, 4]⟩
abbrev S32x4 : Shape := ⟨2, ![32, 4]⟩
abbrev S128 : Shape := ⟨1, ![128]⟩
abbrev S1x32768x1024 : Shape := ⟨3, ![1, 32768, 1024]⟩
abbrev S1x1024x128 : Shape := ⟨3, ![1, 1024, 128]⟩
abbrev S1x128x1024 : Shape := ⟨3, ![1, 128, 1024]⟩
abbrev S1x1x1024 : Shape := ⟨3, ![1, 1, 1024]⟩
abbrev S1x2048x1024 : Shape := ⟨3, ![1, 2048, 1024]⟩
abbrev S1x1024x2048 : Shape := ⟨3, ![1, 1024, 2048]⟩
abbrev S1 : Shape := ⟨1, ![1]⟩
abbrev S1x1024x1 : Shape := ⟨3, ![1, 1024, 1]⟩
abbrev S1024x1 : Shape := ⟨2, ![1024, 1]⟩
abbrev S1x1024 : Shape := ⟨2, ![1, 1024]⟩
abbrev S1x8x1024 : Shape := ⟨3, ![1, 8, 1024]⟩
abbrev S8x1024 : Shape := ⟨2, ![8, 1024]⟩
abbrev S1024x256 : Shape := ⟨2, ![1024, 256]⟩
abbrev S256x1024 : Shape := ⟨2, ![256, 1024]⟩
abbrev S1x512x1024 : Shape := ⟨3, ![1, 512, 1024]⟩
abbrev S512x1024 : Shape := ⟨2, ![512, 1024]⟩
abbrev S512x256 : Shape := ⟨2, ![512, 256]⟩
abbrev S8x256 : Shape := ⟨2, ![8, 256]⟩
abbrev S1x256x1024 : Shape := ⟨3, ![1, 256, 1024]⟩
abbrev S256x256 : Shape := ⟨2, ![256, 256]⟩
abbrev S1x256 : Shape := ⟨2, ![1, 256]⟩
abbrev S1x1024x256 : Shape := ⟨3, ![1, 1024, 256]⟩

abbrev nBuf : Space → Nat
  | .hbm => 82
  | .vmem => 21
  | .smem => 1
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S32768x8, .f32⟩
  | .hbm, ⟨3, _⟩ => ⟨S16x2048x1024, .f32⟩
  | .hbm, ⟨4, _⟩ => ⟨S16x1x1024, .f32⟩
  | .hbm, ⟨5, _⟩ => ⟨S4x8x1024x256, .f32⟩
  | .hbm, ⟨6, _⟩ => ⟨S4x8x1024x256, .f32⟩
  | .hbm, ⟨7, _⟩ => ⟨S4x8x256x1024, .f32⟩
  | .hbm, ⟨8, _⟩ => ⟨S4, .i32⟩
  | .hbm, ⟨9, _⟩ => ⟨S32768x1, .i32⟩
  | .hbm, ⟨10, _⟩ => ⟨S1x4, .i32⟩
  | .hbm, ⟨11, _⟩ => ⟨S32768x4, .i32⟩
  | .hbm, ⟨12, _⟩ => ⟨S32768x4, .i32⟩
  | .hbm, ⟨13, _⟩ => ⟨S32768x4, .i1⟩
  | .hbm, ⟨14, _⟩ => ⟨S_, .f32⟩
  | .hbm, ⟨15, _⟩ => ⟨S32768x4, .f32⟩
  | .hbm, ⟨16, _⟩ => ⟨S_, .f32⟩
  | .hbm, ⟨17, _⟩ => ⟨S32768x4, .f32⟩
  | .hbm, ⟨18, _⟩ => ⟨S32768x4, .f32⟩
  | .hbm, ⟨19, _⟩ => ⟨S32768x4x1, .f32⟩
  | .hbm, ⟨20, _⟩ => ⟨S32768x1x8, .f32⟩
  | .hbm, ⟨21, _⟩ => ⟨S32768x4x8, .f32⟩
  | .hbm, ⟨22, _⟩ => ⟨S32768x4x8, .f32⟩
  | .hbm, ⟨23, _⟩ => ⟨S32768x4x8, .f32⟩
  | .hbm, ⟨24, _⟩ => ⟨S32768x32, .f32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S32x1024, .i32⟩
  | .hbm, ⟨29, _⟩ => ⟨S32x1024x1, .i32⟩
  | .hbm, ⟨30, _⟩ => ⟨S32x1x1024, .i32⟩
  | .hbm, ⟨31, _⟩ => ⟨S32x1024x1024, .i32⟩
  | .hbm, ⟨32, _⟩ => ⟨S32x1024x1024, .i32⟩
  | .hbm, ⟨33, _⟩ => ⟨S32x1024x1024, .i1⟩
  | .hbm, ⟨34, _⟩ => ⟨S1x1024x1024, .i1⟩
  | .hbm, ⟨35, _⟩ => ⟨S32x1024x1024, .i1⟩
  | .hbm, ⟨36, _⟩ => ⟨S32x1024x1024, .i1⟩
  | .hbm, ⟨37, _⟩ => ⟨S_, .f32⟩
  | .hbm, ⟨38, _⟩ => ⟨S32x1024x1024, .f32⟩
  | .hbm, ⟨39, _⟩ => ⟨S_, .f32⟩
  | .hbm, ⟨40, _⟩ => ⟨S32x1024x1024, .f32⟩
  | .hbm, ⟨41, _⟩ => ⟨S32x1024x1024, .f32⟩
  | .hbm, ⟨42, _⟩ => ⟨S_, .f32⟩
  | .hbm, ⟨43, _⟩ => ⟨S32x1024, .f32⟩
  | .hbm, ⟨44, _⟩ => ⟨S_, .f32⟩
  | .hbm, ⟨45, _⟩ => ⟨S32x1024, .f32⟩
  | .hbm, ⟨46, _⟩ => ⟨S32x1024, .f32⟩
  | .hbm, ⟨47, _⟩ => ⟨S32768, .f32⟩
  | .hbm, ⟨48, _⟩ => ⟨S32768, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x94, .f32⟩
  | .hbm, ⟨53, _⟩ => ⟨S32768x128, .f32⟩
  | .hbm, ⟨54, _⟩ => ⟨S4x8x1024x256, .bf16⟩
  | .hbm, ⟨55, _⟩ => ⟨S4x8x256x1024, .bf16⟩
  | .hbm, ⟨56, _⟩ => ⟨S4x2048x1024, .bf16⟩
  | .hbm, ⟨57, _⟩ => ⟨S4x8x1024x256, .bf16⟩
  | .hbm, ⟨58, _⟩ => ⟨S4x8x256x1024, .bf16⟩
  | .hbm, ⟨59, _⟩ => ⟨S4x2048x1024, .bf16⟩
  | .hbm, ⟨60, _⟩ => ⟨S4x8x256x1024, .bf16⟩
  | .hbm, ⟨61, _⟩ => ⟨S4x1024x8x256, .bf16⟩
  | .hbm, ⟨62, _⟩ => ⟨S4x1024x2048, .bf16⟩
  | .hbm, ⟨63, _⟩ => ⟨S1024x32768, .f32⟩
  | .hbm, ⟨64, _⟩ => ⟨S1024x32768, .bf16⟩
  | .hbm, ⟨65, _⟩ => ⟨S1x1024x32768, .bf16⟩
  | .hbm, ⟨66, _⟩ => ⟨S1x32768x128, .f32⟩
  | .hbm, ⟨67, _⟩ => ⟨S128x32768, .f32⟩
  | .hbm, ⟨68, _⟩ => ⟨S1x128x32768, .f32⟩
  | .hbm, ⟨69, _⟩ => ⟨S1x32768x1, .f32⟩
  | .hbm, ⟨70, _⟩ => ⟨S32768, .f32⟩
  | .hbm, ⟨71, _⟩ => ⟨S32x1024x1, .f32⟩
  | .hbm, ⟨72, _⟩ => ⟨S4, .f32⟩
  | .hbm, ⟨73, _⟩ => ⟨S1x1x4, .f32⟩
  | .hbm, ⟨74, _⟩ => ⟨S32x1024x4, .f32⟩
  | .hbm, ⟨75, _⟩ => ⟨S32x1024x4, .f32⟩
  | .hbm, ⟨76, _⟩ => ⟨S32x1024x4, .i1⟩
  | .hbm, ⟨77, _⟩ => ⟨S32x1024x4, .i32⟩
  | .hbm, ⟨78, _⟩ => ⟨S_, .i32⟩
  | .hbm, ⟨79, _⟩ => ⟨S32x4, .i32⟩
  | .hbm, ⟨80, _⟩ => ⟨S1x32768x1024, .f32⟩
  | .hbm, ⟨81, _⟩ => ⟨S1x32768x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x128, .f32⟩
  | .local _ .vmem, ⟨3, _⟩ => ⟨S1x1024x128, .f32⟩
  | .local _ .vmem, ⟨4, _⟩ => ⟨S1x128x1024, .f32⟩
  | .local _ .vmem, ⟨5, _⟩ => ⟨S1x128x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x1024x2048, .bf16⟩
  | .local _ .vmem, ⟨17, _⟩ => ⟨S1x1024x2048, .bf16⟩
  | .local _ .vmem, ⟨18, _⟩ => ⟨S1x1024x1024, .f32⟩
  | .local _ .vmem, ⟨19, _⟩ => ⟨S1x1024x1024, .f32⟩
  | .local _ .vmem, ⟨20, _⟩ => ⟨S1024x1024, .f32⟩
  | .local _ .smem, ⟨0, _⟩ => ⟨S128, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c : Ref sig .tc := ⟨.hbm, 78, rfl⟩
abbrev main_v63 : Ref sig .tc := ⟨.hbm, 79, rfl⟩
abbrev main_v65 : Ref sig .tc := ⟨.hbm, 80, rfl⟩
abbrev main_v66 : Ref sig .tc := ⟨.hbm, 81, rfl⟩
abbrev main_v64 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_v64.idx], fun | 0 => main_v64.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v3 : BitVec 32 := Scalar.muli arg0 c4_i32
  let arg1 : BitVec 32 := BitVec.ofNat 32 (i 1).val
  let v4 : BitVec 32 := Scalar.addi v3 arg1
  let v5 : Index := Scalar.indexCast v4
  ![v5.toNat]
def k0_mult1 (i : grid0.Coords) : BitVec 32 :=
  let arg1 : BitVec 32 := BitVec.ofNat 32 (i 1).val
  let c8_i32 : BitVec 32 := 8#32
  let v24 : BitVec 32 := Scalar.muli arg1 c8_i32
  v24
def k0_off2 (i : grid0.Coords) : Fin 3 → Nat :=
  let c0_11 : Index := 0#32
  let arg1 : BitVec 32 := BitVec.ofNat 32 (i 1).val
  let c8_i32 : BitVec 32 := 8#32
  let v24 : BitVec 32 := Scalar.muli arg1 c8_i32
  let v25 : BitVec 32 := v24
  let v26 : Index := Scalar.indexCast v25
  let c0_12 : Index := 0#32
  ![0, v26.toNat, 0]
@[reducible] def k0_t1_loop (v6 : BitVec 32) : Scf.Loop 32 :=
  let c0_i32_21 : BitVec 32 := 0#32
  let c256_i32 : BitVec 32 := 256#32
  let v37 : BitVec 32 := Scalar.addi v6 c256_i32
  let c1_i32 : BitVec 32 := 1#32
  let v38 : BitVec 32 := Scalar.subi v37 c1_i32
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c256_i32_13 : BitVec 32 := 256#32
  let c0_i32_16 : BitVec 32 := 0#32
  let v45 : BitVec 1 := Scalar.cmpi .sgt c256_i32_13 c0_i32_16
  let v46 : BitVec 32 := Scalar.extui v45
  let c0_i32_17 : BitVec 32 := 0#32
  let v47 : BitVec 1 := Scalar.cmpi .slt c256_i32_13 c0_i32_17
  let v48 : BitVec 32 := Scalar.extui v47
  let v49 : BitVec 32 := Scalar.subi v46 v48
  let v50 : BitVec 1 := Scalar.cmpi .ne v44 v49
  let v51 : BitVec 32 := Scalar.remsi v38 c256_i32_13
  let c0_i32_18 : BitVec 32 := 0#32
  let v52 : BitVec 1 := Scalar.cmpi .ne v51 c0_i32_18
  let v53 : BitVec 1 := Scalar.andi v50 v52
  let v39 : BitVec 32 := Scalar.divsi v38 c256_i32_13
  let c1_i32_19 : BitVec 32 := 1#32
  let v54 : BitVec 32 := Scalar.subi v39 c1_i32_19
  let v55 : BitVec 32 := Scalar.select v53 v54 v39
  let v56 : BitVec 32 := Scalar.subi v55 c0_i32_21
  let c1_i32_22 : BitVec 32 := 1#32
  let v58 : BitVec 32 := Scalar.divsi v56 c1_i32_22
  let v59 : BitVec 32 := Scalar.muli v58 c1_i32_22
  let v60 : BitVec 32 := Scalar.addi c0_i32_21 v59
  let c1_i32_23 : BitVec 32 := 1#32
  ⟨c0_i32_21, v60, c1_i32_23⟩

@[reducible] def k0_t2_loop (v6 : BitVec 32) : Scf.Loop 32 :=
  let c0_i32_21 : BitVec 32 := 0#32
  let c256_i32 : BitVec 32 := 256#32
  let v37 : BitVec 32 := Scalar.addi v6 c256_i32
  let c1_i32 : BitVec 32 := 1#32
  let v38 : BitVec 32 := Scalar.subi v37 c1_i32
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c256_i32_13 : BitVec 32 := 256#32
  let c0_i32_16 : BitVec 32 := 0#32
  let v45 : BitVec 1 := Scalar.cmpi .sgt c256_i32_13 c0_i32_16
  let v46 : BitVec 32 := Scalar.extui v45
  let c0_i32_17 : BitVec 32 := 0#32
  let v47 : BitVec 1 := Scalar.cmpi .slt c256_i32_13 c0_i32_17
  let v48 : BitVec 32 := Scalar.extui v47
  let v49 : BitVec 32 := Scalar.subi v46 v48
  let v50 : BitVec 1 := Scalar.cmpi .ne v44 v49
  let v51 : BitVec 32 := Scalar.remsi v38 c256_i32_13
  let c0_i32_18 : BitVec 32 := 0#32
  let v52 : BitVec 1 := Scalar.cmpi .ne v51 c0_i32_18
  let v53 : BitVec 1 := Scalar.andi v50 v52
  let v39 : BitVec 32 := Scalar.divsi v38 c256_i32_13
  let c1_i32_19 : BitVec 32 := 1#32
  let v54 : BitVec 32 := Scalar.subi v39 c1_i32_19
  let v55 : BitVec 32 := Scalar.select v53 v54 v39
  let v56 : BitVec 32 := Scalar.subi v55 c0_i32_21
  let c1_i32_22 : BitVec 32 := 1#32
  let v58 : BitVec 32 := Scalar.divsi v56 c1_i32_22
  let v59 : BitVec 32 := Scalar.muli v58 c1_i32_22
  let v60 : BitVec 32 := Scalar.addi c0_i32_21 v59
  let v57 : BitVec 32 := Scalar.addi c0_i32_21 v56
  let c1_i32_24 : BitVec 32 := 1#32
  ⟨v60, v57, c1_i32_24⟩

def k0_chk1 (v6 : BitVec 32) : Prop :=
  ((k0_t1_loop v6).OK) ∧
  ((k0_t2_loop v6).OK)
theorem k0_t1_ok : ∀ (v6 : BitVec 32) (k0_hw1 : k0_chk1 v6), (k0_t1_loop v6).OK := fun v6 k0_hw1 => k0_hw1.1
theorem k0_t2_ok : ∀ (v6 : BitVec 32) (k0_hw1 : k0_chk1 v6), (k0_t2_loop v6).OK := fun v6 k0_hw1 => k0_hw1.2

def k0_cond2 (i : grid0.Coords) : BitVec 1 :=
  let arg1 : BitVec 32 := BitVec.ofNat 32 (i 1).val
  let c3_i32 : BitVec 32 := 3#32
  let v61 : BitVec 1 := Scalar.cmpi .eq arg1 c3_i32
  let v62 : BitVec 32 := Scalar.extui v61
  let c0_i32_25 : BitVec 32 := 0#32
  let v63 : BitVec 1 := Scalar.cmpi .ne v62 c0_i32_25
  v63

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c15_i32 : BitVec 32 := 15#32
  let v19 : BitVec 32 := Scalar.minsi v18 c15_i32
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c15_i32 : BitVec 32 := 15#32
  let v19 : BitVec 32 := Scalar.minsi v18 c15_i32
  let c0_i32_5 : BitVec 32 := 0#32
  let c0_i32_6 : BitVec 32 := 0#32
  let c0_i32_7 : BitVec 32 := 0#32
  ![v19.toNat, c0_i32_5.toNat, c0_i32_6.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S32768x1024 : Shape := ⟨2, ![32768, 1024]⟩
abbrev S32768 : Shape := ⟨1, ![32768]⟩
abbrev S32768x8 : Shape := ⟨2, ![32768, 8]⟩
abbrev S16x2048x1024 : Shape := ⟨3, ![16, 2048, 1024]⟩
abbrev S16x1x1024 : Shape := ⟨3, ![16, 1, 1024]⟩
abbrev S4x8x1024x256 : Shape := ⟨4, ![4, 8, 1024, 256]⟩
abbrev S4x8x256x1024 : Shape := ⟨4, ![4, 8, 256, 1024]⟩
abbrev S32768x1 : Shape := ⟨2, ![32768, 1]⟩
abbrev S1x4 : Shape := ⟨2, ![1, 4]⟩
abbrev S32768x4 : Shape := ⟨2, ![32768, 4]⟩
abbrev S32768x4x1 : Shape := ⟨3, ![32768, 4, 1]⟩
abbrev S32768x1x8 : Shape := ⟨3, ![32768, 1, 8]⟩
abbrev S32768x4x8 : Shape := ⟨3, ![32768, 4, 8]⟩
abbrev S_ : Shape := ⟨0, ![]⟩
abbrev S1x8x1024x256 : Shape := ⟨4, ![1, 8, 1024, 256]⟩
abbrev S8x1024x256 : Shape := ⟨3, ![8, 1024, 256]⟩
abbrev S32768x8x256 : Shape := ⟨3, ![32768, 8, 256]⟩
abbrev S32768x8x1 : Shape := ⟨3, ![32768, 8, 1]⟩
abbrev S1x8x256x1024 : Shape := ⟨4, ![1, 8, 256, 1024]⟩
abbrev S8x256x1024 : Shape := ⟨3, ![8, 256, 1024]⟩
abbrev S1x32768x1024 : Shape := ⟨3, ![1, 32768, 1024]⟩

abbrev nBuf : Space → Nat
  | .hbm => 126
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S32768x8, .f32⟩
  | .hbm, ⟨3, _⟩ => ⟨S16x2048x1024, .f32⟩
  | .hbm, ⟨4, _⟩ => ⟨S16x1x1024, .f32⟩
  | .hbm, ⟨5, _⟩ => ⟨S4x8x1024x256, .f32⟩
  | .hbm, ⟨6, _⟩ => ⟨S4x8x1024x256, .f32⟩
  | .hbm, ⟨7, _⟩ => ⟨S4x8x256x1024, .f32⟩
  | .hbm, ⟨8, _⟩ => ⟨S32768x1, .i32⟩
  | .hbm, ⟨9, _⟩ => ⟨S1x4, .i32⟩
  | .hbm, ⟨10, _⟩ => ⟨S32768x4, .i32⟩
  | .hbm, ⟨11, _⟩ => ⟨S32768x4, .i32⟩
  | .hbm, ⟨12, _⟩ => ⟨S32768x4, .i1⟩
  | .hbm, ⟨13, _⟩ => ⟨S32768x4, .f32⟩
  | .hbm, ⟨14, _⟩ => ⟨S32768x4x1, .f32⟩
  | .hbm, ⟨15, _⟩ => ⟨S32768x1x8, .f32⟩
  | .hbm, ⟨16, _⟩ => ⟨S32768x4x8, .f32⟩
  | .hbm, ⟨17, _⟩ => ⟨S32768x4x8, .f32⟩
  | .hbm, ⟨18, _⟩ => ⟨S32768x4x8, .f32⟩
  | .hbm, ⟨19, _⟩ => ⟨S_, .f32⟩
  | .hbm, ⟨20, _⟩ => ⟨S32768x1024, .f32⟩
  | .hbm, ⟨21, _⟩ => ⟨S1x8x1024x256, .f32⟩
  | .hbm, ⟨22, _⟩ => ⟨S8x1024x256, .f32⟩
  | .hbm, ⟨23, _⟩ => ⟨S32768x8x256, .f32⟩
  | .hbm, ⟨24, _⟩ => ⟨S1x8x1024x256, .f32⟩
  | .hbm, ⟨25, _⟩ => ⟨S8x1024x256, .f32⟩
  | .hbm, ⟨26, _⟩ => ⟨S32768x8x256, .f32⟩
  | .hbm, ⟨27, _⟩ => ⟨S32768x8x256, .f32⟩
  | .hbm, ⟨28, _⟩ => ⟨S32768x8x256, .f32⟩
  | .hbm, ⟨29, _⟩ => ⟨S_, .f32⟩
  | .hbm, ⟨30, _⟩ => ⟨S32768x8x256, .f32⟩
  | .hbm, ⟨31, _⟩ => ⟨S32768x8x256, .f32⟩
  | .hbm, ⟨32, _⟩ => ⟨S_, .f32⟩
  | .hbm, ⟨33, _⟩ => ⟨S32768x8x256, .f32⟩
  | .hbm, ⟨34, _⟩ => ⟨S32768x8x256, .f32⟩
  | .hbm, ⟨35, _⟩ => ⟨S32768x8x256, .f32⟩
  | .hbm, ⟨36, _⟩ => ⟨S32768x8x256, .f32⟩
  | .hbm, ⟨37, _⟩ => ⟨S32768x1x8, .f32⟩
  | .hbm, ⟨38, _⟩ => ⟨S32768x8, .f32⟩
  | .hbm, ⟨39, _⟩ => ⟨S32768x8x1, .f32⟩
  | .hbm, ⟨40, _⟩ => ⟨S32768x8x256, .f32⟩
  | .hbm, ⟨41, _⟩ => ⟨S32768x8x256, .f32⟩
  | .hbm, ⟨42, _⟩ => ⟨S1x8x256x1024, .f32⟩
  | .hbm, ⟨43, _⟩ => ⟨S8x256x1024, .f32⟩
  | .hbm, ⟨44, _⟩ => ⟨S32768x1024, .f32⟩
  | .hbm, ⟨45, _⟩ => ⟨S32768x1024, .f32⟩
  | .hbm, ⟨46, _⟩ => ⟨S1x8x1024x256, .f32⟩
  | .hbm, ⟨47, _⟩ => ⟨S8x1024x256, .f32⟩
  | .hbm, ⟨48, _⟩ => ⟨S32768x8x256, .f32⟩
  | .hbm, ⟨49, _⟩ => ⟨S1x8x1024x256, .f32⟩
  | .hbm, ⟨50, _⟩ => ⟨S8x1024x256, .f32⟩
  | .hbm, ⟨51, _⟩ => ⟨S32768x8x256, .f32⟩
  | .hbm, ⟨52, _⟩ => ⟨S32768x8x256, .f32⟩
  | .hbm, ⟨53, _⟩ => ⟨S32768x8x256, .f32⟩
  | .hbm, ⟨54, _⟩ => ⟨S_, .f32⟩
  | .hbm, ⟨55, _⟩ => ⟨S32768x8x256, .f32⟩
  | .hbm, ⟨56, _⟩ => ⟨S32768x8x256, .f32⟩
  | .hbm, ⟨57, _⟩ => ⟨S_, .f32⟩
  | .hbm, ⟨58, _⟩ => ⟨S32768x8x256, .f32⟩
  | .hbm, ⟨59, _⟩ => ⟨S32768x8x256, .f32⟩
  | .hbm, ⟨60, _⟩ => ⟨S32768x8x256, .f32⟩
  | .hbm, ⟨61, _⟩ => ⟨S32768x8x256, .f32⟩
  | .hbm, ⟨62, _⟩ => ⟨S32768x1x8, .f32⟩
  | .hbm, ⟨63, _⟩ => ⟨S32768x8, .f32⟩
  | .hbm, ⟨64, _⟩ => ⟨S32768x8x1, .f32⟩
  | .hbm, ⟨65, _⟩ => ⟨S32768x8x256, .f32⟩
  | .hbm, ⟨66, _⟩ => ⟨S32768x8x256, .f32⟩
  | .hbm, ⟨67, _⟩ => ⟨S1x8x256x1024, .f32⟩
  | .hbm, ⟨68, _⟩ => ⟨S8x256x1024, .f32⟩
  | .hbm, ⟨69, _⟩ => ⟨S32768x1024, .f32⟩
  | .hbm, ⟨70, _⟩ => ⟨S32768x1024, .f32⟩
  | .hbm, ⟨71, _⟩ => ⟨S1x8x1024x256, .f32⟩
  | .hbm, ⟨72, _⟩ => ⟨S8x1024x256, .f32⟩
  | .hbm, ⟨73, _⟩ => ⟨S32768x8x256, .f32⟩
  | .hbm, ⟨74, _⟩ => ⟨S1x8x1024x256, .f32⟩
  | .hbm, ⟨75, _⟩ => ⟨S8x1024x256, .f32⟩
  | .hbm, ⟨76, _⟩ => ⟨S32768x8x256, .f32⟩
  | .hbm, ⟨77, _⟩ => ⟨S32768x8x256, .f32⟩
  | .hbm, ⟨78, _⟩ => ⟨S32768x8x256, .f32⟩
  | .hbm, ⟨79, _⟩ => ⟨S_, .f32⟩
  | .hbm, ⟨80, _⟩ => ⟨S32768x8x256, .f32⟩
  | .hbm, ⟨81, _⟩ => ⟨S32768x8x256, .f32⟩
  | .hbm, ⟨82, _⟩ => ⟨S_, .f32⟩
  | .hbm, ⟨83, _⟩ => ⟨S32768x8x256, .f32⟩
  | .hbm, ⟨84, _⟩ => ⟨S32768x8x256, .f32⟩
  | .hbm, ⟨85, _⟩ => ⟨S32768x8x256, .f32⟩
  | .hbm, ⟨86, _⟩ => ⟨S32768x8x256, .f32⟩
  | .hbm, ⟨87, _⟩ => ⟨S32768x1x8, .f32⟩
  | .hbm, ⟨88, _⟩ => ⟨S32768x8, .f32⟩
  | .hbm, ⟨89, _⟩ => ⟨S32768x8x1, .f32⟩
  | .hbm, ⟨90, _⟩ => ⟨S32768x8x256, .f32⟩
  | .hbm, ⟨91, _⟩ => ⟨S32768x8x256, .f32⟩
  | .hbm, ⟨92, _⟩ => ⟨S1x8x256x1024, .f32⟩
  | .hbm, ⟨93, _⟩ => ⟨S8x256x1024, .f32⟩
  | .hbm, ⟨94, _⟩ => ⟨S32768x1024, .f32⟩
  | .hbm, ⟨95, _⟩ => ⟨S32768x1024, .f32⟩
  | .hbm, ⟨96, _⟩ => ⟨S1x8x1024x256, .f32⟩
  | .hbm, ⟨97, _⟩ => ⟨S8x1024x256, .f32⟩
  | .hbm, ⟨98, _⟩ => ⟨S32768x8x256, .f32⟩
  | .hbm, ⟨99, _⟩ => ⟨S1x8x1024x256, .f32⟩
  | .hbm, ⟨100, _⟩ => ⟨S8x1024x256, .f32⟩
  | .hbm, ⟨101, _⟩ => ⟨S32768x8x256, .f32⟩
  | .hbm, ⟨102, _⟩ => ⟨S32768x8x256, .f32⟩
  | .hbm, ⟨103, _⟩ => ⟨S32768x8x256, .f32⟩
  | .hbm, ⟨104, _⟩ => ⟨S_, .f32⟩
  | .hbm, ⟨105, _⟩ => ⟨S32768x8x256, .f32⟩
  | .hbm, ⟨106, _⟩ => ⟨S32768x8x256, .f32⟩
  | .hbm, ⟨107, _⟩ => ⟨S_, .f32⟩
  | .hbm, ⟨108, _⟩ => ⟨S32768x8x256, .f32⟩
  | .hbm, ⟨109, _⟩ => ⟨S32768x8x256, .f32⟩
  | .hbm, ⟨110, _⟩ => ⟨S32768x8x256, .f32⟩
  | .hbm, ⟨111, _⟩ => ⟨S32768x8x256, .f32⟩
  | .hbm, ⟨112, _⟩ => ⟨S32768x1x8, .f32⟩
  | .hbm, ⟨113, _⟩ => ⟨S32768x8, .f32⟩
  | .hbm, ⟨114, _⟩ => ⟨S32768x8x1, .f32⟩
  | .hbm, ⟨115, _⟩ => ⟨S32768x8x256, .f32⟩
  | .hbm, ⟨116, _⟩ => ⟨S32768x8x256, .f32⟩
  | .hbm, ⟨117, _⟩ => ⟨S1x8x256x1024, .f32⟩
  | .hbm, ⟨118, _⟩ => ⟨S8x256x1024, .f32⟩
  | .hbm, ⟨119, _⟩ => ⟨S32768x1024, .f32⟩
  | .hbm, ⟨120, _⟩ => ⟨S32768x1024, .f32⟩
  | .hbm, ⟨121, _⟩ => ⟨S16x2048x1024, .f32⟩
  | .hbm, ⟨122, _⟩ => ⟨S16x2048x1024, .f32⟩
  | .hbm, ⟨123, _⟩ => ⟨S16x2048x1024, .f32⟩
  | .hbm, ⟨124, _⟩ => ⟨S16x2048x1024, .f32⟩
  | .hbm, ⟨125, _⟩ => ⟨S1x32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call4_v0 : Ref sig .tc := ⟨.hbm, 102, rfl⟩
abbrev main_call4_v1 : Ref sig .tc := ⟨.hbm, 103, rfl⟩
abbrev main_call4_cst : Ref sig .tc := ⟨.hbm, 104, rfl⟩
abbrev main_call4_v2 : Ref sig .tc := ⟨.hbm, 105, rfl⟩
abbrev main_call4_v3 : Ref sig .tc := ⟨.hbm, 106, rfl⟩
abbrev main_call4_cst_0 : Ref sig .tc := ⟨.hbm, 107, rfl⟩
abbrev main_call4_v4 : Ref sig .tc := ⟨.hbm, 108, rfl⟩
abbrev main_call4_v5 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩

abbrev nD : Nat := 1
abbrev τ : Topo := Topo.v7x

variable {F : FTy → Type} [FloatOps F]
-- ==== Proof.Block.lean ====
/- What one grid point of the attention kernel stores: the four heads of its 256 lanes as whole vectors. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Cert.KernelIdeal.Facts

variable {F : FTy → Type} [FloatOps F]

/-- Lane numbers of the query block. -/
def lanes : IVec S256x256 32 := iota .tc S256x256 32 [1] iota_S256x256_d1_w32

/-- The head a lane belongs to: its number divided by 64, rounded down. -/
def laneHead : IVec S256x256 32 :=
  select
    (andi
      (cmpi .ne
        (subi (extui 32 (cmpi .sgt lanes (broadcast S256x256 0#32)) natLt_1_32)
          (extui 32 (cmpi .slt lanes (broadcast S256x256 0#32)) natLt_1_32))
        (broadcast S256x256 (Scalar.subi (Scalar.extui (Scalar.cmpi .sgt 64#32 0#32)) (Scalar.extui (Scalar.cmpi .slt 64#32 0#32)))))
      (cmpi .ne (remsi lanes (broadcast S256x256 64#32)) (broadcast S256x256 0#32)))
    (subi (divsi lanes (broadcast S256x256 64#32)) (broadcast S256x256 1#32))
    (divsi lanes (broadcast S256x256 64#32))

/-- The lanes of head `h`. -/
def ofHead (h : BitVec 32) : IVec S256x256 1 := cmpi .eq laneHead (broadcast S256x256 h)

/-- The queries with every lane outside head `h` zeroed. -/
def headQ (h : BitVec 32) (q : Vec F S1x256x256 .bf16) : FVec F S256x256 .bf16 :=
  truncf .bf16 (select (ofHead h) (extf .f32 (shapeCast S256x256 q shapeCasts_S1x256x256_S256x256) bitsLt_bf16_f32)
    (broadcast S256x256 (Scalar.ofBits .f32 0x00000000#32 : F .f32))) bitsLt_bf16_f32

/-- Head `h`'s scores against the 768 latent keys of the block. -/
def scoreWin (h : BitVec 32) (q : Vec F S1x256x256 .bf16) (k : Vec F S1x768x256 .bf16) (b : Vec F S1x1x256x768 .f32) : FVec F S256x768 .f32 :=
  addf (matmul dot_S256x256_S768x256_S256x768_1_1_0_0_n_n none (headQ h q) (shapeCast S768x256 k shapeCasts_S1x768x256_S768x256)
    (constant S256x768 .f32 0x00000000#32)) (shapeCast S256x768 b shapeCasts_S1x1x256x768_S256x768)

/-- Head `h`'s scores against the 256 context keys. -/
def scoreCtx (h : BitVec 32) (q : Vec F S1x256x256 .bf16) (k : Vec F S1x256x256 .bf16) : FVec F S256x256 .f32 :=
  matmul dot_S256x256_S256x256_S256x256_1_1_0_0_n_n none (headQ h q) (shapeCast S256x256 k shapeCasts_S1x256x256_S256x256)
    (constant S256x256 .f32 0x00000000#32)

/-- Each query's largest score. -/
def smax (s : FVec F S256x768 .f32) (t : FVec F S256x256 .f32) : FVec F S256x1 .f32 :=
  maximumf (shapeCast S256x1 (multiReduction .maximumf [1] S256 s 0xFF800000#32 reduces_S256x768_S256 (.inl rfl) rfl) shapeCasts_S256_S256x1)
    (shapeCast S256x1 (multiReduction .maximumf [1] S256 t 0xFF800000#32 reduces_S256x256_S256 (.inl rfl) rfl) shapeCasts_S256_S256x1)

/-- The unnormalised weights of the latent keys. -/
def expWin (s : FVec F S256x768 .f32) (t : FVec F S256x256 .f32) : FVec F S256x768 .f32 :=
  exp (subf s (broadcastTo S256x768 (smax s t) broadcasts_S256x1_S256x768))

/-- The unnormalised weights of the context keys. -/
def expCtx (s : FVec F S256x768 .f32) (t : FVec F S256x256 .f32) : FVec F S256x256 .f32 :=
  exp (subf t (broadcastTo S256x256 (smax s t) broadcasts_S256x1_S256x256))

/-- The sum of a query's weights. -/
def expSum (s : FVec F S256x768 .f32) (t : FVec F S256x256 .f32) : FVec F S256x1 .f32 :=
  addf (addf (broadcast S256x1 (Scalar.ofBits .f32 0x00000000#32 : F .f32))
      (shapeCast S256x1 (multiReduction .add [1] S256 (expWin s t) 0x00000000#32 reduces_S256x768_S256 (.inl rfl) rfl) shapeCasts_S256_S256x1))
    (shapeCast S256x1 (multiReduction .add [1] S256 (expCtx s t) 0x00000000#32 reduces_S256x256_S256 (.inl rfl) rfl) shapeCasts_S256_S256x1)

/-- The weighted values over the sum of the weights. -/
def attend (s : FVec F S256x768 .f32) (t : FVec F S256x256 .f32) (v : Vec F S1x768x256 .bf16) (vc : Vec F S1x256x256 .bf16) : FVec F S256x256 .f32 :=
  divf
    (addf (addf (broadcast S256x256 (Scalar.ofBits .f32 0x00000000#32 : F .f32))
        (matmul dot_S256x768_S768x256_S256x256_1_0_0_1_n_n none (truncf .bf16 (expWin s t) bitsLt_bf16_f32)
          (shapeCast S768x256 v shapeCasts_S1x768x256_S768x256) (constant S256x256 .f32 0x00000000#32)))
      (matmul dot_S256x256_S256x256_S256x256_1_0_0_1_n_n none (truncf .bf16 (expCtx s t) bitsLt_bf16_f32)
        (shapeCast S256x256 vc shapeCasts_S1x256x256_S256x256) (constant S256x256 .f32 0x00000000#32)))
    (broadcastTo S256x256 (expSum s t) broadcasts_S256x1_S256x256)

/-- Head `h`'s output, on every lane. -/
def headOut (h : BitVec 32) (q qp : Vec F S1x256x256 .bf16) (k v : Vec F S1x768x256 .bf16) (kc vc : Vec F S1x256x256 .bf16)
    (b : Vec F S1x1x256x768 .f32) : FVec F S256x256 .f32 :=
  attend (scoreWin h q k b) (scoreCtx h qp kc) v vc

/-- What a point stores: on each lane the output of the lane's head. -/
def blockOut (q qp : Vec F S1x256x256 .bf16) (k v : Vec F S1x768x256 .bf16) (kc vc : Vec F S1x256x256 .bf16)
    (b0 b1 b2 b3 : Vec F S1x1x256x768 .f32) : Vec F S1x256x256 .bf16 :=
  shapeCast S1x256x256
    (truncf .bf16
      (select (ofHead 3#32) (headOut 3#32 q qp k v kc vc b3)
        (select (ofHead 2#32) (headOut 2#32 q qp k v kc vc b2)
          (select (ofHead 1#32) (headOut 1#32 q qp k v kc vc b1) (headOut 0#32 q qp k v kc vc b0)))) bitsLt_bf16_f32)
    shapeCasts_S256x256_S1x256x256

variable (m : (ℓ : Loc nD τ sig) → Buf (Elt F) ℓ) (ρ : Dev nD → PrngReg)

/-- The 768 rows of a whole-row block that point `t`'s queries look at. -/
abbrev rows768 (t : Fin cfg0.N) (x : Vec F S1x2048x256 .bf16) : Vec F S1x768x256 .bf16 :=
  View.ld x (Rect.unit (k0_off1 (grid0.coords t)) ![1, 768, 256] (k0_off1_inb (grid0.coords t)))

/-- What a point leaves in its output buffer is `blockOut` of the blocks it read. -/
theorem outs (c : Dev nD) (t : Fin cfg0.N) (y : S1x256x256.Idx) :
    outsAt0 m c t y = blockOut (iblk m c 0 t) (iblk m c 1 t) (rows768 t (iblk m c 2 t)) (rows768 t (iblk m c 3 t))
      (iblk m c 4 t) (iblk m c 5 t)
      (View.ld (iblk m c 6 t) (Rect.unit ![0, 0, 0, 0] ![1, 1, 256, 768] inb_S4x1x256x768_S1x1x256x768_0_0_0_0))
      (View.ld (iblk m c 6 t) (Rect.unit ![1, 0, 0, 0] ![1, 1, 256, 768] inb_S4x1x256x768_S1x1x256x768_1_0_0_0))
      (View.ld (iblk m c 6 t) (Rect.unit ![2, 0, 0, 0] ![1, 1, 256, 768] inb_S4x1x256x768_S1x1x256x768_2_0_0_0))
      (View.ld (iblk m c 6 t) (Rect.unit ![3, 0, 0, 0] ![1, 1, 256, 768] inb_S4x1x256x768_S1x1x256x768_3_0_0_0)) y := by
  unfold outsAt0
  frame_out
  rfl

end Cert.KernelIdeal.Block

end
-- ==== Proof.Softmax.lean ====
/- The softmax of a query over a window and a context, written with the weights normalised before or after the sum. -/
module

public import Idealize.ShloMosaic.Lib.Pointwise

@[expose] public section

noncomputable section

namespace Cert.Softmax

open Idealize.ShloMosaic

/-- The largest of a family, from minus infinity, is its supremum. -/
theorem fold_max {ι : Type} (s : Finset ι) (f : ι → EReal) : Finset.fold max ⊥ f s = s.sup f := rfl

/-- The bit pattern of minus infinity. -/
theorem negInf : Ideal.ofBits FTy.f32 4286578688#32 = ⊥ := by
  simp [Ideal.ofBits, Ideal.ieee]

/-- A finite factor that is not negative goes into a sum. -/
theorem mul_sum_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih]
    exact EReal.right_distrib_of_nonneg_of_ne_top (EReal.coe_nonneg.mpr hc) (EReal.coe_ne_top c) _ _

/-- A finite sum of real numbers is their sum as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a score below a real number is a real number that is not negative, positive where the score is real. -/
theorem exp_sub (x : EReal) (hx : x ≠ ⊤) (μ : ℝ) :
    ∃ p : ℝ, Ideal.exp (x - (μ : EReal)) = (p : EReal) ∧ 0 ≤ p ∧ (x ≠ ⊥ → 0 < p) ∧ (x = ⊥ → p = 0) := by
  induction x with
  | bot => exact ⟨0, by rw [EReal.bot_sub]; simp, le_refl _, fun h => absurd rfl h, fun _ => rfl⟩
  | top => exact absurd rfl hx
  | coe r =>
    refine ⟨Real.exp (r - μ), ?_, (Real.exp_pos _).le, fun _ => Real.exp_pos _, fun h => absurd h (EReal.coe_ne_bot r)⟩
    rw [← EReal.coe_sub, Ideal.exp_coe]

/-- A finite family of numbers that are not plus infinity has a supremum that is not plus infinity. -/
theorem sup_ne_top {ι : Type} (s : Finset ι) (f : ι → EReal) (h : ∀ i, f i ≠ ⊤) : s.sup f ≠ ⊤ := by
  have : s.sup f < ⊤ := (Finset.sup_lt_iff (by exact bot_lt_top)).mpr fun i _ => lt_top_iff_ne_top.mpr (h i)
  exact this.ne

section
variable {K I C : Type} [Fintype K] [Fintype I] [Fintype C] [Nonempty C]

/-- A family that is minus infinity off the image of a map has the supremum of its pullback. -/
theorem sup_image (S : K → EReal) (e : I → K) (hoff : ∀ k, k ∉ Set.range e → S k = ⊥) :
    Finset.univ.sup S = Finset.univ.sup fun i => S (e i) := by
  refine le_antisymm (Finset.sup_le fun k _ => ?_) (Finset.sup_le fun i _ => Finset.le_sup (f := S) (Finset.mem_univ (e i)))
  by_cases hk : k ∈ Set.range e
  · obtain ⟨i, rfl⟩ := hk
    exact Finset.le_sup (f := fun i => S (e i)) (Finset.mem_univ i)
  · rw [hoff k hk]; exact bot_le

/-- Scores `S` that are minus infinity off an injective image, scores `T` that are real: dividing the weighted sum of the values by the
    sum of the weights is summing the values with the divided weights over the image. -/
theorem divided (S : K → EReal) (T : C → EReal) (e : I → K) (he : Function.Injective e) (hoff : ∀ k, k ∉ Set.range e → S k = ⊥)
    (hS : ∀ k, S k ≠ ⊤) (hT : ∀ c, T c ≠ ⊤) (hT' : ∀ c, T c ≠ ⊥) (v : K → EReal) (vc : C → EReal) (M M' L L' : EReal)
    (hM : M = max (Finset.univ.sup S) (Finset.univ.sup T)) (hM' : M' = max (Finset.univ.sup fun i => S (e i)) (Finset.univ.sup T))
    (hL : L = ∑ k, Ideal.exp (S k - M) + ∑ c, Ideal.exp (T c - M)) (hL' : L' = ∑ i, Ideal.exp (S (e i) - M') + ∑ c, Ideal.exp (T c - M')) :
    Ideal.div (∑ k, Ideal.exp (S k - M) * v k + ∑ c, Ideal.exp (T c - M) * vc c) L
      = ∑ i, Ideal.div (Ideal.exp (S (e i) - M')) L' * v (e i) + ∑ c, Ideal.div (Ideal.exp (T c - M')) L' * vc c := by
  have hMM : M' = M := by rw [hM, hM', sup_image S e hoff]
  subst hMM
  obtain ⟨c0⟩ := ‹Nonempty C›
  have htop : M' ≠ ⊤ := by
    rw [hM]
    exact (max_lt (lt_top_iff_ne_top.mpr (sup_ne_top _ _ hS)) (lt_top_iff_ne_top.mpr (sup_ne_top _ _ hT))).ne
  have hbot : M' ≠ ⊥ := by
    rw [hM]
    intro h
    have h1 : T c0 ≤ max (Finset.univ.sup S) (Finset.univ.sup T) := le_max_of_le_right (Finset.le_sup (f := T) (Finset.mem_univ c0))
    rw [h] at h1
    exact hT' c0 (le_bot_iff.mp h1)
  obtain ⟨μ, rfl⟩ : ∃ μ : ℝ, M' = (μ : EReal) := ⟨M'.toReal, (EReal.coe_toReal htop hbot).symm⟩
  choose p hp hp0 hpp hpz using fun k => exp_sub (S k) (hS k) μ
  choose g hg hg0 hgp _ using fun c => exp_sub (T c) (hT c) μ
  have hz : ∀ k, k ∉ Set.range e → p k = 0 := fun k hk => hpz k (hoff k hk)
  have hL1 : L' = L := by
    rw [hL, hL']
    refine congrArg (· + _) (Fintype.sum_of_injective e he _ _ (fun k hk => ?_) fun i => rfl)
    rw [hp k, hz k hk]; rfl
  have hl : ∃ l : ℝ, L = (l : EReal) ∧ 0 < l := by
    refine ⟨∑ k, p k + ∑ c, g c, ?_, ?_⟩
    · rw [hL, EReal.coe_add, coe_sum, coe_sum]; simp only [hp, hg]
    · exact add_pos_of_nonneg_of_pos (Finset.sum_nonneg fun k _ => hp0 k)
        (Finset.sum_pos (fun c _ => hgp c (hT' c)) ⟨c0, Finset.mem_univ c0⟩)
  obtain ⟨l, hl, hlp⟩ := hl
  rw [hL1, hl]
  simp only [Ideal.div_coe hlp.ne', hp, hg]
  have hi : (0 : ℝ) ≤ 1 / l := by positivity
  rw [EReal.right_distrib_of_nonneg_of_ne_top (EReal.coe_nonneg.mpr hi) (EReal.coe_ne_top _), mul_sum_real _ _ _ hi, mul_sum_real _ _ _ hi]
  refine congrArg₂ (· + ·) ?_ (Finset.sum_congr rfl fun c _ => mul_right_comm _ _ _)
  refine (Fintype.sum_of_injective e he (fun i => (p (e i) : EReal) * ((1 / l : ℝ) : EReal) * v (e i))
    (fun k => (p k : EReal) * v k * ((1 / l : ℝ) : EReal)) (fun k hk => ?_) fun i => mul_right_comm (p (e i) : EReal) _ _).symm
  show (p k : EReal) * v k * ((1 / l : ℝ) : EReal) = 0
  rw [hz k hk]; simp

end

/-- The supremum over 512 entries is the larger of the suprema over the first 256, as 8 rows of 32, and the last 256. -/
theorem sup_512 (U : Fin 512 → EReal) :
    Finset.univ.sup U = max (Finset.univ.sup fun i : Fin 8 × Fin 32 => U ⟨i.1.val * 32 + i.2.val, by omega⟩)
      (Finset.univ.sup fun c : Fin 256 => U ⟨256 + c.val, by omega⟩) := by
  refine le_antisymm (Finset.sup_le fun x _ => ?_) (max_le (Finset.sup_le fun i _ => Finset.le_sup (f := U) (Finset.mem_univ _))
    (Finset.sup_le fun i _ => Finset.le_sup (f := U) (Finset.mem_univ _)))
  by_cases hx : x.val < 256
  · refine le_max_of_le_left ?_
    have := Finset.le_sup (f := fun i : Fin 8 × Fin 32 => U ⟨i.1.val * 32 + i.2.val, by omega⟩)
      (Finset.mem_univ ((⟨x.val / 32, by omega⟩, ⟨x.val % 32, by omega⟩) : Fin 8 × Fin 32))
    refine le_trans (le_of_eq (congrArg U (Fin.ext ?_))) this
    show x.val = x.val / 32 * 32 + x.val % 32
    omega
  · refine le_max_of_le_right ?_
    have := Finset.le_sup (f := fun c : Fin 256 => U ⟨256 + c.val, by omega⟩) (Finset.mem_univ (⟨x.val - 256, by omega⟩ : Fin 256))
    refine le_trans (le_of_eq (congrArg U (Fin.ext ?_))) this
    show x.val = 256 + (x.val - 256)
    omega

/-- A sum over 8 rows of 32 is a sum over 256. -/
theorem sum_pairs (f : Fin 8 → Fin 32 → EReal) (g : Fin 256 → EReal) (h : ∀ a κ, g ⟨a.val * 32 + κ.val, by omega⟩ = f a κ) :
    ∑ i : Fin 8 × Fin 32, f i.1 i.2 = ∑ x, g x := by
  rw [← (finProdFinEquiv : Fin 8 × Fin 32 ≃ Fin 256).sum_comp g]
  refine Finset.sum_congr rfl fun i _ => ?_
  rw [← h]
  refine congrArg g (Fin.ext ?_)
  show i.1.val * 32 + i.2.val = i.2.val + 32 * i.1.val
  omega

/-- A sum over 512 entries is the sum over 8 rows of 32 and over the last 256. -/
theorem sum_512 (U : Fin 512 → EReal) :
    ∑ x, U x = (∑ i : Fin 8 × Fin 32, U ⟨i.1.val * 32 + i.2.val, by omega⟩) + ∑ c : Fin 256, U ⟨256 + c.val, by omega⟩ := by
  rw [sum_pairs (fun a κ => U ⟨a.val * 32 + κ.val, by omega⟩) (fun x : Fin 256 => U ⟨x.val, by omega⟩) fun a κ => rfl]
  exact Fin.sum_univ_add (a := 256) (b := 256) U

/-- The attention of one query: window scores `S` over 768 keys that are minus infinity off the window, context scores `T`; the reference's
    scores `U` are the window's and then the context's. -/
theorem attention (S : Fin 768 → EReal) (T : Fin 256 → EReal) (U : Fin 512 → EReal) (e : Fin 8 × Fin 32 → Fin 768)
    (he : Function.Injective e) (hoff : ∀ k, k ∉ Set.range e → S k = ⊥) (hS : ∀ k, S k ≠ ⊤) (hT : ∀ c, T c ≠ ⊤) (hT' : ∀ c, T c ≠ ⊥)
    (hU : ∀ i, U ⟨i.1.val * 32 + i.2.val, by omega⟩ = S (e i)) (hV : ∀ c, U ⟨256 + c.val, by omega⟩ = T c)
    (v : Fin 768 → EReal) (vc : Fin 256 → EReal) :
    Ideal.div (∑ k, Ideal.exp (S k - max (Finset.fold max ⊥ S Finset.univ) (Finset.fold max ⊥ T Finset.univ)) * v k
        + ∑ c, Ideal.exp (T c - max (Finset.fold max ⊥ S Finset.univ) (Finset.fold max ⊥ T Finset.univ)) * vc c)
      (∑ k, Ideal.exp (S k - max (Finset.fold max ⊥ S Finset.univ) (Finset.fold max ⊥ T Finset.univ))
        + ∑ c, Ideal.exp (T c - max (Finset.fold max ⊥ S Finset.univ) (Finset.fold max ⊥ T Finset.univ)))
      = ∑ i : Fin 8 × Fin 32, Ideal.div (Ideal.exp (U ⟨i.1.val * 32 + i.2.val, by omega⟩ - max ⊥ (Finset.fold max ⊥ U Finset.univ)))
            (∑ x, Ideal.exp (U x - max ⊥ (Finset.fold max ⊥ U Finset.univ))) * v (e i)
        + ∑ c : Fin 256, Ideal.div (Ideal.exp (U ⟨256 + c.val, by omega⟩ - max ⊥ (Finset.fold max ⊥ U Finset.univ)))
            (∑ x, Ideal.exp (U x - max ⊥ (Finset.fold max ⊥ U Finset.univ))) * vc c := by
  have hM : max ⊥ (Finset.fold max ⊥ U Finset.univ) = max (Finset.univ.sup fun i => S (e i)) (Finset.univ.sup T) := by
    rw [max_eq_right bot_le, fold_max, sup_512]
    simp only [hU, hV]
  refine (divided S T e he hoff hS hT hT' v vc _ (max ⊥ (Finset.fold max ⊥ U Finset.univ)) _
    (∑ x, Ideal.exp (U x - max ⊥ (Finset.fold max ⊥ U Finset.univ))) rfl hM rfl ?_).trans ?_
  · rw [sum_512]
    simp only [hU, hV]
  · simp only [hU, hV]

/-- The softmax of scores `s` and `t` applied to values `v` and `vc`, the division last. -/
def softmaxPV (s : Fin 768 → EReal) (t : Fin 256 → EReal) (v : Fin 768 → EReal) (vc : Fin 256 → EReal) : EReal :=
  Ideal.div (∑ k, Ideal.exp (s k - max (Finset.fold max ⊥ s Finset.univ) (Finset.fold max ⊥ t Finset.univ)) * v k
      + ∑ c, Ideal.exp (t c - max (Finset.fold max ⊥ s Finset.univ) (Finset.fold max ⊥ t Finset.univ)) * vc c)
    (∑ k, Ideal.exp (s k - max (Finset.fold max ⊥ s Finset.univ) (Finset.fold max ⊥ t Finset.univ))
      + ∑ c, Ideal.exp (t c - max (Finset.fold max ⊥ s Finset.univ) (Finset.fold max ⊥ t Finset.univ)))

/-- The softmax of 512 scores, divided before the weights meet the values of the window's 8 rows of 32 and of the context. -/
def dividedPV (u : Fin 512 → EReal) (v : Fin 8 → Fin 32 → EReal) (vc : Fin 256 → EReal) : EReal :=
  ∑ a : Fin 8, ∑ κ : Fin 32, v a κ * Ideal.div (Ideal.exp (u ⟨a.val * 32 + κ.val, by omega⟩ - max ⊥ (Finset.fold max ⊥ u Finset.univ)))
      (∑ y, Ideal.exp (u y - max ⊥ (Finset.fold max ⊥ u Finset.univ)))
    + ∑ c : Fin 256, vc c * Ideal.div (Ideal.exp (u ⟨256 + c.val, by omega⟩ - max ⊥ (Finset.fold max ⊥ u Finset.univ)))
      (∑ y, Ideal.exp (u y - max ⊥ (Finset.fold max ⊥ u Finset.univ)))

/-- The two softmaxes agree where the 768 scores are the window's 256 at its keys and minus infinity elsewhere. -/
theorem softmaxPV_eq (S : Fin 768 → EReal) (T : Fin 256 → EReal) (U : Fin 512 → EReal) (e : Fin 8 × Fin 32 → Fin 768)
    (he : Function.Injective e) (hoff : ∀ k, k ∉ Set.range e → S k = ⊥) (hS : ∀ k, S k ≠ ⊤) (hT : ∀ c, T c ≠ ⊤) (hT' : ∀ c, T c ≠ ⊥)
    (hU : ∀ i, U ⟨i.1.val * 32 + i.2.val, by omega⟩ = S (e i)) (hV : ∀ c, U ⟨256 + c.val, by omega⟩ = T c)
    (v : Fin 768 → EReal) (vc : Fin 256 → EReal) :
    softmaxPV S T v vc = dividedPV U (fun a κ => v (e (a, κ))) vc := by
  unfold softmaxPV dividedPV
  rw [attention S T U e he hoff hS hT hT' hU hV v vc, Fintype.sum_prod_type]
  exact congrArg₂ (· + ·) (Finset.sum_congr rfl fun a _ => Finset.sum_congr rfl fun κ _ => mul_comm _ _)
    (Finset.sum_congr rfl fun c _ => mul_comm _ _)

end Cert.Softmax

end
-- ==== Proof.BlockValue.lean ====
/- The attention block's output at an index, over the extended reals. -/
module

public import proofs.«01_k».proof.Proof.Block
public import proofs.«01_k».proof.Proof.Softmax

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Idealize.ShloMosaic.Pointwise
open Cert.KernelIdeal.Facts Cert.Softmax

theorem lanes_apply (r l : Fin 256) : lanes (ix2 r l) = BitVec.ofNat 32 l.val := by
  unfold lanes
  pointwise

theorem ofHead_apply (h : Fin 4) (r l : Fin 256) :
    ofHead (BitVec.ofNat 32 h.val) (ix2 r l) = if l.val / 64 = h.val then 1#1 else 0#1 := by
  unfold ofHead laneHead
  pointwise [lanes_apply]
  clear r
  revert h l
  decide +kernel

theorem headQ_apply (h : Fin 4) (q : Vec Ideal S1x256x256 .bf16) (r l : Fin 256) :
    headQ (BitVec.ofNat 32 h.val) q (ix2 r l) = if l.val / 64 = h.val then q (ix3 0 r l) else (0 : EReal) := by
  unfold headQ
  pointwise [ofHead_apply]
  split <;> rfl

/-- A sum over 256 lanes of products whose first factor is zero off head `h` is the sum over the head's 64 lanes. -/
theorem sum_head (h : Fin 4) (f g : Fin 256 → EReal) :
    ∑ x : Fin 256, (if x.val / 64 = h.val then f x else 0) * g x = ∑ d : Fin 64, f ⟨h.val * 64 + d.val, by omega⟩ * g ⟨h.val * 64 + d.val, by omega⟩ := by
  refine (Fintype.sum_of_injective (fun d : Fin 64 => (⟨h.val * 64 + d.val, by omega⟩ : Fin 256)) (fun x y e => ?_) _ _ (fun x hx => ?_) fun d => ?_).symm
  · have := congrArg Fin.val e
    exact Fin.ext (by simpa using this)
  · rw [if_neg, zero_mul]
    intro e
    refine hx ⟨⟨x.val % 64, by omega⟩, Fin.ext ?_⟩
    show h.val * 64 + x.val % 64 = x.val
    omega
  · rw [if_pos]
    show (h.val * 64 + d.val) / 64 = h.val
    omega

theorem scoreWin_apply (h : Fin 4) (q : Vec Ideal S1x256x256 .bf16) (k : Vec Ideal S1x768x256 .bf16) (b : Vec Ideal S1x1x256x768 .f32)
    (r : Fin 256) (κ : Fin 768) :
    scoreWin (BitVec.ofNat 32 h.val) q k b (ix2 r κ) =
      (∑ d : Fin 64, q (ix3 0 r ⟨h.val * 64 + d.val, by omega⟩) * k (ix3 0 κ ⟨h.val * 64 + d.val, by omega⟩)) + b (ix4 0 0 r κ) := by
  unfold scoreWin
  pointwise [headQ_apply]
  exact congrArg (· + _) (sum_head h (fun x => q (ix3 0 r x)) fun x => k (ix3 0 κ x))

theorem scoreCtx_apply (h : Fin 4) (q : Vec Ideal S1x256x256 .bf16) (k : Vec Ideal S1x256x256 .bf16) (r κ : Fin 256) :
    scoreCtx (BitVec.ofNat 32 h.val) q k (ix2 r κ) =
      (∑ d : Fin 64, q (ix3 0 r ⟨h.val * 64 + d.val, by omega⟩) * k (ix3 0 κ ⟨h.val * 64 + d.val, by omega⟩) : EReal) := by
  unfold scoreCtx
  pointwise [headQ_apply]
  exact sum_head h (fun x => q (ix3 0 r x)) fun x => k (ix3 0 κ x)

theorem attend_apply (s : FVec Ideal S256x768 .f32) (t : FVec Ideal S256x256 .f32) (v : Vec Ideal S1x768x256 .bf16) (vc : Vec Ideal S1x256x256 .bf16) (r l : Fin 256) :
    attend s t v vc (ix2 r l) = softmaxPV (fun κ => s (ix2 r κ)) (fun c => t (ix2 r c)) (fun κ => v (ix3 0 κ l)) (fun c => vc (ix3 0 c l)) := by
  unfold attend expSum expCtx expWin smax softmaxPV
  pointwise
  simp only [Softmax.negInf]

/-- What a point stores at lane `l` is the output of head `l / 64` there. -/
theorem blockOut_apply (q qp : Vec Ideal S1x256x256 .bf16) (k v : Vec Ideal S1x768x256 .bf16) (kc vc : Vec Ideal S1x256x256 .bf16)
    (b : Fin 4 → Vec Ideal S1x1x256x768 .f32) (r l : Fin 256) (h : Fin 4) (hl : l.val / 64 = h.val) :
    blockOut q qp k v kc vc (b 0) (b 1) (b 2) (b 3) (ix3 0 r l) = softmaxPV
      (fun κ => (∑ d : Fin 64, q (ix3 0 r ⟨h.val * 64 + d.val, by omega⟩) * k (ix3 0 κ ⟨h.val * 64 + d.val, by omega⟩)) + b h (ix4 0 0 r κ))
      (fun c => ∑ d : Fin 64, qp (ix3 0 r ⟨h.val * 64 + d.val, by omega⟩) * kc (ix3 0 c ⟨h.val * 64 + d.val, by omega⟩))
      (fun κ => v (ix3 0 κ l)) (fun c => vc (ix3 0 c l)) := by
  have e : ∀ g : Fin 4, headOut (BitVec.ofNat 32 g.val) q qp k v kc vc (b g) (ix2 r l) = softmaxPV
      (fun κ => (∑ d : Fin 64, q (ix3 0 r ⟨g.val * 64 + d.val, by omega⟩) * k (ix3 0 κ ⟨g.val * 64 + d.val, by omega⟩)) + b g (ix4 0 0 r κ))
      (fun c => ∑ d : Fin 64, qp (ix3 0 r ⟨g.val * 64 + d.val, by omega⟩) * kc (ix3 0 c ⟨g.val * 64 + d.val, by omega⟩))
      (fun κ => v (ix3 0 κ l)) (fun c => vc (ix3 0 c l)) := by
    intro g
    unfold headOut
    rw [attend_apply]
    simp only [scoreWin_apply, scoreCtx_apply]
  have o : ∀ g : Fin 4, ofHead (BitVec.ofNat 32 g.val) (ix2 r l) = if h = g then 1#1 else 0#1 := by
    intro g
    rw [ofHead_apply, hl]
    simp only [Fin.ext_iff]
  have o1 := o 1; have o2 := o 2; have o3 := o 3
  rw [← e h]
  unfold blockOut
  pointwise
  change ofHead 1#32 (ix2 r l) = _ at o1
  change ofHead 2#32 (ix2 r l) = _ at o2
  change ofHead 3#32 (ix2 r l) = _ at o3
  rw [o1, o2, o3]
  clear o o1 o2 o3 e hl
  match h with
  | ⟨0, _⟩ => rfl
  | ⟨1, _⟩ => rfl
  | ⟨2, _⟩ => rfl
  | ⟨3, _⟩ => rfl

end Cert.KernelIdeal.Block

end
-- ==== Proof.RefTables.lean ====
/- The reference's integer tables at an index: the rows and columns of a query's window, the offsets into the bias, the window's mask. -/
module

public import proofs.«01_k».proof.Proof.Gen.ReferenceIdeal.Run
public import Idealize.ShloMosaic.Lib.Tactic.CleanTypes
public import Idealize.ShloMosaic.Lib.Pointwise

@[expose] public section

set_option maxRecDepth 16384

noncomputable section

namespace Cert.ReferenceIdeal.Tables

open Cert.ReferenceIdeal Cert.ReferenceIdeal.Gen Cert.ReferenceIdeal.Value Idealize.ShloMosaic Idealize.ShloMosaic.TcCoe Idealize.SL.Sem
open Idealize.ShloMosaic.Pointwise
open Cert.ReferenceIdeal.Facts

variable {F : FTy → Type} [FloatOps F] (V0 : Valuation τ sig (Elt F))

/-- The first row of the window of a query in row `r`. -/
def rowStart (r : ℕ) : ℕ := min 24 (r - 4)
/-- The first column of the band of columns that block `j` of 16 query columns looks at. -/
def bandStart (j : ℕ) : ℕ := min 32 (16 * j - 8)
/-- The first column of the window of a query in column `c`. -/
def colStart (c : ℕ) : ℕ := min 48 (c - 8)

theorem rowIdx (r : Fin 32) (a : Fin 8) : (res_main_v23 V0 : IVec S32x8 32) (ix2 r a) = BitVec.ofNat 32 (rowStart r.val + a.val) := by
  unfold res_main_v23 res_main_v14
  clean_types
  pointwise
  revert r a
  decide +kernel

theorem colIdx (j : Fin 4) (κ : Fin 32) : (res_main_v35 V0 : IVec S4x32 32) (ix2 j κ) = BitVec.ofNat 32 (bandStart j.val + κ.val) := by
  unfold res_main_v35 res_main_v24
  clean_types
  pointwise
  revert j κ
  decide +kernel

theorem qCol (j : Fin 4) (q : Fin 16) : (res_main_v43 V0 : IVec S4x16 32) (ix2 j q) = BitVec.ofNat 32 (16 * j.val + q.val) := by
  unfold res_main_v43 res_main_v24
  clean_types
  pointwise
  revert j q
  decide +kernel

theorem winCol (j : Fin 4) (q : Fin 16) : (res_main_v46 V0 : IVec S4x16 32) (ix2 j q) = BitVec.ofNat 32 (colStart (16 * j.val + q.val)) := by
  unfold res_main_v46
  clean_types
  pointwise [qCol V0]
  revert j q
  decide +kernel

/-- The table that gathers rows. -/
def rowTab : IVec S32x8x1 32 :=
  broadcastInDim S32x8x1 ![0, 1] bcast_S32x8_S32x8x1_0_1 (select (cmpi .slt (res_main_v23 V0) (broadcastInDim S32x8 ![] bcast_S_S32x8 (constantI S_ 32 0#32))) (addi (res_main_v23 V0) (broadcastInDim S32x8 ![] bcast_S_S32x8 (constantI S_ 32 32#32))) (res_main_v23 V0))

theorem rowTab_apply (r : Fin 32) (a : Fin 8) : rowTab V0 (ix3 r a 0) = BitVec.ofNat 32 (rowStart r.val + a.val) := by
  unfold rowTab
  clean_types
  pointwise [rowIdx V0]
  revert r a
  decide +kernel

theorem colTab_apply (j : Fin 4) (κ : Fin 32) (z : Fin 1) : (res_main_call5_v5 V0 : IVec S4x32x1 32) (ix3 j κ z) = BitVec.ofNat 32 (bandStart j.val + κ.val) := by
  obtain rfl : z = 0 := Subsingleton.elim _ _
  unfold res_main_call5_v5
  clean_types
  pointwise [colIdx V0]
  revert j κ
  decide +kernel

/-- The mask of columns inside the grid. -/
def colIn : IVec S4x32 1 :=
  Host.reduce IntOp.andi (andi (cmpi .sge (res_main_call5_v5 V0) (broadcastInDim S4x32x1 ![] bcast_S_S4x32x1 (constantI S_ 32 0#32))) (cmpi .sle (res_main_call5_v5 V0) (broadcastInDim S4x32x1 ![0, 1, 2] bcast_S1x1x1_S4x32x1_0_1_2 (broadcastInDim S1x1x1 ![2] bcast_S1_S1x1x1_2 (constantI S1 32 63#32))))) (constantI S_ 1 1#1) reducesTo_S4x32x1_S4x32_d2 h_S_

theorem colIn_apply (j : Fin 4) (κ : Fin 32) : colIn V0 (ix2 j κ) = 1#1 := by
  unfold colIn
  clean_types
  pointwise [colTab_apply V0]
  revert j κ
  decide +kernel

theorem rowOff_apply (r : Fin 32) (a : Fin 8) : (res_main_v69 V0 : IVec S32x1x1x8x1 32) (ix5 r 0 0 a 0) = BitVec.ofNat 32 (rowStart r.val + a.val + 7 - r.val) := by
  unfold res_main_v69 res_main_v14
  clean_types
  pointwise [rowIdx V0]
  revert r a
  decide +kernel

theorem colOff_apply (j : Fin 4) (q : Fin 16) (κ : Fin 32) : (res_main_v72 V0 : IVec S1x4x16x1x32 32) (ix5 0 j q 0 κ) = BitVec.ofNat 32 (min 30 (bandStart j.val + κ.val + 15 - (16 * j.val + q.val))) := by
  unfold res_main_v72 res_main_v47
  clean_types
  pointwise [colIdx V0, qCol V0]
  revert j q κ
  decide +kernel

/-- The pairs of offsets into the bias table. -/
def offTab : IVec S32x4x16x8x32x2 32 :=
  concatenate S32x4x16x8x32x2 5 [⟨S32x4x16x8x32x1, (broadcastInDim S32x4x16x8x32x1 ![0, 1, 2, 3, 4] bcast_S32x4x16x8x32_S32x4x16x8x32x1_0_1_2_3_4 (broadcastInDim S32x4x16x8x32 ![0, 1, 2, 3, 4] bcast_S32x1x1x8x1_S32x4x16x8x32_0_1_2_3_4 (select (cmpi .slt (res_main_v69 V0) (broadcastInDim S32x1x1x8x1 ![] bcast_S_S32x1x1x8x1 (constantI S_ 32 0#32))) (addi (res_main_v69 V0) (broadcastInDim S32x1x1x8x1 ![] bcast_S_S32x1x1x8x1 (constantI S_ 32 15#32))) (res_main_v69 V0))))⟩, ⟨S32x4x16x8x32x1, (broadcastInDim S32x4x16x8x32x1 ![0, 1, 2, 3, 4] bcast_S32x4x16x8x32_S32x4x16x8x32x1_0_1_2_3_4 (broadcastInDim S32x4x16x8x32 ![0, 1, 2, 3, 4] bcast_S1x4x16x1x32_S32x4x16x8x32_0_1_2_3_4 (select (cmpi .slt (res_main_v72 V0) (broadcastInDim S1x4x16x1x32 ![] bcast_S_S1x4x16x1x32 (constantI S_ 32 0#32))) (addi (res_main_v72 V0) (broadcastInDim S1x4x16x1x32 ![] bcast_S_S1x4x16x1x32 (constantI S_ 32 31#32))) (res_main_v72 V0))))⟩] concatenates_S32x4x16x8x32x1_S32x4x16x8x32x1_S32x4x16x8x32x2_d5

theorem offTab_row (r : Fin 32) (j : Fin 4) (q : Fin 16) (a : Fin 8) (κ : Fin 32) :
    offTab V0 (ix6 r j q a κ 0) = BitVec.ofNat 32 (rowStart r.val + a.val + 7 - r.val) := by
  unfold offTab
  clean_types
  pointwise [rowOff_apply V0]
  clear j q κ
  revert r a
  decide +kernel

theorem offTab_col (r : Fin 32) (j : Fin 4) (q : Fin 16) (a : Fin 8) (κ : Fin 32) :
    offTab V0 (ix6 r j q a κ 1) = BitVec.ofNat 32 (min 30 (bandStart j.val + κ.val + 15 - (16 * j.val + q.val))) := by
  unfold offTab
  clean_types
  pointwise [colOff_apply V0]
  clear r a
  revert j q κ
  decide +kernel

/-- The window's mask on the columns of a band. -/
def winMask : IVec S4x16x32 1 :=
  andi (cmpi .sge (broadcastInDim S4x16x32 ![0, 1, 2] bcast_S4x1x32_S4x16x32_0_1_2 (res_main_v47 V0)) (broadcastInDim S4x16x32 ![0, 1, 2] bcast_S4x16x1_S4x16x32_0_1_2 (broadcastInDim S4x16x1 ![0, 1] bcast_S4x16_S4x16x1_0_1 (res_main_v46 V0)))) (cmpi .slt (broadcastInDim S4x16x32 ![0, 1, 2] bcast_S4x1x32_S4x16x32_0_1_2 (res_main_v47 V0)) (broadcastInDim S4x16x32 ![0, 1, 2] bcast_S4x16x1_S4x16x32_0_1_2 (addi (broadcastInDim S4x16x1 ![0, 1] bcast_S4x16_S4x16x1_0_1 (res_main_v46 V0)) (broadcastInDim S4x16x1 ![] bcast_S_S4x16x1 (constantI S_ 32 16#32)))))

theorem winMask_apply (j : Fin 4) (q : Fin 16) (κ : Fin 32) :
    winMask V0 (ix3 j q κ) = if colStart (16 * j.val + q.val) ≤ bandStart j.val + κ.val ∧ bandStart j.val + κ.val < colStart (16 * j.val + q.val) + 16 then 1#1 else 0#1 := by
  unfold winMask res_main_v47
  clean_types
  pointwise [colIdx V0, winCol V0]
  revert j q κ
  decide +kernel

end Cert.ReferenceIdeal.Tables

end
-- ==== Proof.BiasHead.lean ====
/- The two inputs of the masked table: the table widened at both ends and the mask of the columns in a query's window. -/
module

public import proofs.«01_k».proof.Proof.Gen.KernelIdeal.Value
public import Idealize.ShloMosaic.Lib.StableHlo.ReadAt
public import Idealize.ShloMosaic.Lib.Pointwise
public import proofs.«01_k».proof.Proof.RefTables

@[expose] public section

set_option maxRecDepth 16384

noncomputable section

namespace Cert.KernelIdeal.Bias

open Cert.KernelIdeal Cert.KernelIdeal.Gen Idealize.ShloMosaic Idealize.ShloMosaic.TcCoe Idealize.SL.Sem
open Idealize.ShloMosaic.Pointwise
open Cert.KernelIdeal.Facts

open Cert.ReferenceIdeal.Tables (colStart)

variable (W : Valuation τ sig (Elt Ideal))

/-- The host operations that widen the table by no head at either end. -/
abbrev headsOps : List (HloOp τ sig (Elt Ideal)) := List.take 17 hostOps0_2
/-- The host operations that widen the table by no relative row at either end. -/
abbrev rowsOps : List (HloOp τ sig (Elt Ideal)) := List.take 7 (List.drop 17 hostOps0_2)
/-- The host operations that widen the table by 48 columns at either end. -/
abbrev colsOps : List (HloOp τ sig (Elt Ideal)) := List.take 7 (List.drop 24 hostOps0_2)

/-- Widening by nothing leaves the table. -/
theorem heads_at (h : Fin 8) (a : Fin 15) (x : Fin 31) :
    (StableHlo.after headsOps W (Proc.devRef .tc main_v22) : S8x15x31.Idx → EReal) (ix3 h a x)
      = (W (Proc.devRef .tc main_arg6) : S8x15x31.Idx → EReal) (ix3 h a x) := by
  after_reads_at
  exact dif_neg (Nat.not_lt_zero _)

/-- Widening by nothing leaves the table. -/
theorem rows_at (h : Fin 8) (a : Fin 15) (x : Fin 31) :
    (StableHlo.after rowsOps W (Proc.devRef .tc main_v29) : S8x15x31.Idx → EReal) (ix3 h a x)
      = (W (Proc.devRef .tc main_v22) : S8x15x31.Idx → EReal) (ix3 h a x) := by
  after_reads_at
  exact dif_neg (Nat.not_lt_zero _)

/-- Two reads of the table at equal columns. -/
theorem narrow_congr {h : Fin 8} {a : Fin 15} {x x' : Fin 31} (hx : x.val = x'.val) :
    (W (Proc.devRef .tc main_v29) : S8x15x31.Idx → EReal) (ix3 h a x) = (W (Proc.devRef .tc main_v29) : S8x15x31.Idx → EReal) (ix3 h a x') := by
  rw [Fin.ext hx]

/-- The widened table at an index: the table's nearest column. -/
theorem cols_at (h : Fin 8) (a : Fin 15) (x : Fin 127) :
    (StableHlo.after colsOps W (Proc.devRef .tc main_v36) : S8x15x127.Idx → EReal) (ix3 h a x)
      = (W (Proc.devRef .tc main_v29) : S8x15x31.Idx → EReal) (ix3 h a ⟨min 30 (x.val - 48), by omega⟩) := by
  after_reads_at
  split
  · after_reads_at
    exact narrow_congr W (by dsimp; omega)
  · split
    · exact narrow_congr W (by dsimp only; omega)
    · after_reads_at
      exact narrow_congr W (by dsimp; omega)

/-- The host operations up to the mask. -/
abbrev maskOps : List (HloOp τ sig (Elt Ideal)) := List.flatten [hostOps0, hostOps0_1, hostOps0_2]

/-- The mask at an index: whether the key's column lies in the window of the query's column. -/
theorem mask_at (c k : Fin 64) :
    (StableHlo.after maskOps W (Proc.devRef .tc main_v170) : S1x1x64x64.Idx → BitVec 1) (ix4 0 0 c k)
      = if colStart c.val ≤ k.val ∧ k.val < colStart c.val + 16 then 1#1 else 0#1 := by
  after_reads_at
  revert c k
  decide +kernel

end Cert.KernelIdeal.Bias

end
-- ==== Proof.BiasTable.lean ====
/- The bias of every query column: a window of the widened table, slid by one column per query column. -/
module

public import proofs.«01_k».proof.Proof.Gen.KernelIdeal.Value
public import Idealize.ShloMosaic.Lib.StableHlo.ReadAt
public import Idealize.ShloMosaic.Lib.Pointwise

@[expose] public section

set_option maxRecDepth 16384

noncomputable section

namespace Cert.KernelIdeal.Bias

open Cert.KernelIdeal Cert.KernelIdeal.Gen Idealize.ShloMosaic Idealize.ShloMosaic.TcCoe Idealize.SL.Sem
open Idealize.ShloMosaic.Pointwise
open Cert.KernelIdeal.Facts

variable (W : Valuation τ sig (Elt Ideal))

/-- The host operations from the widened table on: its slices, one per query column, and their stack. -/
abbrev stripOps : List (HloOp τ sig (Elt Ideal)) := List.drop 31 hostOps0_2

/-- The table widened to 127 columns on both sides. -/
abbrev wideTable : S8x15x127.Idx → EReal := W (Proc.devRef .tc main_v36)

/-- Sixteen strips stacked: an index of the stack reads the strip that its third coordinate names. -/
theorem strips_apply (x : Fin 16 → S8x15x1x64.Idx → EReal) (hc) (h : Fin 8) (a : Fin 15) (r : Fin 16) (k : Fin 64) :
    concatenate S8x15x16x64 2 [⟨S8x15x1x64, x 0⟩, ⟨S8x15x1x64, x 1⟩, ⟨S8x15x1x64, x 2⟩, ⟨S8x15x1x64, x 3⟩, ⟨S8x15x1x64, x 4⟩, ⟨S8x15x1x64, x 5⟩, ⟨S8x15x1x64, x 6⟩, ⟨S8x15x1x64, x 7⟩, ⟨S8x15x1x64, x 8⟩, ⟨S8x15x1x64, x 9⟩, ⟨S8x15x1x64, x 10⟩, ⟨S8x15x1x64, x 11⟩, ⟨S8x15x1x64, x 12⟩, ⟨S8x15x1x64, x 13⟩, ⟨S8x15x1x64, x 14⟩, ⟨S8x15x1x64, x 15⟩] hc (ix4 h a r k) = x r (ix4 h a 0 k) := by
  obtain ⟨r, hr⟩ := r
  interval_cases r
  all_goals pointwise

/-- Two reads of the widened table at equal columns. -/
theorem wide_congr {h : Fin 8} {a : Fin 15} {x x' : Fin 127} (hx : x.val = x'.val) :
    wideTable W (ix3 h a x) = wideTable W (ix3 h a x') := by
  rw [Fin.ext hx]

/-- One strip at an index: the widened table so many columns on. -/
theorem strip_apply (v : S8x15x127.Idx → EReal) (o : ℕ) (ho : o ≤ 63) (hs) (h : Fin 8) (a : Fin 15) (k : Fin 64) :
    broadcastInDim S8x15x1x64 ![0, 1, 3] bcast_S8x15x64_S8x15x1x64_0_1_3
        (extractStridedSlice S8x15x64 ![0, 0, o] v hs) (ix4 h a 0 k)
      = v (ix3 h a ⟨o + k.val, by omega⟩) := by
  pointwise

set_option maxHeartbeats 4000000 in
/-- Query columns 0 to 15: the widened table read so many columns before the end of its window. -/
theorem strips0 (h : Fin 8) (a : Fin 15) (r : Fin 16) (k : Fin 64) :
    (StableHlo.upto stripOps W 132 (Proc.devRef .tc main_v165) : S8x15x16x64.Idx → EReal) (ix4 h a r k)
      = wideTable W (ix3 h a ⟨63 - (0 + r.val) + k.val, by omega⟩) := by
  after_reads_simp
  simp only [Matrix.cons_val]
  after_reads_simp
  refine (strips_apply ![_, _, _, _, _, _, _, _, _, _, _, _, _, _, _, _] _ h a r k).trans ?_
  obtain ⟨r, hr⟩ := r
  interval_cases r
  all_goals
    simp only [Matrix.cons_val]
    refine (strip_apply _ _ (by omega) (by decide) h a k).trans ?_
    exact wide_congr W (by dsimp only)

set_option maxHeartbeats 4000000 in
/-- Query columns 16 to 31: the widened table read so many columns before the end of its window. -/
theorem strips1 (h : Fin 8) (a : Fin 15) (r : Fin 16) (k : Fin 64) :
    (StableHlo.upto stripOps W 132 (Proc.devRef .tc main_v166) : S8x15x16x64.Idx → EReal) (ix4 h a r k)
      = wideTable W (ix3 h a ⟨63 - (16 + r.val) + k.val, by omega⟩) := by
  after_reads_simp
  simp only [Matrix.cons_val]
  after_reads_simp
  refine (strips_apply ![_, _, _, _, _, _, _, _, _, _, _, _, _, _, _, _] _ h a r k).trans ?_
  obtain ⟨r, hr⟩ := r
  interval_cases r
  all_goals
    simp only [Matrix.cons_val]
    refine (strip_apply _ _ (by omega) (by decide) h a k).trans ?_
    exact wide_congr W (by dsimp only)

set_option maxHeartbeats 4000000 in
/-- Query columns 32 to 47: the widened table read so many columns before the end of its window. -/
theorem strips2 (h : Fin 8) (a : Fin 15) (r : Fin 16) (k : Fin 64) :
    (StableHlo.upto stripOps W 132 (Proc.devRef .tc main_v167) : S8x15x16x64.Idx → EReal) (ix4 h a r k)
      = wideTable W (ix3 h a ⟨63 - (32 + r.val) + k.val, by omega⟩) := by
  after_reads_simp
  simp only [Matrix.cons_val]
  after_reads_simp
  refine (strips_apply ![_, _, _, _, _, _, _, _, _, _, _, _, _, _, _, _] _ h a r k).trans ?_
  obtain ⟨r, hr⟩ := r
  interval_cases r
  all_goals
    simp only [Matrix.cons_val]
    refine (strip_apply _ _ (by omega) (by decide) h a k).trans ?_
    exact wide_congr W (by dsimp only)

set_option maxHeartbeats 4000000 in
/-- Query columns 48 to 63: the widened table read so many columns before the end of its window. -/
theorem strips3 (h : Fin 8) (a : Fin 15) (r : Fin 16) (k : Fin 64) :
    (StableHlo.upto stripOps W 132 (Proc.devRef .tc main_v168) : S8x15x16x64.Idx → EReal) (ix4 h a r k)
      = wideTable W (ix3 h a ⟨63 - (48 + r.val) + k.val, by omega⟩) := by
  after_reads_simp
  simp only [Matrix.cons_val]
  after_reads_simp
  refine (strips_apply ![_, _, _, _, _, _, _, _, _, _, _, _, _, _, _, _] _ h a r k).trans ?_
  obtain ⟨r, hr⟩ := r
  interval_cases r
  all_goals
    simp only [Matrix.cons_val]
    refine (strip_apply _ _ (by omega) (by decide) h a k).trans ?_
    exact wide_congr W (by dsimp only)

/-- The stack of the sixty-four strips at an index. -/
theorem table_at (h : Fin 8) (a : Fin 15) (c k : Fin 64) :
    (StableHlo.after stripOps W (Proc.devRef .tc main_v169) : S8x15x64x64.Idx → EReal) (ix4 h a c k)
      = wideTable W (ix3 h a ⟨63 - c.val + k.val, by omega⟩) := by
  after_reads_at
  split
  · rename_i h0
    refine Eq.trans ?_ ((strips0 W h a ⟨c.val, h0⟩ k).trans ?_)
    · after_reads_simp
    · exact wide_congr W (by dsimp only; omega)
  · split
    · rename_i h0 h1
      refine Eq.trans ?_ ((strips1 W h a ⟨c.val - 16, h1⟩ k).trans ?_)
      · after_reads_simp
      · exact wide_congr W (by dsimp only; omega)
    · split
      · rename_i h0 h1 h2
        refine Eq.trans ?_ ((strips2 W h a ⟨c.val - 16 - 16, h2⟩ k).trans ?_)
        · after_reads_simp
        · exact wide_congr W (by dsimp only; omega)
      · rename_i h0 h1 h2
        refine Eq.trans ?_ ((strips3 W h a ⟨c.val - 16 - 16 - 16, by omega⟩ k).trans ?_)
        · after_reads_simp
        · exact wide_congr W (by dsimp only; omega)

end Cert.KernelIdeal.Bias

end
-- ==== Proof.BiasRows.lean ====
/- The stack of the bias rows: the last host operations, which put the thirty-two query rows' arrays together. -/
module

public import proofs.«01_k».proof.Proof.Gen.KernelIdeal.Value
public import Idealize.ShloMosaic.Lib.StableHlo.ReadAt
public import Idealize.ShloMosaic.Lib.Pointwise

@[expose] public section

set_option maxRecDepth 16384

noncomputable section

namespace Cert.KernelIdeal.Bias

open Cert.KernelIdeal Cert.KernelIdeal.Gen Idealize.ShloMosaic Idealize.ShloMosaic.TcCoe Idealize.SL.Sem
open Idealize.ShloMosaic.Pointwise
open Cert.KernelIdeal.Facts

variable (W : Valuation τ sig (Elt Ideal))

/-- The array of one query row: its bias for every head, column and key of the twelve rows. -/
abbrev RowArr := S8x64x768.Idx → EReal

/-- The thirty-two row arrays before they are stacked. -/
def rowArr : Fin 32 → RowArr := ![
  W (Proc.devRef .tc main_v175), W (Proc.devRef .tc main_v177), W (Proc.devRef .tc main_v179), W (Proc.devRef .tc main_v181),
  W (Proc.devRef .tc main_v183), W (Proc.devRef .tc main_v185), W (Proc.devRef .tc main_v187), W (Proc.devRef .tc main_v189),
  W (Proc.devRef .tc main_v191), W (Proc.devRef .tc main_v193), W (Proc.devRef .tc main_v195), W (Proc.devRef .tc main_v197),
  W (Proc.devRef .tc main_v199), W (Proc.devRef .tc main_v201), W (Proc.devRef .tc main_v203), W (Proc.devRef .tc main_v205),
  W (Proc.devRef .tc main_v207), W (Proc.devRef .tc main_v209), W (Proc.devRef .tc main_v211), W (Proc.devRef .tc main_v213),
  W (Proc.devRef .tc main_v215), W (Proc.devRef .tc main_v217), W (Proc.devRef .tc main_v219), W (Proc.devRef .tc main_v221),
  W (Proc.devRef .tc main_v223), W (Proc.devRef .tc main_v225), W (Proc.devRef .tc main_v227), W (Proc.devRef .tc main_v229),
  W (Proc.devRef .tc main_v231), W (Proc.devRef .tc main_v233), W (Proc.devRef .tc main_v235), W (Proc.devRef .tc main_v237)]

/-- Sixteen rows stacked: an index of the stack reads the row that its second coordinate names. -/
theorem stack_apply (x : Fin 16 → S8x1x64x768.Idx → EReal) (hc) (h : Fin 8) (r : Fin 16) (c : Fin 64) (k : Fin 768) :
    concatenate S8x16x64x768 1 [⟨S8x1x64x768, x 0⟩, ⟨S8x1x64x768, x 1⟩, ⟨S8x1x64x768, x 2⟩, ⟨S8x1x64x768, x 3⟩, ⟨S8x1x64x768, x 4⟩, ⟨S8x1x64x768, x 5⟩, ⟨S8x1x64x768, x 6⟩, ⟨S8x1x64x768, x 7⟩, ⟨S8x1x64x768, x 8⟩, ⟨S8x1x64x768, x 9⟩, ⟨S8x1x64x768, x 10⟩, ⟨S8x1x64x768, x 11⟩, ⟨S8x1x64x768, x 12⟩, ⟨S8x1x64x768, x 13⟩, ⟨S8x1x64x768, x 14⟩, ⟨S8x1x64x768, x 15⟩] hc (ix4 h r c k) = x r (ix4 h 0 c k) := by
  obtain ⟨r, hr⟩ := r
  interval_cases r
  all_goals pointwise

/-- The first half of the stack, read at an index. -/
theorem first_half (h : Fin 8) (r : Fin 16) (c : Fin 64) (k : Fin 768) :
    (StableHlo.upto hostOps0_68 W 34 (Proc.devRef .tc main_v270) : S8x16x64x768.Idx → EReal) (ix4 h r c k)
      = rowArr W ⟨r.val, by omega⟩ (ix3 h c k) := by
  after_reads_simp
  simp only [Matrix.cons_val]
  after_reads_simp
  refine (stack_apply (fun j => broadcastInDim S8x1x64x768 ![0, 2, 3] bcast_S8x64x768_S8x1x64x768_0_2_3
    (rowArr W ⟨j.val, by omega⟩)) _ h r c k).trans ?_
  pointwise

/-- The second half of the stack, read at an index. -/
theorem second_half (h : Fin 8) (r : Fin 16) (c : Fin 64) (k : Fin 768) :
    (StableHlo.upto hostOps0_68 W 34 (Proc.devRef .tc main_v271) : S8x16x64x768.Idx → EReal) (ix4 h r c k)
      = rowArr W ⟨16 + r.val, by omega⟩ (ix3 h c k) := by
  after_reads_simp
  simp only [Matrix.cons_val]
  after_reads_simp
  refine (stack_apply (fun j => broadcastInDim S8x1x64x768 ![0, 2, 3] bcast_S8x64x768_S8x1x64x768_0_2_3
    (rowArr W ⟨16 + j.val, by omega⟩)) _ h r c k).trans ?_
  pointwise

/-- What the stacking operations leave in the kernel's bias operand, read at an index: the row array of the row that
    the tile and the query number in it name, at that query's column. -/
theorem stack_at (h i : Fin 8) (p : Fin 256) (k : Fin 768) :
    (StableHlo.after hostOps0_68 W (Proc.devRef .tc main_v273) : S8x8x256x768.Idx → EReal) (ix4 h i p k)
      = rowArr W ⟨i.val * 4 + p.val / 64, by omega⟩ (ix3 h ⟨p.val % 64, by omega⟩ k) := by
  after_reads_at
  split
  · rename_i hlt
    exact first_half W h ⟨_, hlt⟩ _ k
  · rename_i hge
    refine (second_half W h ⟨i.val * 4 + p.val / 64 - 16, by omega⟩ _ k).trans ?_
    refine congrArg (fun x => rowArr W x (ix3 h ⟨p.val % 64, by omega⟩ k)) (Fin.ext ?_)
    change 16 + (i.val * 4 + p.val / 64 - 16) = i.val * 4 + p.val / 64
    omega

end Cert.KernelIdeal.Bias

end
-- ==== Proof.BiasRow.lean ====
/- The bias row of each query row: the slice of the table its relative row numbers name, padded to the twelve key rows. -/
module

public import proofs.«01_k».proof.Proof.Gen.KernelIdeal.Value
public import Idealize.ShloMosaic.Lib.StableHlo.ReadAt
public import Idealize.ShloMosaic.Lib.Pointwise
public import proofs.«01_k».proof.Proof.BiasRows
public import proofs.«01_k».proof.Proof.RefTables
public import proofs.«01_k».proof.Proof.Softmax

@[expose] public section

set_option maxRecDepth 16384

noncomputable section

namespace Cert.KernelIdeal.Bias

open Cert.KernelIdeal Cert.KernelIdeal.Gen Idealize.ShloMosaic Idealize.ShloMosaic.TcCoe Idealize.SL.Sem
open Idealize.ShloMosaic.Pointwise
open Cert.KernelIdeal.Facts

open Cert.ReferenceIdeal.Tables (rowStart)

/-- The host operations from the masked table to the padded rows. -/
abbrev rowOps : List (HloOp τ sig (Elt Ideal)) := List.flatten [hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67]

variable (W : Valuation τ sig (Elt Ideal))

/-- The first of the twelve key rows that the tile of query row `r` reads. -/
def tileRow (r : ℕ) : ℕ := min 20 (r / 4 * 4 - 4)

/-- The table of one query column: its bias by head, relative row, query column and key column. -/
abbrev maskedTable : S8x15x64x64.Idx → EReal := W (Proc.devRef .tc main_v171)

/-- Two reads of the masked table at equal coordinates. -/
theorem masked_congr {h : Fin 8} {c : Fin 64} {a a' : Fin 15} {b b' : Fin 64} (ha : a.val = a'.val) (hb : b.val = b'.val) :
    maskedTable W (ix4 h a c b) = maskedTable W (ix4 h a' c b') := by
  rw [Fin.ext ha, Fin.ext hb]

set_option maxHeartbeats 16000000 in
/-- A query row's array at an index: inside the row's eight key rows the masked table at the relative row, outside
    minus infinity. -/
theorem row_at (h : Fin 8) (r : Fin 32) (c : Fin 64) (k : Fin 768) :
    rowArr (StableHlo.after rowOps W) r (ix3 h c k)
      = if rowStart r.val ≤ tileRow r.val + k.val / 64 ∧ tileRow r.val + k.val / 64 < rowStart r.val + 8 then
          maskedTable W (ix4 h ⟨min 14 (tileRow r.val + k.val / 64 + 7 - r.val), by omega⟩ c ⟨k.val % 64, by omega⟩)
        else ⊥ := by
  obtain ⟨k, hk⟩ := k
  obtain ⟨r, hr⟩ := r
  interval_cases r
  all_goals
    simp only [rowArr, Matrix.cons_val, rowStart, tileRow]
    after_reads_at
    split <;> split <;>
      first
        | exact Softmax.negInf
        | (exfalso; omega)
        | exact masked_congr W (by dsimp only; omega) (by dsimp only; omega)

end Cert.KernelIdeal.Bias

end
-- ==== Proof.BiasValue.lean ====
/- The kernel's bias operand at an index, from the table that is an argument. -/
module

public import proofs.«01_k».proof.Proof.Gen.KernelIdeal.Value
public import Idealize.ShloMosaic.Lib.StableHlo.ReadAt
public import Idealize.ShloMosaic.Lib.Pointwise
public import proofs.«01_k».proof.Proof.BiasHead
public import proofs.«01_k».proof.Proof.BiasTable
public import proofs.«01_k».proof.Proof.BiasRow
public import Idealize.ShloMosaic.Lib.Pipeline.Frame

@[expose] public section

set_option maxRecDepth 16384

noncomputable section

namespace Cert.KernelIdeal.Bias

open Cert.KernelIdeal Cert.KernelIdeal.Gen Idealize.ShloMosaic Idealize.ShloMosaic.TcCoe Idealize.SL.Sem
open Idealize.ShloMosaic.Pointwise
open Cert.KernelIdeal.Facts

open Cert.ReferenceIdeal.Tables (rowStart colStart)

variable (W : Valuation τ sig (Elt Ideal))

/-- The table of biases. -/
abbrev table : S8x15x31.Idx → EReal := W (Proc.devRef .tc main_arg6)

/-- The operations that make the table of all query columns are four stretches. -/
theorem widen_split : (hostOps0_2 : List (HloOp τ sig (Elt Ideal))) = headsOps ++ (rowsOps ++ (colsOps ++ stripOps)) := rfl

/-- The table of all query columns, from the table: the key column counted from the query's column. -/
theorem columns_at (h : Fin 8) (a : Fin 15) (c k : Fin 64) :
    (StableHlo.after hostOps0_2 W (Proc.devRef .tc main_v169) : S8x15x64x64.Idx → EReal) (ix4 h a c k)
      = table W (ix3 h a ⟨min 30 (k.val + 15 - c.val), by omega⟩) := by
  rw [widen_split, StableHlo.after_append, StableHlo.after_append, StableHlo.after_append]
  refine (table_at _ h a c k).trans ((cols_at _ h a _).trans ((rows_at _ h a _).trans ((heads_at _ h a _).trans ?_)))
  refine congrArg (fun x => table W (ix3 h a x)) (Fin.ext ?_)
  dsimp only
  omega

/-- The host operations that make the masked table. -/
abbrev maskedOps : List (HloOp τ sig (Elt Ideal)) := List.flatten [hostOps0, hostOps0_1, hostOps0_2, hostOps0_3]

/-- The operations that make the mask are three stretches. -/
theorem mask_split : maskOps = hostOps0 ++ (hostOps0_1 ++ hostOps0_2) := by
  simp only [maskOps, List.flatten_cons, List.flatten_nil, List.append_nil]

/-- The operations that make the masked table are four stretches. -/
theorem masked_split : maskedOps = hostOps0 ++ (hostOps0_1 ++ (hostOps0_2 ++ hostOps0_3)) := by
  simp only [maskedOps, List.flatten_cons, List.flatten_nil, List.append_nil]

/-- The choice between the table and the fill at an index. -/
theorem choose_at (h : Fin 8) (a : Fin 15) (c k : Fin 64) :
    maskedTable (StableHlo.after hostOps0_3 W) (ix4 h a c k)
      = Scalar.select ((W (Proc.devRef .tc main_v170) : S1x1x64x64.Idx → BitVec 1) (ix4 0 0 c k))
          ((W (Proc.devRef .tc main_v169) : S8x15x64x64.Idx → EReal) (ix4 h a c k))
          ((W (Proc.devRef .tc main_cst) : S_.Idx → EReal) ix0) := by
  unfold maskedTable
  after_reads_at
  rfl

/-- The fill is minus infinity. -/
theorem fill_at (i : S_.Idx) :
    @Eq EReal ((StableHlo.after hostOps0_2 W (Proc.devRef .tc main_cst) : S_.Idx → EReal) i) ⊥ := by
  after_reads_at
  exact Softmax.negInf

/-- The first operations leave the table as it is. -/
theorem table_kept : table (StableHlo.after hostOps0_1 (StableHlo.after hostOps0 W)) = table W := by
  unfold table
  after_reads_simp

/-- The masked table at an index: inside the query's window the table, outside minus infinity. -/
theorem masked_at (h : Fin 8) (a : Fin 15) (c k : Fin 64) :
    maskedTable (StableHlo.after maskedOps W) (ix4 h a c k)
      = if colStart c.val ≤ k.val ∧ k.val < colStart c.val + 16 then
          table W (ix3 h a ⟨min 30 (k.val + 15 - c.val), by omega⟩)
        else ⊥ := by
  have hm := mask_at W c k
  rw [mask_split, StableHlo.after_append, StableHlo.after_append] at hm
  rw [masked_split, StableHlo.after_append, StableHlo.after_append, StableHlo.after_append, choose_at, hm, fill_at,
    columns_at, table_kept]
  split <;> rfl

/-- All the host operations before the kernel. -/
theorem ops_split :
    (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68] : List (HloOp τ sig (Elt Ideal)))
      = maskedOps ++ (rowOps ++ hostOps0_68) := by
  simp only [maskedOps, rowOps, List.flatten_cons, List.flatten_nil, List.append_nil, List.append_assoc]

/-- The kernel's bias operand at an index: for the key row and the key column inside the query's window the table at
    the relative row and column, else minus infinity. -/
theorem bias_at (h i : Fin 8) (p : Fin 256) (k : Fin 768) :
    (StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68]) W (Proc.devRef .tc main_v273) : S8x8x256x768.Idx → EReal) (ix4 h i p k)
      = if rowStart (i.val * 4 + p.val / 64) ≤ tileRow (i.val * 4 + p.val / 64) + k.val / 64
            ∧ tileRow (i.val * 4 + p.val / 64) + k.val / 64 < rowStart (i.val * 4 + p.val / 64) + 8 then
          if colStart (p.val % 64) ≤ k.val % 64 ∧ k.val % 64 < colStart (p.val % 64) + 16 then
            table W (ix3 h ⟨min 14 (tileRow (i.val * 4 + p.val / 64) + k.val / 64 + 7 - (i.val * 4 + p.val / 64)), by omega⟩
              ⟨min 30 (k.val % 64 + 15 - p.val % 64), by omega⟩)
          else ⊥
        else ⊥ := by
  rw [ops_split, StableHlo.after_append, StableHlo.after_append, stack_at, row_at]
  dsimp only
  rw [masked_at]

end Cert.KernelIdeal.Bias

end
-- ==== Proof.Geometry.lean ====
/- The kernel's result at an index: the blocks of the grid points placed in their arrays. -/
module

public import proofs.«01_k».proof.Proof.Gen.KernelIdeal.Value
public import Idealize.ShloMosaic.Lib.Pipeline.ValueKit
public import Idealize.ShloMosaic.Lib.Pointwise
public import proofs.«01_k».proof.Proof.BlockValue
public import proofs.«01_k».proof.Proof.BiasValue

@[expose] public section

set_option maxRecDepth 16384

noncomputable section

namespace Cert.KernelIdeal.Geometry

open Cert.KernelIdeal Cert.KernelIdeal.Gen Idealize.ShloMosaic Idealize.ShloMosaic.TcCoe Idealize.SL.Sem
open Idealize.ShloMosaic.Pipeline (Dat)
open Idealize.ShloMosaic.Pointwise
open Cert.KernelIdeal.Facts
open Cert.KernelIdeal.Bias (tileRow)
open Cert.ReferenceIdeal.Tables (rowStart colStart)
open Cert.Softmax

/-- The bias of query `n` and key `κ` of its tile's twelve rows, from the table of biases. -/
def biasAt (rpb : S8x15x31.Idx → EReal) (h : Fin 8) (n : Fin 2048) (κ : Fin 768) : EReal :=
  if rowStart (n.val / 64) ≤ tileRow (n.val / 64) + κ.val / 64 ∧ tileRow (n.val / 64) + κ.val / 64 < rowStart (n.val / 64) + 8 then
    if colStart (n.val % 64) ≤ κ.val % 64 ∧ κ.val % 64 < colStart (n.val % 64) + 16 then
      rpb (ix3 h ⟨min 14 (tileRow (n.val / 64) + κ.val / 64 + 7 - n.val / 64), by omega⟩
        ⟨min 30 (κ.val % 64 + 15 - n.val % 64), by omega⟩)
    else ⊥
  else ⊥

/-- The row of the array that key `κ` of query `n`'s tile is. -/
def keyAt (n : Fin 2048) (κ : Fin 768) : Fin 2048 := ⟨tileRow (n.val / 64) * 64 + κ.val, by unfold tileRow; omega⟩

/-- The score of query `n` and key `κ` of its tile's twelve rows. -/
def winScore (q k : S16x2048x512.Idx → EReal) (rpb : S8x15x31.Idx → EReal) (b : Fin 16) (h : Fin 8) (n : Fin 2048) (κ : Fin 768) : EReal :=
  (∑ d : Fin 64, q (ix3 b n ⟨h.val * 64 + d.val, by omega⟩) * k (ix3 b (keyAt n κ) ⟨h.val * 64 + d.val, by omega⟩)) + biasAt rpb h n κ

/-- The score of query `n` and context key `j`. -/
def ctxScore (q : S16x2048x512.Idx → EReal) (k : S16x256x512.Idx → EReal) (b : Fin 16) (h : Fin 8) (n : Fin 2048) (j : Fin 256) : EReal :=
  ∑ d : Fin 64, q (ix3 b n ⟨h.val * 64 + d.val, by omega⟩) * k (ix3 b j ⟨h.val * 64 + d.val, by omega⟩)

/-- The kernel's result for query `n` at lane `l`. -/
def value (q qp k : S16x2048x512.Idx → EReal) (p : S16x2048x5120.Idx → EReal) (kc : S16x256x512.Idx → EReal)
    (pc : S16x256x5120.Idx → EReal) (rpb : S8x15x31.Idx → EReal) (b : Fin 16) (n : Fin 2048) (l : Fin 512) : EReal :=
  softmaxPV (winScore q k rpb b ⟨l.val / 64, by omega⟩ n) (ctxScore qp kc b ⟨l.val / 64, by omega⟩ n)
    (fun κ => p (ix3 b (keyAt n κ) ⟨1024 + l.val, by omega⟩)) (fun j => pc (ix3 b j ⟨1024 + l.val, by omega⟩))

variable (m : (ℓ : Loc nD τ sig) → Buf (Elt Ideal) ℓ) (c : Dev nD)

/-- The rotated queries. -/
abbrev qRot : S16x2048x512.Idx → EReal := m ((c : Thread nD τ).loc main_arg0)
/-- The plain queries. -/
abbrev qPlain : S16x2048x512.Idx → EReal := m ((c : Thread nD τ).loc main_arg1)
/-- The rotated keys. -/
abbrev kRot : S16x2048x512.Idx → EReal := m ((c : Thread nD τ).loc main_arg2)
/-- The array whose columns from 1024 on are the values. -/
abbrev vals : S16x2048x5120.Idx → EReal := m ((c : Thread nD τ).loc main_arg3)
/-- The context keys. -/
abbrev kCtx : S16x256x512.Idx → EReal := m ((c : Thread nD τ).loc main_arg4)
/-- The array whose columns from 1024 on are the context values. -/
abbrev vCtx : S16x256x5120.Idx → EReal := m ((c : Thread nD τ).loc main_arg5)
/-- The table of position biases. -/
abbrev rpb : S8x15x31.Idx → EReal := m ((c : Thread nD τ).loc main_arg6)

/-- Every window's block index at every point, and the first of the rows its queries look at (decided). -/
theorem idx : ∀ t : Fin cfg0.N,
    win0_0.index t = ![t.val % 16, t.val / 16 % 8, t.val / 128] ∧ win0_1.index t = ![t.val % 16, t.val / 16 % 8, t.val / 128]
    ∧ win0_2.index t = ![t.val % 16, 0, t.val / 128] ∧ win0_3.index t = ![t.val % 16, 0, 4 + t.val / 128]
    ∧ win0_4.index t = ![t.val % 16, 0, t.val / 128] ∧ win0_5.index t = ![t.val % 16, 0, 4 + t.val / 128]
    ∧ win0_6.index t = ![t.val / 128, t.val / 16 % 8, 0, 0] ∧ win0_7.index t = ![t.val % 16, t.val / 16 % 8, t.val / 128]
    ∧ k0_off1 (grid0.coords t) = ![0, min 20 (4 * (t.val / 16 % 8) - 4) * 64, 0] :=
  (by decide +kernel : ∀ t : Fin grid0.N, _)

/-- A point's rotated queries. -/
theorem block0 (t : Fin cfg0.N) (r l : Fin 256) :
    (iblk m c 0 t : S1x256x256.Idx → EReal) (ix3 0 r l)
      = qRot m c (ix3 ⟨t.val % 16, by omega⟩ ⟨t.val / 16 % 8 * 256 + r.val, by omega⟩ ⟨t.val / 128 * 256 + l.val, by have : t.val < 256 := t.isLt; omega⟩) := by
  obtain ⟨e0, e1, e2, e3, e4, e5, e6, e7, eo⟩ := idx t
  blk_simp [iblk]
  rw [V_main_arg0]
  refine congrArg (qRot m c) ?_
  blk_ext [e0]

/-- A point's plain queries. -/
theorem block1 (t : Fin cfg0.N) (r l : Fin 256) :
    (iblk m c 1 t : S1x256x256.Idx → EReal) (ix3 0 r l)
      = qPlain m c (ix3 ⟨t.val % 16, by omega⟩ ⟨t.val / 16 % 8 * 256 + r.val, by omega⟩ ⟨t.val / 128 * 256 + l.val, by have : t.val < 256 := t.isLt; omega⟩) := by
  obtain ⟨e0, e1, e2, e3, e4, e5, e6, e7, eo⟩ := idx t
  blk_simp [iblk]
  rw [V_main_arg1]
  refine congrArg (qPlain m c) ?_
  blk_ext [e1]

/-- The twelve rows of a block of all rows that a point's queries look at. -/
theorem rows_apply (t : Fin cfg0.N) (x : Vec Ideal S1x2048x256 .bf16) (κ : Fin 768) (l : Fin 256) :
    Block.rows768 t x (ix3 0 κ l) = x (ix3 0 ⟨min 20 (4 * (t.val / 16 % 8) - 4) * 64 + κ.val, by omega⟩ l) := by
  obtain ⟨e0, e1, e2, e3, e4, e5, e6, e7, eo⟩ := idx t
  refine congrArg x ?_
  blk_ext [eo, Rect.idx_unit_val]

/-- A point's block of all rows of keys. -/
theorem block2 (t : Fin cfg0.N) (n : Fin 2048) (l : Fin 256) :
    (iblk m c 2 t : S1x2048x256.Idx → EReal) (ix3 0 n l) = kRot m c (ix3 ⟨t.val % 16, by omega⟩ n ⟨t.val / 128 * 256 + l.val, by have : t.val < 256 := t.isLt; omega⟩) := by
  obtain ⟨e0, e1, e2, e3, e4, e5, e6, e7, eo⟩ := idx t
  blk_simp [iblk]
  rw [V_main_arg2]
  refine congrArg (kRot m c) ?_
  blk_ext [e2]

/-- A point's block of all rows of values. -/
theorem block3 (t : Fin cfg0.N) (n : Fin 2048) (l : Fin 256) :
    (iblk m c 3 t : S1x2048x256.Idx → EReal) (ix3 0 n l) = vals m c (ix3 ⟨t.val % 16, by omega⟩ n ⟨1024 + (t.val / 128 * 256 + l.val), by have : t.val < 256 := t.isLt; omega⟩) := by
  obtain ⟨e0, e1, e2, e3, e4, e5, e6, e7, eo⟩ := idx t
  blk_simp [iblk]
  rw [V_main_arg3]
  refine congrArg (vals m c) ?_
  blk_ext [e3]

/-- A point's context keys. -/
theorem block4 (t : Fin cfg0.N) (j l : Fin 256) :
    (iblk m c 4 t : S1x256x256.Idx → EReal) (ix3 0 j l)
      = kCtx m c (ix3 ⟨t.val % 16, by omega⟩ j ⟨t.val / 128 * 256 + l.val, by have : t.val < 256 := t.isLt; omega⟩) := by
  obtain ⟨e0, e1, e2, e3, e4, e5, e6, e7, eo⟩ := idx t
  blk_simp [iblk]
  rw [V_main_arg4]
  refine congrArg (kCtx m c) ?_
  blk_ext [e4]

/-- A point's context values. -/
theorem block5 (t : Fin cfg0.N) (j l : Fin 256) :
    (iblk m c 5 t : S1x256x256.Idx → EReal) (ix3 0 j l)
      = vCtx m c (ix3 ⟨t.val % 16, by omega⟩ j ⟨1024 + (t.val / 128 * 256 + l.val), by have : t.val < 256 := t.isLt; omega⟩) := by
  obtain ⟨e0, e1, e2, e3, e4, e5, e6, e7, eo⟩ := idx t
  blk_simp [iblk]
  rw [V_main_arg5]
  refine congrArg (vCtx m c) ?_
  blk_ext [e5]

end Cert.KernelIdeal.Geometry

end
-- ==== Proof.KernelBias.lean ====
/- A point's block of the bias operand. -/
module

public import proofs.«01_k».proof.Proof.Gen.KernelIdeal.Value
public import Idealize.ShloMosaic.Lib.Pipeline.ValueKit
public import Idealize.ShloMosaic.Lib.Pointwise
public import proofs.«01_k».proof.Proof.Geometry
public import proofs.«01_k».proof.Proof.BiasValue

@[expose] public section

set_option maxRecDepth 16384

noncomputable section

namespace Cert.KernelIdeal.Geometry

open Cert.KernelIdeal Cert.KernelIdeal.Gen Idealize.ShloMosaic Idealize.ShloMosaic.TcCoe Idealize.SL.Sem
open Idealize.ShloMosaic.Pipeline (Dat)
open Idealize.ShloMosaic.Pointwise
open Cert.KernelIdeal.Facts
open Cert.KernelIdeal.Bias (tileRow)
open Cert.ReferenceIdeal.Tables (rowStart colStart)

variable (m : (ℓ : Loc nD τ sig) → Buf (Elt Ideal) ℓ) (c : Dev nD)

/-- The bias operand as the kernel finds it, at an index. -/
theorem operand_at (h i : Fin 8) (p : Fin 256) (n : Fin 2048) (hn : n.val = i.val * 256 + p.val) (κ : Fin 768) :
    (V m c main_v273 : S8x8x256x768.Idx → EReal) (ix4 h i p κ) = biasAt (rpb m c) h n κ := by
  refine (Bias.bias_at (fun b => m (c, b)) h i p κ).trans ?_
  have e1 : i.val * 4 + p.val / 64 = n.val / 64 := by omega
  have e2 : p.val % 64 = n.val % 64 := by omega
  unfold biasAt
  simp only [e1, e2]

/-- The bias of a point's queries, for the head that the window's first axis names. -/
theorem block6 (t : Fin cfg0.N) (g : Fin 4) (r : Fin 256) (κ : Fin 768) :
    (iblk m c 6 t : S4x1x256x768.Idx → EReal) (ix4 g 0 r κ)
      = biasAt (rpb m c) ⟨t.val / 128 * 4 + g.val, by have : t.val < 256 := t.isLt; omega⟩ ⟨t.val / 16 % 8 * 256 + r.val, by omega⟩ κ := by
  obtain ⟨e0, e1, e2, e3, e4, e5, e6, e7, eo⟩ := idx t
  have key : ∀ A : S8x8x256x768.Idx → EReal, V m c main_v273 = A → (iblk m c 6 t : S4x1x256x768.Idx → EReal) (ix4 g 0 r κ)
      = A (ix4 ⟨t.val / 128 * 4 + g.val, by have : t.val < 256 := t.isLt; omega⟩ ⟨t.val / 16 % 8, by omega⟩ r κ) := by
    intro A hA
    blk_simp [iblk]
    rw [hA]
    refine congrArg A ?_
    blk_ext [e6]
  exact (key _ rfl).trans (operand_at m c _ _ r _ rfl κ)

end Cert.KernelIdeal.Geometry

end
-- ==== Proof.KernelPoint.lean ====
/- The kernel's result array at an index. -/
module

public import proofs.«01_k».proof.Proof.Gen.KernelIdeal.Value
public import Idealize.ShloMosaic.Lib.Pipeline.ValueKit
public import Idealize.ShloMosaic.Lib.Pointwise
public import proofs.«01_k».proof.Proof.KernelBias
public import proofs.«01_k».proof.Proof.BiasValue

@[expose] public section

set_option maxRecDepth 16384

noncomputable section

namespace Cert.KernelIdeal.Geometry

open Cert.KernelIdeal Cert.KernelIdeal.Gen Idealize.ShloMosaic Idealize.ShloMosaic.TcCoe Idealize.SL.Sem
open Idealize.ShloMosaic.Pipeline (Dat)
open Idealize.ShloMosaic.Pointwise
open Cert.KernelIdeal.Facts
open Cert.Softmax
open Cert.KernelIdeal.Bias (tileRow)
open Cert.ReferenceIdeal.Tables (rowStart colStart)

variable (m : (ℓ : Loc nD τ sig) → Buf (Elt Ideal) ℓ) (c : Dev nD)

/-- The four heads' biases of a point. -/
def biases (x : Vec Ideal S4x1x256x768 .f32) : Fin 4 → Vec Ideal S1x1x256x768 .f32 := ![
  View.ld x (Rect.unit ![0, 0, 0, 0] ![1, 1, 256, 768] inb_S4x1x256x768_S1x1x256x768_0_0_0_0),
  View.ld x (Rect.unit ![1, 0, 0, 0] ![1, 1, 256, 768] inb_S4x1x256x768_S1x1x256x768_1_0_0_0),
  View.ld x (Rect.unit ![2, 0, 0, 0] ![1, 1, 256, 768] inb_S4x1x256x768_S1x1x256x768_2_0_0_0),
  View.ld x (Rect.unit ![3, 0, 0, 0] ![1, 1, 256, 768] inb_S4x1x256x768_S1x1x256x768_3_0_0_0)]

/-- One head's biases are the block's at that head. -/
theorem biases_apply (x : Vec Ideal S4x1x256x768 .f32) (g : Fin 4) (r : Fin 256) (κ : Fin 768) :
    biases x g (ix4 0 0 r κ) = x (ix4 g 0 r κ) := by
  unfold biases
  fin_cases g <;>
  · refine congrArg x ?_
    blk_ext [Rect.idx_unit_val]

/-- What a point stores at a query and a lane, the biases read from their block. -/
theorem stored_at (q qp : Vec Ideal S1x256x256 .bf16) (k v : Vec Ideal S1x768x256 .bf16) (kc vc : Vec Ideal S1x256x256 .bf16)
    (x : Vec Ideal S4x1x256x768 .f32) (r l : Fin 256) :
    Block.blockOut q qp k v kc vc
      (View.ld x (Rect.unit ![0, 0, 0, 0] ![1, 1, 256, 768] inb_S4x1x256x768_S1x1x256x768_0_0_0_0))
      (View.ld x (Rect.unit ![1, 0, 0, 0] ![1, 1, 256, 768] inb_S4x1x256x768_S1x1x256x768_1_0_0_0))
      (View.ld x (Rect.unit ![2, 0, 0, 0] ![1, 1, 256, 768] inb_S4x1x256x768_S1x1x256x768_2_0_0_0))
      (View.ld x (Rect.unit ![3, 0, 0, 0] ![1, 1, 256, 768] inb_S4x1x256x768_S1x1x256x768_3_0_0_0))
      (ix3 0 r l) = softmaxPV
        (fun κ => (∑ d : Fin 64, q (ix3 0 r ⟨l.val / 64 * 64 + d.val, by omega⟩) * k (ix3 0 κ ⟨l.val / 64 * 64 + d.val, by omega⟩))
          + x (ix4 ⟨l.val / 64, by omega⟩ 0 r κ))
        (fun j => ∑ d : Fin 64, qp (ix3 0 r ⟨l.val / 64 * 64 + d.val, by omega⟩) * kc (ix3 0 j ⟨l.val / 64 * 64 + d.val, by omega⟩))
        (fun κ => v (ix3 0 κ l)) (fun j => vc (ix3 0 j l)) := by
  refine (Block.blockOut_apply q qp k v kc vc (biases x) r l ⟨l.val / 64, by omega⟩ rfl).trans ?_
  simp only [biases_apply]

/-- Two reads of an array of rank three at equal coordinates. -/
theorem read_congr {a b n : ℕ} (x : (⟨3, ![a, b, n]⟩ : Shape).Idx → EReal) {i i' : Fin a} {j j' : Fin b} {k k' : Fin n}
    (hi : i.val = i'.val) (hj : j.val = j'.val) (hk : k.val = k'.val) : x (ix3 i j k) = x (ix3 i' j' k') := by
  rw [Fin.ext hi, Fin.ext hj, Fin.ext hk]

/-- A point's stored entry is the value of the arrays its blocks are read from. -/
theorem stored_value (q qp k : S16x2048x512.Idx → EReal) (p : S16x2048x5120.Idx → EReal) (kc : S16x256x512.Idx → EReal)
    (pc : S16x256x5120.Idx → EReal) (rpb : S8x15x31.Idx → EReal) (t : Fin cfg0.N) (x0 x1 x4 x5 : Vec Ideal S1x256x256 .bf16)
    (x2 x3 : Vec Ideal S1x2048x256 .bf16) (x6 : Vec Ideal S4x1x256x768 .f32) (b : Fin 16) (n : Fin 2048) (lane : Fin 512) (r l : Fin 256)
    (hb : b.val = t.val % 16) (hn : n.val = t.val / 16 % 8 * 256 + r.val) (hlane : lane.val = t.val / 128 * 256 + l.val)
    (h0 : ∀ i j : Fin 256, x0 (ix3 0 i j) = q (ix3 ⟨t.val % 16, by omega⟩ ⟨t.val / 16 % 8 * 256 + i.val, by omega⟩ ⟨t.val / 128 * 256 + j.val, by have : t.val < 256 := t.isLt; omega⟩))
    (h1 : ∀ i j : Fin 256, x1 (ix3 0 i j) = qp (ix3 ⟨t.val % 16, by omega⟩ ⟨t.val / 16 % 8 * 256 + i.val, by omega⟩ ⟨t.val / 128 * 256 + j.val, by have : t.val < 256 := t.isLt; omega⟩))
    (h2 : ∀ (i : Fin 2048) (j : Fin 256), x2 (ix3 0 i j) = k (ix3 ⟨t.val % 16, by omega⟩ i ⟨t.val / 128 * 256 + j.val, by have : t.val < 256 := t.isLt; omega⟩))
    (h3 : ∀ (i : Fin 2048) (j : Fin 256), x3 (ix3 0 i j) = p (ix3 ⟨t.val % 16, by omega⟩ i ⟨1024 + (t.val / 128 * 256 + j.val), by have : t.val < 256 := t.isLt; omega⟩))
    (h4 : ∀ i j : Fin 256, x4 (ix3 0 i j) = kc (ix3 ⟨t.val % 16, by omega⟩ i ⟨t.val / 128 * 256 + j.val, by have : t.val < 256 := t.isLt; omega⟩))
    (h5 : ∀ i j : Fin 256, x5 (ix3 0 i j) = pc (ix3 ⟨t.val % 16, by omega⟩ i ⟨1024 + (t.val / 128 * 256 + j.val), by have : t.val < 256 := t.isLt; omega⟩))
    (h6 : ∀ (g : Fin 4) (i : Fin 256) (κ : Fin 768), x6 (ix4 g 0 i κ) = biasAt rpb ⟨t.val / 128 * 4 + g.val, by have : t.val < 256 := t.isLt; omega⟩ ⟨t.val / 16 % 8 * 256 + i.val, by omega⟩ κ) :
    softmaxPV
        (fun κ => (∑ d : Fin 64, x0 (ix3 0 r ⟨l.val / 64 * 64 + d.val, by omega⟩) * Block.rows768 t x2 (ix3 0 κ ⟨l.val / 64 * 64 + d.val, by omega⟩))
          + x6 (ix4 ⟨l.val / 64, by omega⟩ 0 r κ))
        (fun j => ∑ d : Fin 64, x1 (ix3 0 r ⟨l.val / 64 * 64 + d.val, by omega⟩) * x4 (ix3 0 j ⟨l.val / 64 * 64 + d.val, by omega⟩))
        (fun κ => Block.rows768 t x3 (ix3 0 κ l)) (fun j => x5 (ix3 0 j l))
      = value q qp k p kc pc rpb b n lane := by
  have ht : t.val < 256 := t.isLt
  have hrow : tileRow (n.val / 64) = min 20 (4 * (t.val / 16 % 8) - 4) := by unfold tileRow; omega
  have hkey : ∀ κ : Fin 768, (keyAt n κ).val = min 20 (4 * (t.val / 16 % 8) - 4) * 64 + κ.val := fun κ => by
    show tileRow (n.val / 64) * 64 + κ.val = _
    rw [hrow]
  unfold value
  congr 1
  · funext κ
    unfold winScore
    congr 1
    · refine Finset.sum_congr rfl fun d _ => ?_
      rw [h0, rows_apply, h2]
      congr 1
      · exact read_congr q hb.symm hn.symm (by dsimp only; omega)
      · exact read_congr k hb.symm (hkey κ).symm (by dsimp only; omega)
    · rw [h6]
      congr 1
      · exact Fin.ext (by dsimp only; omega)
      · exact Fin.ext hn.symm
  · funext j
    unfold ctxScore
    refine Finset.sum_congr rfl fun d _ => ?_
    rw [h1, h4]
    congr 1
    · exact read_congr qp hb.symm hn.symm (by dsimp only; omega)
    · exact read_congr kc hb.symm rfl (by dsimp only; omega)
  · funext κ
    rw [rows_apply, h3]
    exact read_congr p hb.symm (hkey κ).symm (by dsimp only; omega)
  · funext j
    rw [h5]
    exact read_congr pc hb.symm rfl (by dsimp only; omega)

/-- What a point leaves at a query and a lane of its block. -/
theorem point_at (t : Fin cfg0.N) (r l : Fin 256) (b : Fin 16) (n : Fin 2048) (lane : Fin 512)
    (hb : b.val = t.val % 16) (hn : n.val = t.val / 16 % 8 * 256 + r.val) (hlane : lane.val = t.val / 128 * 256 + l.val) :
    outsAt0 m c t (ix3 0 r l)
      = value (qRot m c) (qPlain m c) (kRot m c) (vals m c) (kCtx m c) (vCtx m c) (rpb m c) b n lane :=
  (Block.outs m c t _).trans ((stored_at _ _ _ _ _ _ _ r l).trans
    (stored_value _ _ _ _ _ _ _ t _ _ _ _ _ _ _ b n lane r l hb hn hlane
      (block0 m c t) (block1 m c t) (block2 m c t) (block3 m c t) (block4 m c t) (block5 m c t) (block6 m c t)))

/-- The result array of the launch, an index at a time. -/
theorem final : (dats m 0 c).arrAt 7 cfg0.N = fun i : S16x2048x512.Idx =>
    value (qRot m c) (qPlain m c) (kRot m c) (vals m c) (kCtx m c) (vCtx m c) (rpb m c) (i 0) (i 1) (i 2) := by
  refine (dats m 0 c).arrAt_eq_of_covers 7 _ (by decide +kernel) fun t hf y => ?_
  obtain ⟨e0, e1, e2, e3, e4, e5, e6, e7, eo⟩ := idx t
  blk_simp
  rw [after0_7]
  obtain ⟨r, l, rfl⟩ : ∃ r l : Fin 256, y = ix3 (n0 := 1) 0 r l :=
    ⟨y 1, y 2, (eq_ix3 (n0 := 1) (n1 := 256) (n2 := 256) y).trans
      (congrArg (fun a : Fin 1 => ix3 a (y 1 : Fin 256) (y 2 : Fin 256)) (Subsingleton.elim (α := Fin 1) _ _))⟩
  have ht : t.val < 256 := t.isLt
  have he : (win0_7.blk t).view.emb (ix3 (n0 := 1) 0 r l)
      = ix3 (⟨t.val % 16, by omega⟩ : Fin 16) (⟨t.val / 16 % 8 * 256 + r.val, by omega⟩ : Fin 2048) (⟨t.val / 128 * 256 + l.val, by omega⟩ : Fin 512) := by
    blk_ext [e7]
  refine (point_at m c t r l ⟨t.val % 16, by omega⟩ ⟨t.val / 16 % 8 * 256 + r.val, by omega⟩ ⟨t.val / 128 * 256 + l.val, by omega⟩ rfl rfl rfl).trans ?_
  rw [he]
  rfl

end Cert.KernelIdeal.Geometry

end
-- ==== Proof.Finite.lean ====
/- What the precondition says: every entry of the queries, the keys and the bias table is a real number. -/
module

public import proofs.«01_k».proof.Pre_finite_scores
public import Idealize.ShloMosaic.Lib.Pointwise
public import Idealize.ShloMosaic.Lib.ReduceAll
public import Idealize.ShloMosaic.Lib.WordCmp
public import Idealize.ShloMosaic.Lib.Affine

@[expose] public section

set_option maxRecDepth 16384

noncomputable section

namespace Cert.Finite

open Idealize.ShloMosaic

/-- The shape relations the precondition's operations take. -/
theorem facts : Cert.Pre_finite_scores.Facts :=
  ⟨by decide, by decide, by decide, by decide, by decide, by decide, by decide, by decide⟩

/-- A number whose absolute value is below infinity is real. -/
theorem real_of_test (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  constructor <;>
  · rintro rfl
    simp [Ideal.cmp] at h

instance : Subsingleton Cert.Pre_finite_scores.S_.Idx := ⟨fun a b => funext fun k => k.elim0⟩

/-- The precondition gives real entries in the queries, the keys, the context's keys and the bias table. -/
theorem reals (hf : Cert.Pre_finite_scores.Facts) (q qp k : FVec Ideal Cert.Pre_finite_scores.S16x2048x512 .bf16) (p : FVec Ideal Cert.Pre_finite_scores.S16x2048x5120 .bf16)
    (kc : FVec Ideal Cert.Pre_finite_scores.S16x256x512 .bf16) (pc : FVec Ideal Cert.Pre_finite_scores.S16x256x5120 .bf16)
    (rpb : FVec Ideal Cert.Pre_finite_scores.S8x15x31 .f32)
    (h : Cert.Pre_finite_scores.fn (F := Ideal) q qp k p kc pc rpb = fun _ => 1#1) :
    (∀ i, (q i : EReal) ≠ ⊤ ∧ (q i : EReal) ≠ ⊥) ∧ (∀ i, (qp i : EReal) ≠ ⊤ ∧ (qp i : EReal) ≠ ⊥) ∧ (∀ i, (k i : EReal) ≠ ⊤ ∧ (k i : EReal) ≠ ⊥)
      ∧ (∀ i, (kc i : EReal) ≠ ⊤ ∧ (kc i : EReal) ≠ ⊥) ∧ (∀ i, (rpb i : EReal) ≠ ⊤ ∧ (rpb i : EReal) ≠ ⊥) := by
  have e := congrFun h (fun a => a.elim0)
  simp only [Cert.Pre_finite_scores.fn, Cert.Pre_finite_scores.fn_part1, andi, IntOp.andi_eq_one] at e
  obtain ⟨⟨⟨⟨e0, e1⟩, e2⟩, e4⟩, e6⟩ := e
  exact ⟨fun i => real_of_test _ (Host.reduce_andi_all _ _ _ _ _ e0 i), fun i => real_of_test _ (Host.reduce_andi_all _ _ _ _ _ e1 i),
    fun i => real_of_test _ (Host.reduce_andi_all _ _ _ _ _ e2 i), fun i => real_of_test _ (Host.reduce_andi_all _ _ _ _ _ e4 i),
    fun i => real_of_test _ (Host.reduce_andi_all _ _ _ _ _ e6 i)⟩

end Cert.Finite

end
-- ==== Proof.SameText.lean ====
/- The kernel as printed and the idealized kernel have one text: their label tables and their mains are equal. -/
module

public import proofs.«01_k».proof.Proof.Gen.Kernel
public import proofs.«01_k».proof.Proof.Gen.KernelIdeal

@[expose] public section

set_option maxRecDepth 65536
set_option maxHeartbeats 0

noncomputable section

namespace Cert.SameText

open Idealize.ShloMosaic Idealize.SL.Sem

variable {F : FTy → Type} [FloatOps F]

attribute [local instance] Cert.Kernel.Gen.facts Cert.KernelIdeal.Gen.facts

/-- The kernels' body tables. -/
theorem bodies : Cert.Kernel.defs₀ (F := F) = Cert.KernelIdeal.defs₀ (F := F) :=
  congrArg Defs.onTc (funext fun l => funext fun a => by
    match l, a with
    | 0, (t, s) =>
      show Cert.Kernel.cc0_nbr_attention _ _ _ _ _ _ _ _ _ _ _ _ _ _ _ _ _ = Cert.KernelIdeal.cc0_nbr_attention _ _ _ _ _ _ _ _ _ _ _ _ _ _ _ _ _
      rfl)

/-- The label tables. -/
theorem tables : Cert.Kernel.defs (F := F) = Cert.KernelIdeal.defs (F := F) :=
  congrArg (Pipeline.defs Cert.Kernel.pcfgs) bodies

theorem part0 : Cert.Kernel.main_part0 (F := F) = Cert.KernelIdeal.main_part0 (F := F) := rfl
theorem part1 : Cert.Kernel.main_part1 (F := F) = Cert.KernelIdeal.main_part1 (F := F) := rfl
theorem part2 : Cert.Kernel.main_part2 (F := F) = Cert.KernelIdeal.main_part2 (F := F) := rfl
theorem part3 : Cert.Kernel.main_part3 (F := F) = Cert.KernelIdeal.main_part3 (F := F) := rfl
theorem part4 : Cert.Kernel.main_part4 (F := F) = Cert.KernelIdeal.main_part4 (F := F) := rfl
theorem part5 : Cert.Kernel.main_part5 (F := F) = Cert.KernelIdeal.main_part5 (F := F) := rfl

/-- The mains, a part at a time. -/
theorem mains : Cert.Kernel.main (F := F) = Cert.KernelIdeal.main (F := F) := by
  funext d
  unfold Cert.Kernel.main
  rw [part0, part1, part2, part3, part4, part5]
  rfl

end Cert.SameText

end
-- ==== Proof.RefGather.lean ====
/- The reference's gathers at an index: which element of the operand each one reads. -/
module

public import proofs.«01_k».proof.Proof.Gen.ReferenceIdeal
public import Idealize.ShloMosaic.Lib.Pointwise

@[expose] public section

set_option maxRecDepth 16384

noncomputable section

namespace Cert.ReferenceIdeal.Gather

open Cert.ReferenceIdeal Cert.ReferenceIdeal.Gen Idealize.ShloMosaic
open Idealize.ShloMosaic.Pointwise

/-- A word holding a small number, read signed, is that number. -/
theorem toInt_small (w : BitVec 32) (n : ℕ) (hn : n < 2 ^ 31) (h : w = BitVec.ofNat 32 n) : w.toInt.toNat = n := by
  subst h
  have e : (BitVec.ofNat 32 n).toNat = n := by
    rw [BitVec.toNat_ofNat]; omega
  rw [BitVec.toInt_eq_toNat_of_lt (by omega), e]
  exact Int.toNat_natCast n

/-- Gathering rows: where the table of row numbers holds `R`, the result reads row `R`. -/
theorem rows_apply {α : Type} (x : S16x32x64x8x64.Idx → α) (idx : IVec S32x8x1 32)
    (b : Fin 16) (r : Fin 32) (a : Fin 8) (c : Fin 64) (h : Fin 8) (d : Fin 64) (R : Fin 32)
    (hR : idx (ix3 r a 0) = BitVec.ofNat 32 R.val) :
    Host.gather gather_S16x32x64x8x64_S32x8x1_S16x32x8x64x8x64_0345_1_n_n_1_2_16164864 x idx (ix6 b r a c h d) = x (ix5 b R c h d) := by
  unfold Host.gather
  refine congrArg x (funext fun ax => Fin.ext ?_)
  have hs : (idx (ix3 r a 0)).toInt.toNat = R.val := toInt_small _ _ (by omega) hR
  match ax with
  | ⟨0, _⟩ => exact Nat.zero_add _
  | ⟨1, _⟩ =>
    show min (idx (GatherDims.siIdx _ _ _)).toInt.toNat (32 - 1) + 0 + 0 = R.val
    rw [show GatherDims.siIdx _ _ _ = ix3 r a 0 from by funext z; match z with | ⟨0, _⟩ => rfl | ⟨1, _⟩ => rfl | ⟨2, _⟩ => rfl, hs]
    omega
  | ⟨2, _⟩ => exact Nat.zero_add _
  | ⟨3, _⟩ => exact Nat.zero_add _
  | ⟨4, _⟩ => exact Nat.zero_add _

/-- Gathering columns: where the table of column numbers holds `C`, the result reads column `C`. -/
theorem cols_apply {α : Type} (x : S16x32x8x64x8x64.Idx → α) (idx : IVec S4x32x1 32)
    (b : Fin 16) (r : Fin 32) (a : Fin 8) (j : Fin 4) (κ : Fin 32) (h : Fin 8) (d : Fin 64) (C : Fin 64)
    (hC : idx (ix3 j κ 0) = BitVec.ofNat 32 C.val) :
    Host.gather gather_S16x32x8x64x8x64_S4x32x1_S16x32x8x4x32x8x64_01256_3_n_n_3_2_163281864 x idx (ix7 b r a j κ h d) = x (ix6 b r a C h d) := by
  unfold Host.gather
  refine congrArg x (funext fun ax => Fin.ext ?_)
  have hs : (idx (ix3 j κ 0)).toInt.toNat = C.val := toInt_small _ _ (by omega) hC
  match ax with
  | ⟨0, _⟩ => exact Nat.zero_add _
  | ⟨1, _⟩ => exact Nat.zero_add _
  | ⟨2, _⟩ => exact Nat.zero_add _
  | ⟨3, _⟩ =>
    show min (idx (GatherDims.siIdx _ _ _)).toInt.toNat (64 - 1) + 0 + 0 = C.val
    rw [show GatherDims.siIdx _ _ _ = ix3 j κ 0 from by funext z; match z with | ⟨0, _⟩ => rfl | ⟨1, _⟩ => rfl | ⟨2, _⟩ => rfl, hs]
    omega
  | ⟨4, _⟩ => exact Nat.zero_add _
  | ⟨5, _⟩ => exact Nat.zero_add _

/-- Gathering the bias table: where the two tables of offsets hold `R` and `C`, the result reads entry `(R, C)` of the head. -/
theorem bias_apply {α : Type} (x : S8x15x31.Idx → α) (idx : IVec S32x4x16x8x32x2 32)
    (h : Fin 8) (r : Fin 32) (j : Fin 4) (q : Fin 16) (a : Fin 8) (κ : Fin 32) (R : Fin 15) (C : Fin 31)
    (hR : idx (ix6 r j q a κ 0) = BitVec.ofNat 32 R.val) (hC : idx (ix6 r j q a κ 1) = BitVec.ofNat 32 C.val) :
    Host.gather gather_S8x15x31_S32x4x16x8x32x2_S8x32x4x16x8x32_0_12_n_n_12_5_811 x idx (ix6 h r j q a κ) = x (ix3 h R C) := by
  unfold Host.gather
  refine congrArg x (funext fun ax => Fin.ext ?_)
  have hs : (idx (ix6 r j q a κ 0)).toInt.toNat = R.val := toInt_small _ _ (by omega) hR
  have ht : (idx (ix6 r j q a κ 1)).toInt.toNat = C.val := toInt_small _ _ (by omega) hC
  match ax with
  | ⟨0, _⟩ => exact Nat.zero_add _
  | ⟨1, _⟩ =>
    show min (idx (GatherDims.siIdx _ _ _)).toInt.toNat (15 - 1) + 0 + 0 = R.val
    rw [show GatherDims.siIdx _ _ _ = ix6 r j q a κ 0 from by
      funext z; match z with | ⟨0, _⟩ => rfl | ⟨1, _⟩ => rfl | ⟨2, _⟩ => rfl | ⟨3, _⟩ => rfl | ⟨4, _⟩ => rfl | ⟨5, _⟩ => rfl, hs]
    omega
  | ⟨2, _⟩ =>
    show min (idx (GatherDims.siIdx _ _ _)).toInt.toNat (31 - 1) + 0 + 0 = C.val
    rw [show GatherDims.siIdx _ _ _ = ix6 r j q a κ 1 from by
      funext z; match z with | ⟨0, _⟩ => rfl | ⟨1, _⟩ => rfl | ⟨2, _⟩ => rfl | ⟨3, _⟩ => rfl | ⟨4, _⟩ => rfl | ⟨5, _⟩ => rfl, ht]
    omega

end Cert.ReferenceIdeal.Gather

end
-- ==== Proof.RefValue.lean ====
/- What the reference computes at an index: the scores of a query. -/
module

public import proofs.«01_k».proof.Proof.RefTables
public import proofs.«01_k».proof.Proof.RefGather
public import proofs.«01_k».proof.Proof.Softmax

@[expose] public section

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.Pointwise
open Cert.ReferenceIdeal.Facts Cert.ReferenceIdeal.Tables Cert.ReferenceIdeal.Gather

variable (V0 : Valuation τ sig (Elt Ideal))

theorem rowStart_lt (r : Fin 32) (a : Fin 8) : rowStart r.val + a.val < 32 := by unfold rowStart; omega
theorem bandStart_lt (j : Fin 4) (κ : Fin 32) : bandStart j.val + κ.val < 64 := by unfold bandStart; omega
theorem rowOff_lt (r : Fin 32) (a : Fin 8) : rowStart r.val + a.val + 7 - r.val < 15 := by unfold rowStart; omega

/-- The rotated queries. -/
abbrev qRot : S16x2048x512.Idx → EReal := V0 (Proc.devRef .tc main_arg0)
/-- The plain queries. -/
abbrev qPlain : S16x2048x512.Idx → EReal := V0 (Proc.devRef .tc main_arg1)
/-- The rotated keys. -/
abbrev kRot : S16x2048x512.Idx → EReal := V0 (Proc.devRef .tc main_arg2)
/-- The array whose columns from 1024 on are the values. -/
abbrev vals : S16x2048x5120.Idx → EReal := V0 (Proc.devRef .tc main_arg3)
/-- The context keys. -/
abbrev kCtx : S16x256x512.Idx → EReal := V0 (Proc.devRef .tc main_arg4)
/-- The array whose columns from 1024 on are the context values. -/
abbrev vCtx : S16x256x5120.Idx → EReal := V0 (Proc.devRef .tc main_arg5)
/-- The table of position biases. -/
abbrev rpb : S8x15x31.Idx → EReal := V0 (Proc.devRef .tc main_arg6)

/-- The queries by row, block of columns, column in the block and head. -/
def queries (x : FVec Ideal S16x2048x512 .bf16) : FVec Ideal S16x32x4x16x8x64 .f32 :=
  shapeCast _ (shapeCast _ (extf .f32 x bitsLt_bf16_f32) shapeCasts_S16x2048x512_S16x2048x8x64) shapeCasts_S16x2048x8x64_S16x32x4x16x8x64

theorem queries_apply (x : FVec Ideal S16x2048x512 .bf16) (b : Fin 16) (r : Fin 32) (j : Fin 4) (q : Fin 16) (h : Fin 8) (d : Fin 64) :
    queries x (ix6 b r j q h d) = x (ix3 b ⟨r.val * 64 + j.val * 16 + q.val, by omega⟩ ⟨h.val * 64 + d.val, by omega⟩) := by
  unfold queries
  pointwise

/-- The window's band of rows and columns, gathered for each row and block of columns. -/
def bandOf (x : FVec Ideal S16x32x64x8x64 .f32) : FVec Ideal S16x32x8x4x32x8x64 .f32 :=
  select (broadcastInDim S16x32x8x4x32x8x64 ![3, 4] bcast_S4x32_S16x32x8x4x32x8x64_3_4 (colIn V0))
    (Host.gather gather_S16x32x8x64x8x64_S4x32x1_S16x32x8x4x32x8x64_01256_3_n_n_3_2_163281864
      (Host.gather gather_S16x32x64x8x64_S32x8x1_S16x32x8x64x8x64_0345_1_n_n_1_2_16164864 x (rowTab V0)) (res_main_call5_v5 V0))
    (broadcastInDim S16x32x8x4x32x8x64 ![] bcast_S_S16x32x8x4x32x8x64 (constant S_ .f32 0x7FC00000#32))

theorem bandOf_apply (x : FVec Ideal S16x32x64x8x64 .f32) (b : Fin 16) (r : Fin 32) (a : Fin 8) (j : Fin 4) (κ : Fin 32) (h : Fin 8) (d : Fin 64) :
    bandOf V0 x (ix7 b r a j κ h d) = x (ix5 b ⟨_, rowStart_lt r a⟩ ⟨_, bandStart_lt j κ⟩ h d) := by
  have e := cols_apply (Host.gather gather_S16x32x64x8x64_S32x8x1_S16x32x8x64x8x64_0345_1_n_n_1_2_16164864 x (rowTab V0)) (res_main_call5_v5 V0)
    b r a j κ h d ⟨_, bandStart_lt j κ⟩ (colTab_apply V0 j κ 0)
  rw [rows_apply x (rowTab V0) b r a _ h d ⟨_, rowStart_lt r a⟩ (rowTab_apply V0 r a)] at e
  unfold bandOf
  clean_types
  pointwise [colIn_apply V0]
  exact e

/-- The bias of a query against its window, minus infinity off the window. -/
def biasOf (x : FVec Ideal S8x15x31 .f32) : FVec Ideal S8x32x4x16x8x32 .f32 :=
  select (broadcastInDim S8x32x4x16x8x32 ![0, 1, 2, 3, 4, 5] bcast_S1x1x4x16x1x32_S8x32x4x16x8x32_0_1_2_3_4_5
      (broadcastInDim S1x1x4x16x1x32 ![2, 3, 5] bcast_S4x16x32_S1x1x4x16x1x32_2_3_5 (winMask V0)))
    (Host.gather gather_S8x15x31_S32x4x16x8x32x2_S8x32x4x16x8x32_0_12_n_n_12_5_811 x (offTab V0))
    (broadcastInDim S8x32x4x16x8x32 ![] bcast_S_S8x32x4x16x8x32 (id (constant S_ .f32 0xFF800000#32)))

theorem biasOf_apply (x : FVec Ideal S8x15x31 .f32) (h : Fin 8) (r : Fin 32) (j : Fin 4) (q : Fin 16) (a : Fin 8) (κ : Fin 32) :
    biasOf V0 x (ix6 h r j q a κ) =
      if colStart (16 * j.val + q.val) ≤ bandStart j.val + κ.val ∧ bandStart j.val + κ.val < colStart (16 * j.val + q.val) + 16
      then x (ix3 h ⟨_, rowOff_lt r a⟩ ⟨min 30 (bandStart j.val + κ.val + 15 - (16 * j.val + q.val)), by omega⟩) else ⊥ := by
  have e := bias_apply x (offTab V0) h r j q a κ ⟨_, rowOff_lt r a⟩ ⟨min 30 (bandStart j.val + κ.val + 15 - (16 * j.val + q.val)), by omega⟩
    (offTab_row V0 r j q a κ) (offTab_col V0 r j q a κ)
  unfold biasOf
  clean_types
  pointwise [winMask_apply V0]
  rw [e]
  split
  · rfl
  · exact Softmax.negInf

/-- The scores of each query against its window. -/
def winScores : FVec Ideal S16x8x32x4x16x8x32 .f32 :=
  addf (Host.dotGeneral dot_S16x32x4x16x8x64_S16x32x8x4x32x8x64_S16x8x32x4x16x8x32_5_6_3_24_0412_0513 none
      (queries (V0 (Proc.devRef .tc main_arg0)))
      (bandOf V0 (shapeCast _ (shapeCast _ (extf .f32 (V0 (Proc.devRef .tc main_arg2)) bitsLt_bf16_f32) shapeCasts_S16x2048x512_S16x2048x8x64) shapeCasts_S16x2048x8x64_S16x32x64x8x64)))
    (broadcastInDim S16x8x32x4x16x8x32 ![0, 1, 2, 3, 4, 5, 6] bcast_S1x8x32x4x16x8x32_S16x8x32x4x16x8x32_0_1_2_3_4_5_6
      (broadcastInDim S1x8x32x4x16x8x32 ![1, 2, 3, 4, 5, 6] bcast_S8x32x4x16x8x32_S1x8x32x4x16x8x32_1_2_3_4_5_6 (biasOf V0 (V0 (Proc.devRef .tc main_arg6)))))

/-- The scores of each query against the context keys. -/
def ctxScores : FVec Ideal S16x8x32x4x16x256 .f32 :=
  Host.dotGeneral dot_S16x32x4x16x8x64_S16x256x8x64_S16x8x32x4x16x256_5_3_123_1_04_02 none (queries (V0 (Proc.devRef .tc main_arg1)))
    (shapeCast _ (extf .f32 (V0 (Proc.devRef .tc main_arg4)) bitsLt_bf16_f32) shapeCasts_S16x256x512_S16x256x8x64)

theorem v117_eq : res_main_v117 V0 = concatenate S16x8x32x4x16x512 5
    [⟨S16x8x32x4x16x256, shapeCast _ (winScores V0) shapeCasts_S16x8x32x4x16x8x32_S16x8x32x4x16x256⟩, ⟨S16x8x32x4x16x256, ctxScores V0⟩]
    concatenates_S16x8x32x4x16x256_S16x8x32x4x16x256_S16x8x32x4x16x512_d5 := rfl

theorem winScores_apply (b : Fin 16) (h : Fin 8) (r : Fin 32) (j : Fin 4) (q : Fin 16) (a : Fin 8) (κ : Fin 32) :
    winScores V0 (ix7 b h r j q a κ) =
      (∑ d : Fin 64, qRot V0 (ix3 b ⟨r.val * 64 + j.val * 16 + q.val, by omega⟩ ⟨h.val * 64 + d.val, by omega⟩) *
        kRot V0 (ix3 b ⟨(rowStart r.val + a.val) * 64 + (bandStart j.val + κ.val), by unfold rowStart bandStart; omega⟩ ⟨h.val * 64 + d.val, by omega⟩)) +
      if colStart (16 * j.val + q.val) ≤ bandStart j.val + κ.val ∧ bandStart j.val + κ.val < colStart (16 * j.val + q.val) + 16
      then rpb V0 (ix3 h ⟨_, rowOff_lt r a⟩ ⟨min 30 (bandStart j.val + κ.val + 15 - (16 * j.val + q.val)), by omega⟩) else ⊥ := by
  unfold winScores
  clean_types
  pointwise [queries_apply, bandOf_apply V0, biasOf_apply V0]

theorem ctxScores_apply (b : Fin 16) (h : Fin 8) (r : Fin 32) (j : Fin 4) (q : Fin 16) (c : Fin 256) :
    ctxScores V0 (ix6 b h r j q c) =
      ∑ d : Fin 64, qPlain V0 (ix3 b ⟨r.val * 64 + j.val * 16 + q.val, by omega⟩ ⟨h.val * 64 + d.val, by omega⟩) *
        kCtx V0 (ix3 b c ⟨h.val * 64 + d.val, by omega⟩) := by
  unfold ctxScores
  clean_types
  pointwise [queries_apply]

theorem scores_win (b : Fin 16) (h : Fin 8) (r : Fin 32) (j : Fin 4) (q : Fin 16) (a : Fin 8) (κ : Fin 32) :
    (res_main_v117 V0 : FVec Ideal S16x8x32x4x16x512 .f32) (ix6 b h r j q ⟨a.val * 32 + κ.val, by omega⟩) = winScores V0 (ix7 b h r j q a κ) := by
  rw [v117_eq]
  pointwise
  rw [dif_pos (by omega)]

theorem scores_ctx (b : Fin 16) (h : Fin 8) (r : Fin 32) (j : Fin 4) (q : Fin 16) (c : Fin 256) :
    (res_main_v117 V0 : FVec Ideal S16x8x32x4x16x512 .f32) (ix6 b h r j q ⟨256 + c.val, by omega⟩) = ctxScores V0 (ix6 b h r j q c) := by
  rw [v117_eq]
  pointwise

end Cert.ReferenceIdeal.RefValue

end
-- ==== Proof.RefSoftmax.lean ====
/- The reference's softmax at an index: the weights of a query. -/
module

public import proofs.«01_k».proof.Proof.RefValue

@[expose] public section

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.Pointwise
open Cert.ReferenceIdeal.Facts Cert.ReferenceIdeal.Tables Cert.ReferenceIdeal.Gather

variable (V0 : Valuation τ sig (Elt Ideal))

/-- The positions that drop to a query are its 512 scores. -/
theorem drop_query (R : S16x8x32x4x16x512.ReducesTo [5] S16x8x32x4x16) (b : Fin 16) (h : Fin 8) (r : Fin 32) (j : Fin 4) (q : Fin 16)
    [DecidablePred fun i : S16x8x32x4x16x512.Idx => R.drop i = ix5 b h r j q] [DecidableEq S16x8x32x4x16x512.Idx] :
    (Finset.univ.filter fun i : S16x8x32x4x16x512.Idx => R.drop i = ix5 b h r j q) = Finset.univ.image fun x : Fin 512 => (ix6 b h r j q x : S16x8x32x4x16x512.Idx) := by
  ext i
  rw [eq_ix6 i]
  simp only [Finset.mem_filter, Finset.mem_univ, true_and, Finset.mem_image]
  constructor
  · intro e
    refine ⟨i 5, ?_⟩
    have e0 := congrFun e 0; have e1 := congrFun e 1; have e2 := congrFun e 2; have e3 := congrFun e 3; have e4 := congrFun e 4
    funext z
    match z with
    | ⟨0, _⟩ => exact e0.symm
    | ⟨1, _⟩ => exact e1.symm
    | ⟨2, _⟩ => exact e2.symm
    | ⟨3, _⟩ => exact e3.symm
    | ⟨4, _⟩ => exact e4.symm
    | ⟨5, _⟩ => rfl
  · rintro ⟨x, e⟩
    rw [← e]
    funext z
    match z with
    | ⟨0, _⟩ => rfl
    | ⟨1, _⟩ => rfl
    | ⟨2, _⟩ => rfl
    | ⟨3, _⟩ => rfl
    | ⟨4, _⟩ => rfl

theorem ix6_inj (b : Fin 16) (h : Fin 8) (r : Fin 32) (j : Fin 4) (q : Fin 16) :
    Function.Injective fun x : Fin 512 => (ix6 b h r j q x : S16x8x32x4x16x512.Idx) := fun x y e => congrFun e 5

/-- A query's largest score, from the initial value. -/
theorem max_query (R : S16x8x32x4x16x512.ReducesTo [5] S16x8x32x4x16) (f : FVec Ideal S16x8x32x4x16x512 .f32) (init : FVec Ideal S_ .f32) (hu : 0 < S_.numel)
    (b : Fin 16) (h : Fin 8) (r : Fin 32) (j : Fin 4) (q : Fin 16) :
    Host.reduce FloatOps.maximumf f init R hu (ix5 b h r j q)
      = Finset.fold max (init (Shape.Idx.first hu)) (fun x : Fin 512 => f (ix6 b h r j q x)) Finset.univ := by
  classical
  rw [Host.reduce_eq_fold, drop_query, Finset.fold_image fun x _ y _ e => ix6_inj b h r j q e]
  rfl

/-- The sum of a query's weights. -/
theorem sum_query (R : S16x8x32x4x16x512.ReducesTo [5] S16x8x32x4x16) (f : S16x8x32x4x16x512.Idx → EReal) (z : EReal)
    (b : Fin 16) (h : Fin 8) (r : Fin 32) (j : Fin 4) (q : Fin 16) :
    Ideal.hostReduceAdd R f z (ix5 b h r j q) = z + ∑ x : Fin 512, f (ix6 b h r j q x) := by
  unfold Ideal.hostReduceAdd
  rw [drop_query, Finset.sum_image fun x _ y _ e => ix6_inj b h r j q e]

/-- A query's scores. -/
def score (b : Fin 16) (h : Fin 8) (r : Fin 32) (j : Fin 4) (q : Fin 16) (x : Fin 512) : EReal :=
  (res_main_v117 V0 : FVec Ideal S16x8x32x4x16x512 .f32) (ix6 b h r j q x)

/-- The larger of two vectors, at an index. -/
theorem larger_apply {S : Shape} (x y : FVec Ideal S .f32) (i : S.Idx) : maximumf x y i = (max (x i) (y i) : EReal) := rfl

theorem const_apply {S : Shape} (i : S.Idx) : (constant S .f32 0xFF800000#32 : FVec Ideal S .f32) i = (⊥ : EReal) := Softmax.negInf

/-- The largest score of each query. -/
def maxOf (x : FVec Ideal S16x8x32x4x16x512 .f32) : FVec Ideal S16x8x32x4x16 .f32 :=
  maximumf (broadcastInDim S16x8x32x4x16 ![] bcast_S_S16x8x32x4x16 (constant S_ .f32 0xFF800000#32)) (Host.reduce FloatOps.maximumf x (constant S_ .f32 0xFF800000#32) reducesTo_S16x8x32x4x16x512_S16x8x32x4x16_d5 h_S_)

theorem maxOf_apply (x : FVec Ideal S16x8x32x4x16x512 .f32) (b : Fin 16) (h : Fin 8) (r : Fin 32) (j : Fin 4) (q : Fin 16) :
    maxOf x (ix5 b h r j q) = max ⊥ (Finset.fold max ⊥ (fun z : Fin 512 => x (ix6 b h r j q z)) Finset.univ) := by
  unfold maxOf
  rw [larger_apply, max_query, const_apply]
  refine congrArg (fun z => max z _) ?_
  unfold broadcastInDim
  exact const_apply _

/-- The exponentials of scores below their largest. -/
def expsOf (x : FVec Ideal S16x8x32x4x16x512 .f32) : FVec Ideal S16x8x32x4x16x512 .f32 :=
  Host.exp (subf x (broadcastInDim S16x8x32x4x16x512 ![0, 1, 2, 3, 4, 5] bcast_S16x8x32x4x16x1_S16x8x32x4x16x512_0_1_2_3_4_5 (broadcastInDim S16x8x32x4x16x1 ![0, 1, 2, 3, 4] bcast_S16x8x32x4x16_S16x8x32x4x16x1_0_1_2_3_4 (maxOf x))))

theorem expsOf_apply (x : FVec Ideal S16x8x32x4x16x512 .f32) (b : Fin 16) (h : Fin 8) (r : Fin 32) (j : Fin 4) (q : Fin 16) (y : Fin 512) :
    expsOf x (ix6 b h r j q y) = Ideal.exp (x (ix6 b h r j q y) - max ⊥ (Finset.fold max ⊥ (fun z : Fin 512 => x (ix6 b h r j q z)) Finset.univ)) := by
  unfold expsOf
  pointwise [maxOf_apply]

/-- Exponentials divided by their sum. -/
def overSum (x : FVec Ideal S16x8x32x4x16x512 .f32) : FVec Ideal S16x8x32x4x16x512 .f32 :=
  Host.divf x (broadcastInDim S16x8x32x4x16x512 ![0, 1, 2, 3, 4, 5] bcast_S16x8x32x4x16x1_S16x8x32x4x16x512_0_1_2_3_4_5 (broadcastInDim S16x8x32x4x16x1 ![0, 1, 2, 3, 4] bcast_S16x8x32x4x16_S16x8x32x4x16x1_0_1_2_3_4 (Host.reduceAdd x (constant S_ .f32 0x00000000#32) reducesTo_S16x8x32x4x16x512_S16x8x32x4x16_d5 h_S_)))

theorem overSum_apply (x : FVec Ideal S16x8x32x4x16x512 .f32) (b : Fin 16) (h : Fin 8) (r : Fin 32) (j : Fin 4) (q : Fin 16) (y : Fin 512) :
    overSum x (ix6 b h r j q y) = Ideal.div (x (ix6 b h r j q y)) (∑ z : Fin 512, x (ix6 b h r j q z)) := by
  unfold overSum
  pointwise [sum_query]

/-- A query's weights. -/
theorem weights_apply (b : Fin 16) (h : Fin 8) (r : Fin 32) (j : Fin 4) (q : Fin 16) (x : Fin 512) :
    (res_main_v128 V0 : FVec Ideal S16x8x32x4x16x512 .f32) (ix6 b h r j q x) =
      Ideal.div (Ideal.exp (score V0 b h r j q x - max ⊥ (Finset.fold max ⊥ (score V0 b h r j q) Finset.univ)))
        (∑ y, Ideal.exp (score V0 b h r j q y - max ⊥ (Finset.fold max ⊥ (score V0 b h r j q) Finset.univ))) := by
  have e : (res_main_v128 V0 : FVec Ideal S16x8x32x4x16x512 .f32) = overSum (expsOf (res_main_v117 V0)) := rfl
  rw [e, overSum_apply]
  simp only [expsOf_apply]
  rfl

end Cert.ReferenceIdeal.RefValue

end
-- ==== Proof.RefOutput.lean ====
/- The reference's result at an index: the weights applied to the values of the window and of the context. -/
module

public import proofs.«01_k».proof.Proof.RefSoftmax

@[expose] public section

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.Pointwise Idealize.ShloMosaic.StableHlo
open Cert.ReferenceIdeal.Facts Cert.ReferenceIdeal.Tables Cert.ReferenceIdeal.Gather

variable (V0 : Valuation τ sig (Elt Ideal))

/-- The weights of every query. -/
abbrev weights : FVec Ideal S16x8x32x4x16x512 .f32 := res_main_v128 V0

/-- The reference's result. -/
def result : FVec Ideal S16x2048x512 .bf16 :=
  truncf .bf16 (shapeCast _ (addf (transpose S16x32x4x16x8x64 [0, 1, 2, 5, 3, 4] (Host.dotGeneral dot_S16x32x8x4x32x8x64_S16x8x32x4x16x8x32_S16x32x4x8x64x16_24_56_6_4_0135_0231 none (bandOf V0 (shapeCast _ (shapeCast _ (extractStridedSlice S16x2048x512 ![0, 0, 1024] (extf .f32 (V0 (Proc.devRef .tc main_arg3)) bitsLt_bf16_f32) slices_S16x2048x5120_S16x2048x512_0_0_1024) shapeCasts_S16x2048x512_S16x2048x8x64) shapeCasts_S16x2048x8x64_S16x32x64x8x64)) (shapeCast _ (extractStridedSlice S16x8x32x4x16x256 ![0, 0, 0, 0, 0, 0] (weights V0) slices_S16x8x32x4x16x512_S16x8x32x4x16x256_0_0_0_0_0_0) shapeCasts_S16x8x32x4x16x256_S16x8x32x4x16x8x32)) transposes_S16x32x4x8x64x16_S16x32x4x16x8x64_0_1_2_5_3_4) (transpose S16x32x4x16x8x64 [0, 3, 4, 5, 1, 2] (Host.dotGeneral dot_S16x256x8x64_S16x8x32x4x16x256_S16x8x64x32x4x16_1_5_3_234_02_01 none (shapeCast _ (extractStridedSlice S16x256x512 ![0, 0, 1024] (extf .f32 (V0 (Proc.devRef .tc main_arg5)) bitsLt_bf16_f32) slices_S16x256x5120_S16x256x512_0_0_1024) shapeCasts_S16x256x512_S16x256x8x64) (extractStridedSlice S16x8x32x4x16x256 ![0, 0, 0, 0, 0, 256] (weights V0) slices_S16x8x32x4x16x512_S16x8x32x4x16x256_0_0_0_0_0_256)) transposes_S16x8x64x32x4x16_S16x32x4x16x8x64_0_3_4_5_1_2)) shapeCasts_S16x32x4x16x8x64_S16x2048x512) bitsLt_bf16_f32

/-- The result at batch `b`, query `n` and lane `l`. -/
theorem result_apply (b : Fin 16) (n : Fin 2048) (l : Fin 512) : result V0 (ix3 b n l) =
    Softmax.dividedPV (score V0 b ⟨l.val / 64, by omega⟩ ⟨n.val / 64, by omega⟩ ⟨n.val / 16 % 4, by omega⟩ ⟨n.val % 16, by omega⟩)
      (fun a κ => vals V0 (ix3 b ⟨(rowStart (n.val / 64) + a.val) * 64 + (bandStart (n.val / 16 % 4) + κ.val), by unfold rowStart bandStart; omega⟩
        ⟨1024 + l.val, by omega⟩))
      (fun c => vCtx V0 (ix3 b c ⟨1024 + l.val, by omega⟩)) := by
  unfold result Softmax.dividedPV
  clean_types
  pointwise [bandOf_apply V0, weights_apply V0]

/-- The reference leaves `result` of its arguments. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v138) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

end Cert.ReferenceIdeal.RefValue

end
-- ==== Proof.Equation.lean ====
/- The kernel's value is the reference's result where the queries, the keys and the bias table are real. -/
module

public import proofs.«01_k».proof.Proof.Geometry
public import proofs.«01_k».proof.Proof.RefOutput

@[expose] public section

set_option maxRecDepth 16384

noncomputable section

namespace Cert.Equation

open Idealize.ShloMosaic Idealize.ShloMosaic.Pointwise
open Cert.Softmax
open Cert.KernelIdeal.Bias (tileRow)
open Cert.KernelIdeal.Geometry (biasAt keyAt winScore ctxScore value)
open Cert.ReferenceIdeal.Tables (rowStart bandStart colStart)
open Cert.ReferenceIdeal.RefValue (qRot qPlain kRot vals kCtx vCtx rpb score result result_apply scores_win scores_ctx winScores_apply ctxScores_apply rowOff_lt)

/-- A real number among the extended reals. -/
def Real (x : EReal) : Prop := x ≠ ⊤ ∧ x ≠ ⊥

theorem real_mul {x y : EReal} (hx : Real x) (hy : Real y) : Real (x * y) := by
  lift x to ℝ using hx
  lift y to ℝ using hy
  exact ⟨EReal.coe_ne_top (x * y), EReal.coe_ne_bot (x * y)⟩

theorem real_add {x y : EReal} (hx : Real x) (hy : Real y) : Real (x + y) := by
  lift x to ℝ using hx
  lift y to ℝ using hy
  exact ⟨EReal.coe_ne_top (x + y), EReal.coe_ne_bot (x + y)⟩

/-- A sum of products of reals is real. -/
theorem real_dot {ι : Type} (s : Finset ι) (f g : ι → EReal) (hf : ∀ i, Real (f i)) (hg : ∀ i, Real (g i)) : Real (∑ i ∈ s, f i * g i) :=
  Finset.sum_induction _ Real (fun _ _ => real_add) ⟨EReal.zero_ne_top, EReal.zero_ne_bot⟩ fun i _ => real_mul (hf i) (hg i)

/-- The key of a query's tile that is the window's key in row `a` and column `κ` of the band. -/
def key (n : Fin 2048) (i : Fin 8 × Fin 32) : Fin 768 :=
  ⟨(rowStart (n.val / 64) + i.1.val - tileRow (n.val / 64)) * 64 + (bandStart (n.val / 16 % 4) + i.2.val), by
    unfold rowStart tileRow bandStart; omega⟩

theorem tileRow_le (r : ℕ) : tileRow r ≤ rowStart r := by unfold tileRow rowStart; omega

theorem key_injective (n : Fin 2048) : Function.Injective (key n) := by
  rintro ⟨a, κ⟩ ⟨a', κ'⟩ h
  have h := congrArg Fin.val h
  have := tileRow_le (n.val / 64)
  have hb : bandStart (n.val / 16 % 4) ≤ 32 := by unfold bandStart; omega
  simp only [key] at h
  exact Prod.ext (Fin.ext (by dsimp only; omega)) (Fin.ext (by dsimp only; omega))

/-- The window's key is the array's row of keys it was gathered from. -/
theorem keyAt_key (n : Fin 2048) (a : Fin 8) (κ : Fin 32) :
    (keyAt n (key n (a, κ))).val = (rowStart (n.val / 64) + a.val) * 64 + (bandStart (n.val / 16 % 4) + κ.val) := by
  have := tileRow_le (n.val / 64)
  simp only [keyAt, key]
  omega

/-- A key of the tile outside the window has no finite bias. -/
theorem bias_off (t : (⟨3, ![8, 15, 31]⟩ : Shape).Idx → EReal) (h : Fin 8) (n : Fin 2048) (x : Fin 768) (hx : x ∉ Set.range (key n)) : biasAt t h n x = ⊥ := by
  unfold biasAt
  split_ifs with hr hc
  · refine absurd ⟨(⟨tileRow (n.val / 64) + x.val / 64 - rowStart (n.val / 64), by omega⟩,
      ⟨x.val % 64 - bandStart (n.val / 16 % 4), by unfold colStart at hc; unfold bandStart; omega⟩), ?_⟩ hx
    refine Fin.ext ?_
    have := tileRow_le (n.val / 64)
    have hb : bandStart (n.val / 16 % 4) ≤ x.val % 64 := by unfold colStart at hc; unfold bandStart; omega
    simp only [key]
    omega
  · rfl
  · rfl

theorem bias_ne_top (t : (⟨3, ![8, 15, 31]⟩ : Shape).Idx → EReal) (ht : ∀ i, Real (t i)) (h : Fin 8) (n : Fin 2048) (x : Fin 768) : biasAt t h n x ≠ ⊤ := by
  unfold biasAt
  split_ifs
  · exact (ht _).1
  · exact bot_ne_top
  · exact bot_ne_top

/-- The bias of the window's key in row `a` and column `κ` of the band. -/
theorem bias_key (t : (⟨3, ![8, 15, 31]⟩ : Shape).Idx → EReal) (h : Fin 8) (n : Fin 2048) (a : Fin 8) (κ : Fin 32) :
    biasAt t h n (key n (a, κ)) =
      if colStart (16 * (n.val / 16 % 4) + n.val % 16) ≤ bandStart (n.val / 16 % 4) + κ.val
        ∧ bandStart (n.val / 16 % 4) + κ.val < colStart (16 * (n.val / 16 % 4) + n.val % 16) + 16
      then t (ix3 h ⟨_, rowOff_lt ⟨n.val / 64, by omega⟩ a⟩ ⟨min 30 (bandStart (n.val / 16 % 4) + κ.val + 15 - (16 * (n.val / 16 % 4) + n.val % 16)), by omega⟩)
      else ⊥ := by
  have hn : 16 * (n.val / 16 % 4) + n.val % 16 = n.val % 64 := by omega
  have hb : bandStart (n.val / 16 % 4) + κ.val < 64 := by unfold bandStart; omega
  have hle := tileRow_le (n.val / 64)
  have hrow : (key n (a, κ)).val / 64 = rowStart (n.val / 64) + a.val - tileRow (n.val / 64) := by simp only [key]; omega
  have hcol : (key n (a, κ)).val % 64 = bandStart (n.val / 16 % 4) + κ.val := by simp only [key]; omega
  have hrow' : tileRow (n.val / 64) + (key n (a, κ)).val / 64 = rowStart (n.val / 64) + a.val := by omega
  have hoff := rowOff_lt ⟨n.val / 64, by omega⟩ a
  unfold biasAt
  rw [if_pos (by omega)]
  simp only [hrow', hcol, hn]
  split_ifs
  · refine congrArg t (congrArg (fun x => ix3 h x _) (Fin.ext ?_))
    dsimp only at hoff ⊢
    omega
  · rfl

variable (V0 : Valuation Cert.ReferenceIdeal.τ Cert.ReferenceIdeal.sig (Elt Ideal))

/-- Where the queries, the keys and the bias table are real, the kernel's value is the reference's result. -/
theorem value_eq (hq : ∀ i, Real (qRot V0 i)) (hqp : ∀ i, Real (qPlain V0 i)) (hk : ∀ i, Real (kRot V0 i)) (hkc : ∀ i, Real (kCtx V0 i))
    (hr : ∀ i, Real (rpb V0 i)) (b : Fin 16) (n : Fin 2048) (l : Fin 512) :
    value (qRot V0) (qPlain V0) (kRot V0) (vals V0) (kCtx V0) (vCtx V0) (rpb V0) b n l = result V0 (ix3 b n l) := by
  have hn : n.val / 64 * 64 + n.val / 16 % 4 * 16 + n.val % 16 = n.val := by omega
  rw [result_apply]
  unfold value
  refine (softmaxPV_eq _ _ (score V0 b ⟨l.val / 64, by omega⟩ ⟨n.val / 64, by omega⟩ ⟨n.val / 16 % 4, by omega⟩ ⟨n.val % 16, by omega⟩)
    (key n) (key_injective n) ?_ ?_ ?_ ?_ ?_ ?_ _ _).trans ?_
  · intro x hx
    unfold winScore
    rw [bias_off _ _ _ _ hx, EReal.add_bot]
  · intro x
    unfold winScore
    exact EReal.add_ne_top (real_dot _ _ _ (fun _ => hq _) fun _ => hk _).1 (bias_ne_top _ hr _ _ _)
  · intro j
    exact (real_dot _ _ _ (fun _ => hqp _) fun _ => hkc _).1
  · intro j
    exact (real_dot _ _ _ (fun _ => hqp _) fun _ => hkc _).2
  · rintro ⟨a, κ⟩
    refine (scores_win V0 _ _ _ _ _ a κ).trans ((winScores_apply V0 _ _ _ _ _ a κ).trans ?_)
    unfold winScore
    refine congrArg₂ (· + ·) (Finset.sum_congr rfl fun d _ => congrArg₂ (· * ·) ?_ ?_) (bias_key (rpb V0) _ n a κ).symm
    · exact congrArg (fun x => qRot V0 (ix3 b x _)) (Fin.ext hn)
    · exact congrArg (fun x => kRot V0 (ix3 b x _)) (Fin.ext (keyAt_key n a κ).symm)
  · intro c
    refine (scores_ctx V0 _ _ _ _ _ c).trans ((ctxScores_apply V0 _ _ _ _ _ c).trans ?_)
    unfold ctxScore
    exact Finset.sum_congr rfl fun d _ => congrArg₂ (· * ·) (congrArg (fun x => qPlain V0 (ix3 b x _)) (Fin.ext hn)) rfl
  · refine congrArg (fun f => dividedPV _ f _) (funext fun a => funext fun κ => ?_)
    exact congrArg (fun x => vals V0 (ix3 b x _)) (Fin.ext (keyAt_key n a κ))

end Cert.Equation

end
-- ==== Proof.ProjectSame.lean ====
/- The projection kernel as printed and its idealized kernel have one text. -/
module

public import proofs.«01_k».proof.Proof.Gen.Kernel2
public import proofs.«01_k».proof.Proof.Gen.Kernel2Ideal

@[expose] public section

set_option maxRecDepth 65536
set_option maxHeartbeats 0

noncomputable section

namespace Cert.ProjectSame

open Idealize.ShloMosaic Idealize.SL.Sem

variable {F : FTy → Type} [FloatOps F]

attribute [local instance] Cert.Kernel2.Gen.facts Cert.Kernel2Ideal.Gen.facts

/-- The kernels' body tables. -/
theorem bodies : Cert.Kernel2.defs₀ (F := F) = Cert.Kernel2Ideal.defs₀ (F := F) :=
  congrArg Defs.onTc (funext fun l => funext fun a => by
    match l, a with
    | 0, (t, s) =>
      show Cert.Kernel2.cc0_norm_mod_proj _ _ _ _ _ _ _ _ _ _ _ _ _ _ _ = Cert.Kernel2Ideal.cc0_norm_mod_proj _ _ _ _ _ _ _ _ _ _ _ _ _ _ _
      rfl)

/-- The label tables. -/
theorem tables : Cert.Kernel2.defs (F := F) = Cert.Kernel2Ideal.defs (F := F) :=
  congrArg (Pipeline.defs Cert.Kernel2.pcfgs) bodies

/-- The mains. -/
theorem mains : Cert.Kernel2.main (F := F) = Cert.Kernel2Ideal.main (F := F) := rfl

end Cert.ProjectSame

end
-- ==== Proof.Project.lean ====
/- The projection kernel's blocks: the normalised and modulated rows that it keeps, and their product with a block of weights. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.Project

open Cert.Kernel2Ideal Cert.Kernel2Ideal.Gen Idealize.ShloMosaic Idealize.ShloMosaic.TcCoe Idealize.SL.Sem
open Idealize.ShloMosaic.Pipeline (Dat)
open Idealize.ShloMosaic.Pointwise
open Cert.Kernel2Ideal.Facts

section Blocks

variable {F : FTy → Type} [FloatOps F]

/-- Each row's reciprocal root of its mean square. -/
def scale (x : FVec F S1024x1024 .f32) : FVec F S1024x1 .f32 :=
  rsqrt (addf
    (divf (shapeCast S1024x1 (multiReduction .add [1] S1024 (mulf x x) 0x00000000#32 reduces_S1024x1024_S1024 (.inl rfl) rfl) shapeCasts_S1024_S1024x1)
      (broadcast S1024x1 (Scalar.ofBits .f32 0x44800000#32 : F .f32)))
    (broadcast S1024x1 (Scalar.ofBits .f32 0x358637BD#32 : F .f32)))

/-- The rows divided by their root mean square, scaled and modulated. -/
def rows (x : Vec F S1x1024x1024 .f32) (g : Vec F S1x1024 .f32) (sc sh : Vec F S1x1x1024 .f32) : FVec F S1024x1024 .bf16 :=
  shapeCast S1024x1024
    (truncf .bf16
      (addf
        (mulf
          (mulf
            (mulf (shapeCast S1024x1024 x shapeCasts_S1x1024x1024_S1024x1024)
              (broadcastTo S1024x1024 (scale (shapeCast S1024x1024 x shapeCasts_S1x1024x1024_S1024x1024)) broadcasts_S1024x1_S1024x1024))
            (broadcastTo S1024x1024 (shapeCast S1x1024 g shapeCasts_S1x1024_S1x1024) broadcasts_S1x1024_S1024x1024))
          (broadcastTo S1024x1024
            (addf (broadcast S1x1024 (Scalar.ofBits .f32 0x3F800000#32 : F .f32)) (shapeCast S1x1024 sc shapeCasts_S1x1x1024_S1x1024))
            broadcasts_S1x1024_S1024x1024))
        (broadcastTo S1024x1024 (shapeCast S1x1024 sh shapeCasts_S1x1x1024_S1x1024) broadcasts_S1x1024_S1024x1024))
      bitsLt_bf16_f32)
    shapeCasts_S1024x1024_S1024x1024

/-- The rows' product with a block of weights. -/
def product (h : Vec F S1024x1024 .bf16) (w : Vec F S1024x1280 .bf16) : Vec F S1x1024x1280 .bf16 :=
  shapeCast S1x1024x1280
    (truncf .bf16
      (matmul dot_S1024x1024_S1024x1280_S1024x1280_1_0_0_1_n_n none h (shapeCast S1024x1280 w shapeCasts_S1024x1280_S1024x1280)
        (constant S1024x1280 .f32 0x00000000#32)) bitsLt_bf16_f32)
    shapeCasts_S1024x1280_S1x1024x1280

variable (m : (ℓ : Loc nD τ sig) → Buf (Elt F) ℓ) (c : Dev nD)

/-- A run's first point keeps its rows. -/
theorem kept_first (t : Fin cfg0.N) (h : t.val % 4 = 0) :
    (outsAt0 m c t.val t.isLt).2 = rows (iblk m c 0 t) (iblk m c 1 t) (iblk m c 2 t) (iblk m c 3 t) := by
  rw [outsAt0_A m c t h]
  frame_out
  rfl

/-- A run's first point writes the product of its own rows. -/
theorem out_first (t : Fin cfg0.N) (h : t.val % 4 = 0) :
    (outsAt0 m c t.val t.isLt).1 = product (rows (iblk m c 0 t) (iblk m c 1 t) (iblk m c 2 t) (iblk m c 3 t)) (iblk m c 4 t) := by
  rw [outsAt0_A m c t h]
  frame_out
  rfl

/-- A later point keeps what it found. -/
theorem kept_later (t : Fin cfg0.N) (h : ¬t.val % 4 = 0) :
    (outsAt0 m c t.val t.isLt).2 = (outsAt0 m c (t.val - 1) (Nat.lt_of_le_of_lt (Nat.sub_le _ _) t.isLt)).2 := by
  rw [outsAt0_B m c t h]
  rfl

/-- A later point writes the product of the rows that it found. -/
theorem out_later (t : Fin cfg0.N) (h : ¬t.val % 4 = 0) :
    (outsAt0 m c t.val t.isLt).1 = product (outsAt0 m c (t.val - 1) (Nat.lt_of_le_of_lt (Nat.sub_le _ _) t.isLt)).2 (iblk m c 4 t) := by
  rw [outsAt0_B m c t h]
  frame_out
  exact congrArg (fun h => product h (iblk m c 4 t)) ((Memref.isWhole_whole cc0_scratch0).read_unread _)

end Blocks

variable (m : (ℓ : Loc nD τ sig) → Buf (Elt Ideal) ℓ) (c : Dev nD)

/-- The tokens. -/
abbrev tokens : S16x2048x1024.Idx → EReal := m ((c : Thread nD τ).loc main_arg0)
/-- The norm's weights. -/
abbrev gain : S1024.Idx → EReal := m ((c : Thread nD τ).loc main_arg1)
/-- The modulation's scales. -/
abbrev modScale : S16x1x1024.Idx → EReal := m ((c : Thread nD τ).loc main_arg2)
/-- The modulation's shifts. -/
abbrev modShift : S16x1x1024.Idx → EReal := m ((c : Thread nD τ).loc main_arg3)
/-- The weights of the projection. -/
abbrev weights : S1024x5120.Idx → EReal := m ((c : Thread nD τ).loc main_arg4)

/-- The normalised and modulated entry `k` of a row. -/
def modulated (x g sc sh : Fin 1024 → EReal) (k : Fin 1024) : EReal :=
  x k * Ideal.rsqrt (Ideal.div (∑ d : Fin 1024, x d * x d) (Ideal.ofBits .f32 0x44800000#32) + Ideal.ofBits .f32 0x358637BD#32) * g k
    * (Ideal.ofBits .f32 0x3F800000#32 + sc k) + sh k

theorem rows_apply (x : Vec Ideal S1x1024x1024 .f32) (g : Vec Ideal S1x1024 .f32) (sc sh : Vec Ideal S1x1x1024 .f32) (r k : Fin 1024) :
    rows x g sc sh (ix2 r k) = modulated (fun d => x (ix3 0 r d)) (fun d => g (ix2 0 d)) (fun d => sc (ix3 0 0 d)) (fun d => sh (ix3 0 0 d)) k := by
  unfold rows scale modulated
  pointwise

theorem product_apply (h : Vec Ideal S1024x1024 .bf16) (w : Vec Ideal S1024x1280 .bf16) (r : Fin 1024) (j : Fin 1280) :
    product h w (ix3 0 r j) = (∑ k : Fin 1024, h (ix2 r k) * w (ix2 k j) : EReal) := by
  unfold product
  pointwise

end Cert.Kernel2Ideal.Project

end
-- ==== Proof.ProjectValue.lean ====
/- The projection kernel's result at an index, and the reference's: the same sum of products. -/
module

public import proofs.«01_k».proof.Proof.Project
public import proofs.«01_k».proof.Proof.Gen.Reference2Ideal.Run

@[expose] public section

set_option maxRecDepth 16384

noncomputable section

namespace Cert.Kernel2Ideal.Project

open Cert.Kernel2Ideal Cert.Kernel2Ideal.Gen Idealize.ShloMosaic Idealize.ShloMosaic.TcCoe Idealize.SL.Sem
open Idealize.ShloMosaic.Pipeline (Dat)
open Idealize.ShloMosaic.Pointwise
open Cert.Kernel2Ideal.Facts

/-- The projection of token `n` of sample `b` onto column `j`. -/
def value (x : S16x2048x1024.Idx → EReal) (g : S1024.Idx → EReal) (sc sh : S16x1x1024.Idx → EReal) (w : S1024x5120.Idx → EReal)
    (b : Fin 16) (n : Fin 2048) (j : Fin 5120) : EReal :=
  ∑ k : Fin 1024, modulated (fun d => x (ix3 b n d)) (fun d => g (ix1 d)) (fun d => sc (ix3 b 0 d)) (fun d => sh (ix3 b 0 d)) k * w (ix2 k j)

variable (m : (ℓ : Loc nD τ sig) → Buf (Elt Ideal) ℓ) (c : Dev nD)

/-- Every window's block index at every point (decided). -/
theorem idx : ∀ t : Fin cfg0.N,
    win0_0.index t = ![t.val / 8, t.val / 4 % 2, 0] ∧ win0_1.index t = ![0, 0] ∧ win0_2.index t = ![t.val / 8, 0, 0]
    ∧ win0_3.index t = ![t.val / 8, 0, 0] ∧ win0_4.index t = ![0, t.val % 4] ∧ win0_5.index t = ![t.val / 8, t.val / 4 % 2, t.val % 4] :=
  (by decide +kernel : ∀ t : Fin grid0.N, _)

/-- A point's tokens. -/
theorem block0 (t : Fin cfg0.N) (r k : Fin 1024) :
    (iblk m c 0 t : S1x1024x1024.Idx → EReal) (ix3 0 r k)
      = tokens m c (ix3 ⟨t.val / 8, by have : t.val < 128 := t.isLt; omega⟩ ⟨t.val / 4 % 2 * 1024 + r.val, by omega⟩ k) := by
  obtain ⟨e0, e1, e2, e3, e4, e5⟩ := idx t
  blk_simp [iblk]
  rw [V_main_arg0]
  refine congrArg (tokens m c) ?_
  blk_ext [e0]

/-- The norm's weights as the region finds them. -/
theorem gain_at (k : Fin 1024) : (V m c main_v1 : S1x1024.Idx → EReal) (ix2 0 k) = gain m c (ix1 k) := by
  unfold V
  after_results
  pointwise

/-- The norm's weights at a point. -/
theorem block1 (t : Fin cfg0.N) (k : Fin 1024) : (iblk m c 1 t : S1x1024.Idx → EReal) (ix2 0 k) = gain m c (ix1 k) := by
  obtain ⟨e0, e1, e2, e3, e4, e5⟩ := idx t
  refine Eq.trans ?_ (gain_at m c k)
  blk_simp [iblk]
  refine congrArg (V m c main_v1 : S1x1024.Idx → EReal) ?_
  blk_ext [e1]

/-- A point's scales. -/
theorem block2 (t : Fin cfg0.N) (k : Fin 1024) :
    (iblk m c 2 t : S1x1x1024.Idx → EReal) (ix3 0 0 k) = modScale m c (ix3 ⟨t.val / 8, by have : t.val < 128 := t.isLt; omega⟩ 0 k) := by
  obtain ⟨e0, e1, e2, e3, e4, e5⟩ := idx t
  blk_simp [iblk]
  rw [V_main_arg2]
  refine congrArg (modScale m c) ?_
  blk_ext [e2]

/-- A point's shifts. -/
theorem block3 (t : Fin cfg0.N) (k : Fin 1024) :
    (iblk m c 3 t : S1x1x1024.Idx → EReal) (ix3 0 0 k) = modShift m c (ix3 ⟨t.val / 8, by have : t.val < 128 := t.isLt; omega⟩ 0 k) := by
  obtain ⟨e0, e1, e2, e3, e4, e5⟩ := idx t
  blk_simp [iblk]
  rw [V_main_arg3]
  refine congrArg (modShift m c) ?_
  blk_ext [e3]

/-- The projection's weights as the region finds them. -/
theorem weights_at (k : Fin 1024) (j : Fin 5120) : (V m c main_v0 : S1024x5120.Idx → EReal) (ix2 k j) = weights m c (ix2 k j) := by
  unfold V
  after_results
  pointwise

/-- A point's columns of the projection's weights. -/
theorem block4 (t : Fin cfg0.N) (k : Fin 1024) (j : Fin 1280) :
    (iblk m c 4 t : S1024x1280.Idx → EReal) (ix2 k j) = weights m c (ix2 k ⟨t.val % 4 * 1280 + j.val, by omega⟩) := by
  obtain ⟨e0, e1, e2, e3, e4, e5⟩ := idx t
  refine Eq.trans ?_ (weights_at m c k _)
  blk_simp [iblk]
  refine congrArg (V m c main_v0 : S1024x5120.Idx → EReal) ?_
  blk_ext [e4]

/-- Token `n` of sample `b`, normalised and modulated. -/
abbrev hidden (b : Fin 16) (n : Fin 2048) : Fin 1024 → EReal :=
  modulated (fun d => tokens m c (ix3 b n d)) (fun d => gain m c (ix1 d)) (fun d => modScale m c (ix3 b 0 d)) (fun d => modShift m c (ix3 b 0 d))

/-- The rows of a point's blocks. -/
theorem rows_at (t : Fin cfg0.N) (r k : Fin 1024) :
    rows (F := Ideal) (iblk m c 0 t) (iblk m c 1 t) (iblk m c 2 t) (iblk m c 3 t) (ix2 r k)
      = hidden m c ⟨t.val / 8, by have : t.val < 128 := t.isLt; omega⟩ ⟨t.val / 4 % 2 * 1024 + r.val, by omega⟩ k := by
  refine (rows_apply _ _ _ _ r k).trans ?_
  unfold hidden
  congr 1
  · exact funext fun d => block0 m c t r d
  · exact funext fun d => block1 m c t d
  · exact funext fun d => block2 m c t d
  · exact funext fun d => block3 m c t d

/-- Every point keeps the rows of its own batch and block of tokens: later points find those of their run's first. -/
theorem kept_at : ∀ (n : ℕ) (h : n < cfg0.N) (r k : Fin 1024),
    (outsAt0 m c n h).2 (ix2 r k)
      = hidden m c ⟨n / 8, by have : n < 128 := h; omega⟩ ⟨n / 4 % 2 * 1024 + r.val, by omega⟩ k
  | 0, h, r, k => (congrFun (kept_first m c ⟨0, h⟩ rfl) _).trans (rows_at m c ⟨0, h⟩ r k)
  | n + 1, h, r, k => by
    by_cases h0 : (n + 1) % 4 = 0
    · exact (congrFun (kept_first m c ⟨n + 1, h⟩ h0) _).trans (rows_at m c ⟨n + 1, h⟩ r k)
    · refine (congrFun (kept_later m c ⟨n + 1, h⟩ h0) _).trans ((kept_at n (Nat.lt_of_succ_lt h) r k).trans ?_)
      have e1 : n / 8 = (n + 1) / 8 := by omega
      have e2 : n / 4 % 2 = (n + 1) / 4 % 2 := by omega
      simp only [e1, e2]

/-- What every point writes, at a token and a column of its block. -/
theorem out_at (t : Fin cfg0.N) (r : Fin 1024) (j : Fin 1280) :
    (outsAt0 m c t.val t.isLt).1 (ix3 0 r j)
      = value (tokens m c) (gain m c) (modScale m c) (modShift m c) (weights m c) ⟨t.val / 8, by have : t.val < 128 := t.isLt; omega⟩
          ⟨t.val / 4 % 2 * 1024 + r.val, by omega⟩ ⟨t.val % 4 * 1280 + j.val, by omega⟩ := by
  have key : (outsAt0 m c t.val t.isLt).1 = product (outsAt0 m c t.val t.isLt).2 (iblk m c 4 t) := by
    by_cases h : t.val % 4 = 0
    · rw [out_first m c t h, kept_first m c t h]
    · rw [out_later m c t h, kept_later m c t h]
  refine (congrFun key _).trans ((product_apply _ _ r j).trans ?_)
  unfold value
  refine Finset.sum_congr rfl fun k _ => ?_
  exact congrArg₂ (fun a b : EReal => a * b) (kept_at m c t.val t.isLt r k) (block4 m c t k j)

/-- The result array of the launch, an index at a time. -/
theorem final : (dats m 0 c).arrAt 5 cfg0.N = fun i : S16x2048x5120.Idx =>
    value (tokens m c) (gain m c) (modScale m c) (modShift m c) (weights m c) (i 0) (i 1) (i 2) := by
  refine (dats m 0 c).arrAt_eq_of_covers 5 _ (by decide +kernel) fun t hf y => ?_
  obtain ⟨e0, e1, e2, e3, e4, e5⟩ := idx t
  blk_simp
  rw [after0_5]
  obtain ⟨r, j, rfl⟩ : ∃ (r : Fin 1024) (j : Fin 1280), y = ix3 (n0 := 1) 0 r j :=
    ⟨y 1, y 2, (eq_ix3 (n0 := 1) (n1 := 1024) (n2 := 1280) y).trans
      (congrArg (fun a : Fin 1 => ix3 a (y 1 : Fin 1024) (y 2 : Fin 1280)) (Subsingleton.elim (α := Fin 1) _ _))⟩
  have ht : t.val < 128 := t.isLt
  have he : (win0_5.blk t).view.emb (ix3 (n0 := 1) 0 r j)
      = ix3 (⟨t.val / 8, by omega⟩ : Fin 16) (⟨t.val / 4 % 2 * 1024 + r.val, by omega⟩ : Fin 2048) (⟨t.val % 4 * 1280 + j.val, by omega⟩ : Fin 5120) := by
    blk_ext [e5]
  refine (out_at m c t r j).trans ?_
  rw [he]
  rfl

end Cert.Kernel2Ideal.Project

namespace Cert.Reference2Ideal.Project

open Cert.Reference2Ideal Cert.Reference2Ideal.Gen Cert.Reference2Ideal.Value Idealize.ShloMosaic Idealize.ShloMosaic.TcCoe Idealize.SL.Sem
open Idealize.ShloMosaic.Pointwise Idealize.ShloMosaic.StableHlo
open Cert.Reference2Ideal.Facts

/-- The reference's result, of its arguments. -/
def result (x : FVec Ideal S16x2048x1024 .f32) (g : FVec Ideal S1024 .f32) (sc sh : FVec Ideal S16x1x1024 .f32) (w : FVec Ideal S1024x5120 .f32) :
    FVec Ideal S16x2048x5120 .bf16 :=
  truncf .bf16 (Host.dotGeneral dot_S16x2048x1024_S1024x5120_S16x2048x5120_2_0_01_1_n_n none (addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) sc))) (broadcastInDim S16x2048x1024 ![0, 1, 2] bcast_S16x1x1024_S16x2048x1024_0_1_2 sh)) w) bitsLt_bf16_f32

/-- The reference's result at an index. -/
theorem result_apply (x : FVec Ideal S16x2048x1024 .f32) (g : FVec Ideal S1024 .f32) (sc sh : FVec Ideal S16x1x1024 .f32)
    (w : FVec Ideal S1024x5120 .f32) (b : Fin 16) (n : Fin 2048) (j : Fin 5120) :
    result x g sc sh w (ix3 b n j) = Cert.Kernel2Ideal.Project.value x g sc sh w b n j := by
  unfold result Cert.Kernel2Ideal.Project.value Cert.Kernel2Ideal.Project.modulated
  pointwise

end Cert.Reference2Ideal.Project

end
-- ==== Proof.ExpertsLoop.lean ====
/- The counted loops of the experts kernel: whatever word the table holds, they mean something. -/
module

public import proofs.«01_k».proof.Proof.Gen.Kernel3Ideal.Frame

@[expose] public section

set_option maxRecDepth 16384

noncomputable section

namespace Cert.Kernel3Ideal.Experts

open Cert.Kernel3Ideal Cert.Kernel3Ideal.Gen Idealize.ShloMosaic Idealize.ShloMosaic.TcCoe Idealize.SL.Sem
open Cert.Kernel3Ideal.Facts

/-- A loop of step one never leaves its counter's range. -/
theorem ok_one (lb ub : BitVec 32) : Scf.OK lb ub 1#32 := by
  have h1 : (1#32 : BitVec 32).toInt = 1 := by decide
  have hl := BitVec.toInt_lt (x := lb)
  have hu := BitVec.toInt_lt (x := ub)
  unfold Scf.OK Scf.trips
  rw [h1]
  refine ⟨by omega, ?_⟩
  rw [Int.ediv_one, mul_one]
  omega

/-- The side condition of both loops holds of every word. -/
theorem checked (v : BitVec 32) : k0_chk1 v := ⟨ok_one _ _, ok_one _ _⟩

variable {F : FTy → Type} [FloatOps F] (m : (ℓ : Loc nD τ sig) → Buf (Elt F) ℓ) (ρ : Dev nD → PrngReg)

/-- No window's place depends on the table. -/
theorem ok : Ok m := trivial

/-- What the body takes for granted of the table's words. -/
theorem hyps : Hyps m (ok m) := fun c t => checked _

end Cert.Kernel3Ideal.Experts

end
-- ==== Proof.ExpertsHost.lean ====
module
public import proofs.«01_k».proof.Proof.ExpertsLoop
public import Idealize.ShloMosaic.Lib.Pipeline.ValueKit
public import Idealize.ShloMosaic.Lib.Pointwise
@[expose] public section
/-!
# What the experts call's host hands the kernel

The router's record, the counts and the re-laid weights, entry by entry, as functions of the launch's arguments.
-/
set_option maxRecDepth 16384
noncomputable section
namespace Cert.Kernel3Ideal.Experts
open Cert.Kernel3Ideal Cert.Kernel3Ideal.Gen Idealize.ShloMosaic Idealize.ShloMosaic.TcCoe
open Idealize.ShloMosaic.Pointwise
open Cert.Kernel3Ideal.Facts
variable (m : (ℓ : Loc nD τ sig) → Buf (Elt Ideal) ℓ) (c : Dev nD)

/-- The launch's arguments: the tokens' features, their groups, their weights, the residual, the gates and the experts. -/
def feats : S32768x1024.Idx → EReal := m (c, Proc.tc.devRef main_arg0)
/-- The group of every token. -/
def gid : S32768.Idx → BitVec 32 := m (c, Proc.tc.devRef main_arg1)
/-- The weights of every token. -/
def wts : S32768x8.Idx → EReal := m (c, Proc.tc.devRef main_arg2)
/-- The residual. -/
def resid : S16x2048x1024.Idx → EReal := m (c, Proc.tc.devRef main_arg3)
/-- The gates. -/
def gates : S16x1x1024.Idx → EReal := m (c, Proc.tc.devRef main_arg4)
/-- The first matrices. -/
def up : S4x8x1024x256.Idx → EReal := m (c, Proc.tc.devRef main_arg5)
/-- The second matrices. -/
def side : S4x8x1024x256.Idx → EReal := m (c, Proc.tc.devRef main_arg6)
/-- The last matrices. -/
def down : S4x8x256x1024.Idx → EReal := m (c, Proc.tc.devRef main_arg7)

section Late
variable (G : Valuation τ sig (Elt Ideal))

/-- The host's operations, cut after the first `k`. -/
theorem split (k : ℕ) (b : Ref sig .tc) : V m c b = StableHlo.after (hostOps0.drop k) (StableHlo.after (hostOps0.take k) (fun b => m (c, b))) (Proc.devRef .tc b) := by
  rw [← StableHlo.after_append, List.take_append_drop]

/-- The record's first columns. -/
theorem late_weight (n : Fin 32768) (l : Fin 128) (h : l.val < 32) : (StableHlo.after (hostOps0.drop 45) G (Proc.devRef .tc main_v38) : S32768x128.Idx → EReal) (ix2 n l) = (G (Proc.devRef .tc main_v14) : S32768x32.Idx → EReal) (ix2 n ⟨l.val, h⟩) := by
  simp only [hostOps0, List.drop_succ_cons, List.drop_zero, StableHlo.after_cons, StableHlo.after_nil]
  after_region_results
  pointwise
  exact (dif_pos h).trans rfl

/-- The record's group column. -/
theorem late_group (n : Fin 32768) : (StableHlo.after (hostOps0.drop 45) G (Proc.devRef .tc main_v38) : S32768x128.Idx → EReal) (ix2 n 32) = (G (Proc.devRef .tc main_v35) : S32768x1.Idx → EReal) (ix2 n 0) := by
  simp only [hostOps0, List.drop_succ_cons, List.drop_zero, StableHlo.after_cons, StableHlo.after_nil]
  after_region_results
  pointwise
  rfl

/-- The record's rank column. -/
theorem late_rank (n : Fin 32768) : (StableHlo.after (hostOps0.drop 45) G (Proc.devRef .tc main_v38) : S32768x128.Idx → EReal) (ix2 n 33) = (G (Proc.devRef .tc main_v36) : S32768x1.Idx → EReal) (ix2 n 0) := by
  simp only [hostOps0, List.drop_succ_cons, List.drop_zero, StableHlo.after_cons, StableHlo.after_nil]
  after_region_results
  pointwise
  rfl

/-- The table of counts, of the record. -/
theorem late_table (g : Fin 128) : (StableHlo.after (hostOps0.drop 46) G (Proc.devRef .tc main_v64) : S128.Idx → BitVec 32) (ix1 g)
    = Finset.fold IntOp.addi 0#32 (fun x : Fin 1024 => BitVec.setWidth 32 (BitVec.ofBool (decide
        ((G (Proc.devRef .tc main_v38) : S32768x128.Idx → EReal) (ix2 ⟨g.val / 4 * 1024 + x.val, by omega⟩ 32)
          = FloatOps.sitofp (F := Ideal) FTy.f32 (BitVec.ofNat 32 (g.val % 4)))))) Finset.univ := by
  simp only [hostOps0, List.drop_succ_cons, List.drop_zero, StableHlo.after_cons, StableHlo.after_nil]
  after_region_results
  pointwise

/-- The later operations leave this buffer. -/
theorem late_v14 : StableHlo.after (hostOps0.drop 45) G (Proc.devRef .tc main_v14) = G (Proc.devRef .tc main_v14) := by
  simp only [hostOps0, List.drop_succ_cons, List.drop_zero, StableHlo.after_cons, StableHlo.after_nil]
  after_region_results

/-- The later operations leave this buffer. -/
theorem late_v35 : StableHlo.after (hostOps0.drop 45) G (Proc.devRef .tc main_v35) = G (Proc.devRef .tc main_v35) := by
  simp only [hostOps0, List.drop_succ_cons, List.drop_zero, StableHlo.after_cons, StableHlo.after_nil]
  after_region_results

/-- The later operations leave this buffer. -/
theorem late_v36 : StableHlo.after (hostOps0.drop 45) G (Proc.devRef .tc main_v36) = G (Proc.devRef .tc main_v36) := by
  simp only [hostOps0, List.drop_succ_cons, List.drop_zero, StableHlo.after_cons, StableHlo.after_nil]
  after_region_results

/-- The later operations leave this buffer. -/
theorem late_v38 : StableHlo.after (hostOps0.drop 46) G (Proc.devRef .tc main_v38) = G (Proc.devRef .tc main_v38) := by
  simp only [hostOps0, List.drop_succ_cons, List.drop_zero, StableHlo.after_cons, StableHlo.after_nil]
  after_region_results

end Late

/-- The weights' columns. -/
theorem v38_weight (n : Fin 32768) (g : Fin 4) (e : Fin 8) : (V m c main_v38 : S32768x128.Idx → EReal) (ix2 n ⟨8 * g.val + e.val, by omega⟩)
    = if gid m c (ix1 n) = BitVec.ofNat 32 g.val then wts m c (ix2 n e) else 0 := by
  have h : (V m c main_v38 : S32768x128.Idx → EReal) (ix2 n ⟨8 * g.val + e.val, by omega⟩)
      = (V m c main_v14 : S32768x32.Idx → EReal) (ix2 n ⟨8 * g.val + e.val, by omega⟩) := by
    rw [split m c 45 main_v38, split m c 45 main_v14, late_v14]
    exact late_weight _ n _ (by show 8 * g.val + e.val < 32; omega)
  have h14 : ∀ l : Fin 32, (V m c main_v14 : S32768x32.Idx → EReal) (ix2 n l)
      = Scalar.select (IntOp.cmpi CmpIPredicate.eq (gid m c (ix1 n)) (BitVec.ofNat 32 (l.val / 8)))
          (wts m c (ix2 n ⟨l.val % 8, Nat.mod_lt _ (by decide)⟩)) 0 := by
    intro l
    unfold V
    after_results
    pointwise
    rfl
  have e1 : (8 * g.val + e.val) / 8 = g.val := by omega
  have e2 : (⟨(8 * g.val + e.val) % 8, Nat.mod_lt _ (by decide)⟩ : Fin 8) = e := Fin.ext (by show (8 * g.val + e.val) % 8 = e.val; omega)
  rw [h, h14]
  dsimp only
  rw [e1, e2]
  by_cases hg : gid m c (ix1 n) = BitVec.ofNat 32 g.val
  · simp [Scalar.select, IntOp.cmpi, hg]
  · simp [Scalar.select, IntOp.cmpi, (beq_eq_false_iff_ne.mpr hg : (gid m c (ix1 n) == BitVec.ofNat 32 g.val) = false), hg]

/-- The group's column. -/
theorem v38_group (n : Fin 32768) : (V m c main_v38 : S32768x128.Idx → EReal) (ix2 n 32) = FloatOps.sitofp (F := Ideal) FTy.f32 (gid m c (ix1 n)) := by
  have h : (V m c main_v38 : S32768x128.Idx → EReal) (ix2 n 32) = (V m c main_v35 : S32768x1.Idx → EReal) (ix2 n 0) := by
    rw [split m c 45 main_v38, split m c 45 main_v35, late_v35]
    exact late_group _ n
  rw [h]
  unfold V
  after_results
  pointwise
  rfl

/-- The rank's column. -/
theorem v38_rank (i : Fin 32) (t : Fin 1024) : (V m c main_v38 : S32768x128.Idx → EReal) (ix2 ⟨i.val * 1024 + t.val, by omega⟩ 33)
    = (∑ x : Fin 1024, Scalar.select (IntOp.andi
          (IntOp.cmpi CmpIPredicate.eq (gid m c (ix1 ⟨i.val * 1024 + t.val, by omega⟩)) (gid m c (ix1 ⟨i.val * 1024 + x.val, by omega⟩)))
          (IntOp.cmpi CmpIPredicate.sle (BitVec.ofNat 32 x.val) (BitVec.ofNat 32 t.val))) (1 : EReal) 0) - 1 := by
  have h : ∀ n, (V m c main_v38 : S32768x128.Idx → EReal) (ix2 n 33) = (V m c main_v36 : S32768x1.Idx → EReal) (ix2 n 0) := by
    intro n
    rw [split m c 45 main_v38, split m c 45 main_v36, late_v36]
    exact late_rank _ n
  have h36 : ∀ n : Fin 32768, (V m c main_v36 : S32768x1.Idx → EReal) (ix2 n 0)
      = (∑ x : Fin 1024, Scalar.select (IntOp.andi
          (IntOp.cmpi CmpIPredicate.eq (gid m c (ix1 ⟨n.val / 1024 * 1024 + n.val % 1024, by omega⟩)) (gid m c (ix1 ⟨n.val / 1024 * 1024 + x.val, by omega⟩)))
          (IntOp.cmpi CmpIPredicate.sle (BitVec.ofNat 32 x.val) (BitVec.ofNat 32 (n.val % 1024)))) (1 : EReal) 0) - 1 := by
    intro n
    unfold V
    after_results
    pointwise
    rfl
  have e1 : (i.val * 1024 + t.val) / 1024 = i.val := by omega
  have e2 : (i.val * 1024 + t.val) % 1024 = t.val := by omega
  rw [h, h36]
  dsimp only
  simp only [e1, e2]

/-- A word of a one-bit count. -/
theorem fold_count (P : Fin 1024 → Prop) [DecidablePred P] (s : Finset (Fin 1024)) :
    Finset.fold IntOp.addi 0#32 (fun x => BitVec.setWidth 32 (BitVec.ofBool (decide (P x)))) s = BitVec.ofNat 32 (s.filter P).card := by
  induction s using Finset.induction_on with
  | empty => rfl
  | insert a s ha ih =>
    rw [Finset.fold_insert ha, ih, Finset.filter_insert]
    by_cases h : P a
    · rw [if_pos h, Finset.card_insert_of_notMem (fun hm => ha (Finset.mem_filter.mp hm).1), decide_eq_true h]
      show (1#32 + BitVec.ofNat 32 _) = _
      rw [Nat.add_comm, BitVec.ofNat_add]
    · rw [if_neg h, decide_eq_false h]
      show (0#32 + BitVec.ofNat 32 _) = _
      rw [BitVec.zero_add]

/-- Two words of the same number are the same. -/
theorem sitofp_inj (a b : BitVec 32) : FloatOps.sitofp (F := Ideal) FTy.f32 a = FloatOps.sitofp (F := Ideal) FTy.f32 b ↔ a = b := by
  show ((a.toInt : ℝ) : EReal) = ((b.toInt : ℝ) : EReal) ↔ a = b
  rw [EReal.coe_eq_coe_iff, Int.cast_inj]
  exact ⟨BitVec.eq_of_toInt_eq, fun h => h ▸ rfl⟩

/-- The table's entries count the groups. -/
theorem v64_apply (i : Fin 32) (g : Fin 4) : (V m c main_v64 : S128.Idx → BitVec 32) (ix1 ⟨4 * i.val + g.val, by omega⟩)
    = BitVec.ofNat 32 (Finset.univ.filter fun x : Fin 1024 => gid m c (ix1 ⟨i.val * 1024 + x.val, by omega⟩) = BitVec.ofNat 32 g.val).card := by
  rw [← fold_count]
  rw [split m c 46 main_v64, late_table]
  have e1 : (4 * i.val + g.val) / 4 = i.val := by omega
  have e2 : (4 * i.val + g.val) % 4 = g.val := by omega
  dsimp only
  simp only [e1, e2]
  refine congrArg (fun f => Finset.fold IntOp.addi 0#32 f Finset.univ) (funext fun x => ?_)
  have hv : (StableHlo.after (hostOps0.take 46) fun b => m (c, b)) (Proc.devRef .tc main_v38) = V m c main_v38 := by
    rw [split m c 46 main_v38, late_v38]
  rw [hv, v38_group]
  exact congrArg (fun b => BitVec.setWidth 32 (BitVec.ofBool b)) (decide_eq_decide.mpr (sitofp_inj _ _))

/-- The features, a token a column. -/
theorem v50_apply (d : Fin 1024) (n : Fin 32768) : (V m c main_v50 : S1x1024x32768.Idx → EReal) (ix3 0 d n) = feats m c (ix2 n d) := by
  unfold V
  after_results
  pointwise
  rfl

/-- The record as it is. -/
theorem v51_apply (n : Fin 32768) (l : Fin 128) : (V m c main_v51 : S1x32768x128.Idx → EReal) (ix3 0 n l) = (V m c main_v38 : S32768x128.Idx → EReal) (ix2 n l) := by
  unfold V
  after_results
  pointwise

/-- The record, a token a column. -/
theorem v53_apply (n : Fin 32768) (l : Fin 128) : (V m c main_v53 : S1x128x32768.Idx → EReal) (ix3 0 l n) = (V m c main_v38 : S32768x128.Idx → EReal) (ix2 n l) := by
  unfold V
  after_results
  pointwise

/-- The residual, its tokens in one row. -/
theorem v65_apply (n : Fin 32768) (d : Fin 1024) : (V m c main_v65 : S1x32768x1024.Idx → EReal) (ix3 0 n d) = resid m c (ix3 ⟨n.val / 2048, by omega⟩ ⟨n.val % 2048, Nat.mod_lt _ (by decide)⟩ d) := by
  unfold V
  after_results
  pointwise
  rfl

/-- A group's up matrices, its experts one below the other. -/
theorem v41_apply (g : Fin 4) (e : Fin 8) (f : Fin 256) (d : Fin 1024) : (V m c main_v41 : S4x2048x1024.Idx → EReal) (ix3 g ⟨e.val * 256 + f.val, by omega⟩ d) = up m c (ix4 g e d f) := by
  have h : ∀ l : Fin 2048, (V m c main_v41 : S4x2048x1024.Idx → EReal) (ix3 g l d) = up m c (ix4 g ⟨l.val / 256, by omega⟩ d ⟨l.val % 256, Nat.mod_lt _ (by decide)⟩) := by
    intro l
    unfold V
    after_results
    pointwise
    rfl
  rw [h]
  exact congrArg₂ (fun a b => up m c (ix4 g a d b)) (Fin.ext (by show (e.val * 256 + f.val) / 256 = e.val; omega)) (Fin.ext (by show (e.val * 256 + f.val) % 256 = f.val; omega))

/-- A group's side matrices, its experts one below the other. -/
theorem v44_apply (g : Fin 4) (e : Fin 8) (f : Fin 256) (d : Fin 1024) : (V m c main_v44 : S4x2048x1024.Idx → EReal) (ix3 g ⟨e.val * 256 + f.val, by omega⟩ d) = side m c (ix4 g e d f) := by
  have h : ∀ l : Fin 2048, (V m c main_v44 : S4x2048x1024.Idx → EReal) (ix3 g l d) = side m c (ix4 g ⟨l.val / 256, by omega⟩ d ⟨l.val % 256, Nat.mod_lt _ (by decide)⟩) := by
    intro l
    unfold V
    after_results
    pointwise
    rfl
  rw [h]
  exact congrArg₂ (fun a b => side m c (ix4 g a d b)) (Fin.ext (by show (e.val * 256 + f.val) / 256 = e.val; omega)) (Fin.ext (by show (e.val * 256 + f.val) % 256 = f.val; omega))

/-- A group's last matrices, its experts side by side. -/
theorem v47_apply (g : Fin 4) (e : Fin 8) (f : Fin 256) (d : Fin 1024) : (V m c main_v47 : S4x1024x2048.Idx → EReal) (ix3 g d ⟨e.val * 256 + f.val, by omega⟩) = down m c (ix4 g e f d) := by
  have h : ∀ l : Fin 2048, (V m c main_v47 : S4x1024x2048.Idx → EReal) (ix3 g d l) = down m c (ix4 g ⟨l.val / 256, by omega⟩ ⟨l.val % 256, Nat.mod_lt _ (by decide)⟩ d) := by
    intro l
    unfold V
    after_results
    pointwise
    rfl
  rw [h]
  exact congrArg₂ (fun a b => down m c (ix4 g a b d)) (Fin.ext (by show (e.val * 256 + f.val) / 256 = e.val; omega)) (Fin.ext (by show (e.val * 256 + f.val) % 256 = f.val; omega))

/-- Every window's block index at every point (decided). -/
theorem idx : ∀ t : Fin grid0.N,
    cc0_transform_0 (grid0.coords t) = ![0, 0, t.val / 4] ∧ cc0_transform_1 (grid0.coords t) = ![0, t.val / 4, 0]
    ∧ cc0_transform_2 (grid0.coords t) = ![0, 0, t.val / 4] ∧ cc0_transform_3 (grid0.coords t) = ![0, t.val / 4, 0]
    ∧ cc0_transform_4 (grid0.coords t) = ![t.val / 8, 0, 0]
    ∧ cc0_transform_6 (grid0.coords t) = ![t.val % 4, 0, 0] ∧ cc0_transform_7 (grid0.coords t) = ![t.val % 4, 0, 0]
    ∧ cc0_transform_8 (grid0.coords t) = ![t.val % 4, 0, 0] ∧ cc0_transform_9 (grid0.coords t) = ![0, t.val / 4, 0] := by decide +kernel

/-- A point's block of window 0. -/
theorem block0 (t : Fin (cfgM m (ok m)).N) (d r : Fin 1024) : (iblk m (ok m) c 0 t : S1x1024x1024.Idx → EReal) (ix3 0 d r) = (V m c main_v50 : S1x1024x32768.Idx → EReal) (ix3 0 d ⟨t.val / 4 * 1024 + r.val, by have : t.val < 128 := t.isLt; omega⟩) := by
  obtain ⟨e0, e1, e2, e3, e4, e6, e7, e8, e9⟩ := idx t
  have e : ((cfgM m (ok m)).win 0).index t = ![0, 0, t.val / 4] := e0
  blk_simp [iblk]
  refine congrArg (V m c main_v50 : S1x1024x32768.Idx → EReal) ?_
  blk_ext [e]

/-- A point's block of window 1. -/
theorem block1 (t : Fin (cfgM m (ok m)).N) (r : Fin 1024) (l : Fin 128) : (iblk m (ok m) c 1 t : S1x1024x128.Idx → EReal) (ix3 0 r l) = (V m c main_v51 : S1x32768x128.Idx → EReal) (ix3 0 ⟨t.val / 4 * 1024 + r.val, by have : t.val < 128 := t.isLt; omega⟩ l) := by
  obtain ⟨e0, e1, e2, e3, e4, e6, e7, e8, e9⟩ := idx t
  have e : ((cfgM m (ok m)).win 1).index t = ![0, t.val / 4, 0] := e1
  blk_simp [iblk]
  refine congrArg (V m c main_v51 : S1x32768x128.Idx → EReal) ?_
  blk_ext [e]

/-- A point's block of window 2. -/
theorem block2 (t : Fin (cfgM m (ok m)).N) (l : Fin 128) (r : Fin 1024) : (iblk m (ok m) c 2 t : S1x128x1024.Idx → EReal) (ix3 0 l r) = (V m c main_v53 : S1x128x32768.Idx → EReal) (ix3 0 l ⟨t.val / 4 * 1024 + r.val, by have : t.val < 128 := t.isLt; omega⟩) := by
  obtain ⟨e0, e1, e2, e3, e4, e6, e7, e8, e9⟩ := idx t
  have e : ((cfgM m (ok m)).win 2).index t = ![0, 0, t.val / 4] := e2
  blk_simp [iblk]
  refine congrArg (V m c main_v53 : S1x128x32768.Idx → EReal) ?_
  blk_ext [e]

/-- A point's block of window 3. -/
theorem block3 (t : Fin (cfgM m (ok m)).N) (r d : Fin 1024) : (iblk m (ok m) c 3 t : S1x1024x1024.Idx → EReal) (ix3 0 r d) = (V m c main_v65 : S1x32768x1024.Idx → EReal) (ix3 0 ⟨t.val / 4 * 1024 + r.val, by have : t.val < 128 := t.isLt; omega⟩ d) := by
  obtain ⟨e0, e1, e2, e3, e4, e6, e7, e8, e9⟩ := idx t
  have e : ((cfgM m (ok m)).win 3).index t = ![0, t.val / 4, 0] := e3
  blk_simp [iblk]
  refine congrArg (V m c main_v65 : S1x32768x1024.Idx → EReal) ?_
  blk_ext [e]

/-- A point's block of window 4. -/
theorem block4 (t : Fin (cfgM m (ok m)).N) (d : Fin 1024) : (iblk m (ok m) c 4 t : S1x1x1024.Idx → EReal) (ix3 0 0 d) = (V m c main_arg4 : S16x1x1024.Idx → EReal) (ix3 ⟨t.val / 8, by have : t.val < 128 := t.isLt; omega⟩ 0 d) := by
  obtain ⟨e0, e1, e2, e3, e4, e6, e7, e8, e9⟩ := idx t
  have e : ((cfgM m (ok m)).win 4).index t = ![t.val / 8, 0, 0] := e4
  blk_simp [iblk]
  refine congrArg (V m c main_arg4 : S16x1x1024.Idx → EReal) ?_
  blk_ext [e]

/-- A point's block of window 6. -/
theorem block6 (t : Fin (cfgM m (ok m)).N) (l : Fin 2048) (d : Fin 1024) : (iblk m (ok m) c 6 t : S1x2048x1024.Idx → EReal) (ix3 0 l d) = (V m c main_v41 : S4x2048x1024.Idx → EReal) (ix3 ⟨t.val % 4, Nat.mod_lt _ (by decide)⟩ l d) := by
  obtain ⟨e0, e1, e2, e3, e4, e6, e7, e8, e9⟩ := idx t
  have e : ((cfgM m (ok m)).win 6).index t = ![t.val % 4, 0, 0] := e6
  blk_simp [iblk]
  refine congrArg (V m c main_v41 : S4x2048x1024.Idx → EReal) ?_
  blk_ext [e]

/-- A point's block of window 7. -/
theorem block7 (t : Fin (cfgM m (ok m)).N) (l : Fin 2048) (d : Fin 1024) : (iblk m (ok m) c 7 t : S1x2048x1024.Idx → EReal) (ix3 0 l d) = (V m c main_v44 : S4x2048x1024.Idx → EReal) (ix3 ⟨t.val % 4, Nat.mod_lt _ (by decide)⟩ l d) := by
  obtain ⟨e0, e1, e2, e3, e4, e6, e7, e8, e9⟩ := idx t
  have e : ((cfgM m (ok m)).win 7).index t = ![t.val % 4, 0, 0] := e7
  blk_simp [iblk]
  refine congrArg (V m c main_v44 : S4x2048x1024.Idx → EReal) ?_
  blk_ext [e]

/-- A point's block of window 8. -/
theorem block8 (t : Fin (cfgM m (ok m)).N) (d : Fin 1024) (l : Fin 2048) : (iblk m (ok m) c 8 t : S1x1024x2048.Idx → EReal) (ix3 0 d l) = (V m c main_v47 : S4x1024x2048.Idx → EReal) (ix3 ⟨t.val % 4, Nat.mod_lt _ (by decide)⟩ d l) := by
  obtain ⟨e0, e1, e2, e3, e4, e6, e7, e8, e9⟩ := idx t
  have e : ((cfgM m (ok m)).win 8).index t = ![t.val % 4, 0, 0] := e8
  blk_simp [iblk]
  refine congrArg (V m c main_v47 : S4x1024x2048.Idx → EReal) ?_
  blk_ext [e]

end Cert.Kernel3Ideal.Experts

end
-- ==== Proof.Experts.lean ====
/- One chunk of the experts kernel at an index: the eight experts of a group on the tokens the chunk picks. -/
module

public import proofs.«01_k».proof.Proof.Gen.Kernel3Ideal.Skeleton
public import Idealize.ShloMosaic.Lib.Pipeline.ValueKit
public import Idealize.ShloMosaic.Lib.Pipeline.ValueKit
public import Idealize.ShloMosaic.Lib.Pipeline.ValueKit
public import Idealize.ShloMosaic.Lib.Pointwise

@[expose] public section

set_option maxRecDepth 16384

noncomputable section

namespace Cert.Kernel3Ideal.Experts

open Cert.Kernel3Ideal Cert.Kernel3Ideal.Gen Idealize.ShloMosaic Idealize.ShloMosaic.TcCoe
open Idealize.ShloMosaic.Pointwise
open Cert.Kernel3Ideal.Facts

/-- A sigmoid-weighted unit: one hidden entry of an expert, of the token, its two columns and the expert's weight. -/
def unit (x a b : Fin 1024 → EReal) (w : EReal) : EReal :=
  (∑ d : Fin 1024, a d * x d) * Ideal.div 1 (1 + Ideal.exp (0 - ∑ d : Fin 1024, a d * x d)) * (∑ d : Fin 1024, b d * x d) * w

/-- The rest of a unit, of its first product. -/
def unitOf (u : EReal) (x b : Fin 1024 → EReal) (w : EReal) : EReal := u * (∑ d : Fin 1024, b d * x d) * w

/-- One expert's contribution to feature `d` of the token in slot `r`. -/
def part (X : Vec Ideal S1024x256 .bf16) (C : Vec Ideal S8x256 .f32) (w1 w3 : Vec Ideal S1x256x1024 .bf16) (w2 : Vec Ideal S1x1024x256 .bf16)
    (e : Fin 8) (d : Fin 1024) (r : Fin 256) : EReal :=
  ∑ f : Fin 256, w2 (ix3 0 d f) * unit (fun k => X (ix2 k r)) (fun k => w1 (ix3 0 f k)) (fun k => w3 (ix3 0 f k)) (C (ix2 e r))

/-- The first product of every unit of an expert, weighted by its own sigmoid. -/
def gate (X : Vec Ideal S1024x256 .bf16) (w1 : Vec Ideal S1x256x1024 .bf16) (f r : Fin 256) : EReal :=
  (∑ k : Fin 1024, w1 (ix3 0 f k) * X (ix2 k r)) * Ideal.div 1 (1 + Ideal.exp (0 - ∑ k : Fin 1024, w1 (ix3 0 f k) * X (ix2 k r)))

theorem pay10_apply (X : Vec Ideal S1024x256 .bf16) (C : Vec Ideal S8x256 .f32) (a u : Vec Ideal S256x256 .f32) (o : Ideal .f32)
    (w3 : Vec Ideal S1x256x1024 .bf16) (w2 : Vec Ideal S1x1024x256 .bf16) (v1 v3 : Vec Ideal S1x256x1024 .bf16) (v2 : Vec Ideal S1x1024x256 .bf16)
    (d : Fin 1024) (r : Fin 256) :
    k0_pay10 X C a u o w3 w2 v1 v3 v2 (ix2 d r)
      = (∑ f : Fin 256, w2 (ix3 0 d f) * (a (ix2 f r) * Ideal.div o (u (ix2 f r)) * (∑ k : Fin 1024, w3 (ix3 0 f k) * X (ix2 k r)) * C (ix2 0 r)))
        + part X C v1 v3 v2 1 d r := by
  unfold k0_pay10 part unit
  pointwise

theorem pay11_apply (X : Vec Ideal S1024x256 .bf16) (C : Vec Ideal S8x256 .f32) (s : Vec Ideal S1024x256 .f32)
    (v1 v3 : Vec Ideal S1x256x1024 .bf16) (v2 : Vec Ideal S1x1024x256 .bf16) (d : Fin 1024) (r : Fin 256) :
    k0_pay11 X C s v1 v3 v2 (ix2 d r) = s (ix2 d r) + part X C v1 v3 v2 2 d r := by
  unfold k0_pay11 part unit
  pointwise

theorem pay12_apply (X : Vec Ideal S1024x256 .bf16) (v1 : Vec Ideal S1x256x1024 .bf16) (f r : Fin 256) :
    k0_pay12 X v1 (ix2 f r) = gate X v1 f r := by
  unfold k0_pay12 gate
  pointwise

theorem pay13_apply (X : Vec Ideal S1024x256 .bf16) (C : Vec Ideal S8x256 .f32) (s : Vec Ideal S1024x256 .f32) (v1 : Vec Ideal S1x256x1024 .bf16)
    (v3 : Vec Ideal S1x256x1024 .bf16) (v2 : Vec Ideal S1x1024x256 .bf16) (u1 u3 : Vec Ideal S1x256x1024 .bf16) (u2 : Vec Ideal S1x1024x256 .bf16)
    (d : Fin 1024) (r : Fin 256) :
    k0_pay13 X C s (k0_pay12 X v1) v3 v2 u1 u3 u2 (ix2 d r) = s (ix2 d r) + part X C v1 v3 v2 3 d r + part X C u1 u3 u2 4 d r := by
  unfold k0_pay13 part unit
  pointwise
  simp only [pay12_apply, gate]

theorem pay15_apply (X : Vec Ideal S1024x256 .bf16) (C : Vec Ideal S8x256 .f32) (s : Vec Ideal S1024x256 .f32)
    (v1 v3 : Vec Ideal S1x256x1024 .bf16) (v2 : Vec Ideal S1x1024x256 .bf16) (d : Fin 1024) (r : Fin 256) :
    k0_pay15 X C s (k0_pay14 v1) (constant S256x256 .f32 0x00000000#32) v3 v2 (ix2 d r) = s (ix2 d r) + part X C v1 v3 v2 5 d r := by
  unfold k0_pay15 k0_pay14 part unit
  pointwise

theorem pay16_apply (X : Vec Ideal S1024x256 .bf16) (v1 v3 : Vec Ideal S1x256x1024 .bf16) (f r : Fin 256) :
    k0_pay16 X v1 v3 (ix2 f r) = gate X v1 f r * ∑ k : Fin 1024, v3 (ix3 0 f k) * X (ix2 k r) := by
  unfold k0_pay16 gate
  pointwise

theorem pay17_apply (C : Vec Ideal S8x256 .f32) (f r : Fin 256) : k0_pay17 (F := Ideal) C (ix2 f r) = C (ix2 6 r) := by
  unfold k0_pay17
  pointwise

theorem pay18_apply (P : Vec Ideal S256x1024 .bf16) (X : Vec Ideal S1024x256 .bf16) (C : Vec Ideal S8x256 .f32) (s : Vec Ideal S1024x256 .f32)
    (v1 v3 : Vec Ideal S1x256x1024 .bf16) (v2 : Vec Ideal S1x1024x256 .bf16) (u1 u3 : Vec Ideal S1x256x1024 .bf16) (u2 : Vec Ideal S1x1024x256 .bf16)
    (acc : Vec Ideal S1024x1024 .f32) (d t : Fin 1024) :
    k0_pay18 P X C s (k0_pay16 X v1 v3) (k0_pay17 C) v2 u1 u3 u2 acc (ix2 d t)
      = acc (ix2 d t) + ∑ r : Fin 256, (s (ix2 d r) + part X C v1 v3 v2 6 d r + part X C u1 u3 u2 7 d r) * P (ix2 r t) := by
  unfold k0_pay18 part unit
  pointwise
  simp only [pay16_apply, pay17_apply, gate]

variable (v6 : BitVec 32) (k : Fin (k0_t1_loop v6).trips)

/-- A small number's word, converted, is the number. -/
theorem number {n : ℕ} (h : n < 2147483648) : (FloatOps.sitofp FTy.f32 (BitVec.ofNat 32 n) : Ideal .f32) = ((n : ℝ) : EReal) := by
  have e : (BitVec.ofNat 32 n).toInt = (n : ℤ) := by
    rw [BitVec.toInt_eq_toNat_of_lt (by simp only [BitVec.toNat_ofNat]; omega), BitVec.toNat_ofNat]
    omega
  show (((BitVec.ofNat 32 n).toInt : ℝ) : EReal) = _
  rw [e]
  simp

/-- The tokens a chunk picks, as columns. -/
theorem pay4_apply (v15 : Vec Ideal S1024x1 .f32) (t : Fin 1024) (r : Fin 256) :
    k0_pay4 v6 v15 (k0_pay44 (F := Ideal)) 0#32 1#32 k (ix2 t r)
      = if v15 (ix2 t 0) - k0_pay3 (F := Ideal) v6 0#32 1#32 k = ((r.val : ℝ) : EReal) then 1 else 0 := by
  unfold k0_pay4 k0_pay44
  pointwise
  simp only [number (show r.val < 2147483648 by omega)]

/-- The tokens a chunk picks, as rows. -/
theorem pay5_apply (v23 : Vec Ideal S1x1024 .f32) (t : Fin 1024) (r : Fin 256) :
    k0_pay5 v6 v23 (k0_pay1 (F := Ideal) (iota .tc S256x1024 32 [0] iota_S256x1024_d0_w32)) 0#32 1#32 k (ix2 r t)
      = if v23 (ix2 0 t) - k0_pay3 (F := Ideal) v6 0#32 1#32 k = ((r.val : ℝ) : EReal) then 1 else 0 := by
  unfold k0_pay5 k0_pay1
  pointwise
  simp only [number (show r.val < 2147483648 by omega)]

/-- The picked tokens' features. -/
theorem pay6_apply (v15 : Vec Ideal S1024x1 .f32) (h0 h1 : Vec Ideal S1x512x1024 .bf16) (d : Fin 1024) (r : Fin 256) :
    k0_pay6 v6 v15 (k0_pay44 (F := Ideal)) 0#32 1#32 k h0 h1 (ix2 d r)
      = ∑ t : Fin 1024, (if h : d.val < 512 then h0 (ix3 0 ⟨d.val, h⟩ t) else h1 (ix3 0 ⟨d.val - 512, by omega⟩ t))
          * k0_pay4 v6 v15 (k0_pay44 (F := Ideal)) 0#32 1#32 k (ix2 t r) := by
  unfold k0_pay6
  pointwise
  split <;> rfl

/-- The picked tokens' weights. -/
theorem pay7_apply (v15 : Vec Ideal S1024x1 .f32) (v29 v32 : Vec Ideal S8x1024 .bf16) (e : Fin 8) (r : Fin 256) :
    k0_pay7 v6 v15 v29 v32 (k0_pay44 (F := Ideal)) 0#32 1#32 k (ix2 e r)
      = (∑ t : Fin 1024, v29 (ix2 e t) * k0_pay4 v6 v15 (k0_pay44 (F := Ideal)) 0#32 1#32 k (ix2 t r))
        + ∑ t : Fin 1024, v32 (ix2 e t) * k0_pay4 v6 v15 (k0_pay44 (F := Ideal)) 0#32 1#32 k (ix2 t r) := by
  unfold k0_pay7
  pointwise

theorem pay8_apply (v15 : Vec Ideal S1024x1 .f32) (h0 h1 : Vec Ideal S1x512x1024 .bf16) (w : Vec Ideal S1x256x1024 .bf16) (f r : Fin 256) :
    k0_pay8 v6 v15 (k0_pay44 (F := Ideal)) 0#32 1#32 k h0 h1 w (ix2 f r)
      = ∑ d : Fin 1024, w (ix3 0 f d) * k0_pay6 v6 v15 (k0_pay44 (F := Ideal)) 0#32 1#32 k h0 h1 (ix2 d r) := by
  unfold k0_pay8
  pointwise

theorem pay9_apply (v15 : Vec Ideal S1024x1 .f32) (h0 h1 : Vec Ideal S1x512x1024 .bf16) (w : Vec Ideal S1x256x1024 .bf16) (f r : Fin 256) :
    k0_pay9 v6 v15 (k0_pay44 (F := Ideal)) 0#32 1#32 k h0 h1 w (ix2 f r)
      = 1 + Ideal.exp (0 - ∑ d : Fin 1024, w (ix3 0 f d) * k0_pay6 v6 v15 (k0_pay44 (F := Ideal)) 0#32 1#32 k h0 h1 (ix2 d r)) := by
  unfold k0_pay9
  pointwise
  simp only [pay8_apply]

/-- The features of the tokens chunk `k` picks. -/
abbrev picked (h : Vec Ideal S1x1024x1024 .bf16) (v15 : Vec Ideal S1024x1 .f32) : Vec Ideal S1024x256 .bf16 :=
  k0_pay6 v6 v15 (k0_pay44 (F := Ideal)) 0#32 1#32 k
    (View.ld h (Rect.unit ![0, 0, 0] S1x512x1024.size inb_S1x1024x1024_S1x512x1024_0_0_0))
    (View.ld h (Rect.unit ![0, 512, 0] S1x512x1024.size inb_S1x1024x1024_S1x512x1024_0_512_0))

/-- The weights of the tokens chunk `k` picks. -/
abbrev pickedWeights (v15 : Vec Ideal S1024x1 .f32) (v29 v32 : Vec Ideal S8x1024 .bf16) : Vec Ideal S8x256 .f32 :=
  k0_pay7 v6 v15 v29 v32 (k0_pay44 (F := Ideal)) 0#32 1#32 k

/-- Expert `e`'s contribution to feature `d` of the token in slot `r`, the weights read from the group's blocks. -/
def share (X : Fin 1024 → EReal) (w1 w3 : Vec Ideal S1x2048x1024 .bf16) (w2 : Vec Ideal S1x1024x2048 .bf16) (c : Fin 8 → EReal)
    (e : Fin 8) (d : Fin 1024) : EReal :=
  ∑ f : Fin 256, w2 (ix3 0 d ⟨e.val * 256 + f.val, by omega⟩)
    * unit X (fun k => w1 (ix3 0 ⟨e.val * 256 + f.val, by omega⟩ k)) (fun k => w3 (ix3 0 ⟨e.val * 256 + f.val, by omega⟩ k)) (c e)

/-- Eight numbers added up from the first. -/
theorem sum_eight (g : Fin 8 → EReal) : g 0 + g 1 + g 2 + g 3 + g 4 + g 5 + g 6 + g 7 = ∑ e : Fin 8, g e := by
  rw [Fin.sum_univ_eight]

/-- One expert's part, its weights read from the group's blocks. -/
theorem part_ld (X : Vec Ideal S1024x256 .bf16) (C : Vec Ideal S8x256 .f32) (w1 w3 : Vec Ideal S1x2048x1024 .bf16)
    (w2 : Vec Ideal S1x1024x2048 .bf16) (e : Fin 8) (o : ℕ) (ho : o = e.val * 256) (h1 h2) (d : Fin 1024) (r : Fin 256) :
    part X C (View.ld w1 (Rect.unit ![0, o, 0] S1x256x1024.size h1)) (View.ld w3 (Rect.unit ![0, o, 0] S1x256x1024.size h1))
        (View.ld w2 (Rect.unit ![0, 0, o] S1x1024x256.size h2)) e d r
      = share (fun k => X (ix2 k r)) w1 w3 w2 (fun e => C (ix2 e r)) e d := by
  subst ho
  have e1 : ∀ (w : Vec Ideal S1x2048x1024 .bf16) (f : Fin 256) (k : Fin 1024),
      View.ld w (Rect.unit ![0, e.val * 256, 0] S1x256x1024.size h1) (ix3 0 f k) = w (ix3 0 ⟨e.val * 256 + f.val, by omega⟩ k) := fun w f k => by
    refine congrArg w ?_
    blk_ext [Rect.idx_unit_val]
  have e2 : ∀ f : Fin 256,
      View.ld w2 (Rect.unit ![0, 0, e.val * 256] S1x1024x256.size h2) (ix3 0 d f) = w2 (ix3 0 d ⟨e.val * 256 + f.val, by omega⟩) := fun f => by
    refine congrArg w2 ?_
    blk_ext [Rect.idx_unit_val]
  unfold part share
  refine Finset.sum_congr rfl fun f _ => ?_
  rw [e2 f]
  exact congrArg₂ (fun a b => w2 (ix3 0 d ⟨e.val * 256 + f.val, by omega⟩) * unit (fun k => X (ix2 k r)) a b (C (ix2 e r)))
    (funext (e1 w1 f)) (funext (e1 w3 f))

end Cert.Kernel3Ideal.Experts

end
-- ==== Proof.ExpertsChunk.lean ====
/- One chunk of the experts kernel as a function of the blocks it reads, and its value at an index. -/
module

public import proofs.«01_k».proof.Proof.Experts
public import Idealize.ShloMosaic.Lib.Pipeline.ValueKit
public import Idealize.ShloMosaic.Lib.Pipeline.ValueKit
public import Idealize.ShloMosaic.Lib.Pipeline.ValueKit
public import Idealize.ShloMosaic.Lib.Pointwise

@[expose] public section

set_option maxRecDepth 16384

noncomputable section

namespace Cert.Kernel3Ideal.Experts

open Cert.Kernel3Ideal Cert.Kernel3Ideal.Gen Idealize.ShloMosaic Idealize.ShloMosaic.TcCoe
open Idealize.ShloMosaic.Pointwise
open Cert.Kernel3Ideal.Facts

/-- The eight parts of a chunk, added up and put where their tokens sit. -/
theorem eight_apply (P : Vec Ideal S256x1024 .bf16) (X : Vec Ideal S1024x256 .bf16) (C : Vec Ideal S8x256 .f32) (a u : Vec Ideal S256x256 .f32) (o : Ideal .f32)
    (b0 a1 b1 a2 b2 a3 b3 a4 b4 a5 b5 a6 b6 a7 b7 : Vec Ideal S1x256x1024 .bf16) (c0 c1 c2 c3 c4 c5 c6 c7 : Vec Ideal S1x1024x256 .bf16)
    (acc : Vec Ideal S1024x1024 .f32) (d t : Fin 1024) :
    k0_pay18 P X C (k0_pay15 X C (k0_pay13 X C (k0_pay11 X C (k0_pay10 X C a u o b0 c0 a1 b1 c1) a2 b2 c2) (k0_pay12 X a3) b3 c3 a4 b4 c4)
        (k0_pay14 a5) (constant S256x256 .f32 0x00000000#32) b5 c5) (k0_pay16 X a6 b6) (k0_pay17 C) c6 a7 b7 c7 acc (ix2 d t)
      = acc (ix2 d t) + ∑ r : Fin 256,
          ((∑ f : Fin 256, c0 (ix3 0 d f) * (a (ix2 f r) * Ideal.div o (u (ix2 f r)) * (∑ k : Fin 1024, b0 (ix3 0 f k) * X (ix2 k r)) * C (ix2 0 r)))
            + part X C a1 b1 c1 1 d r + part X C a2 b2 c2 2 d r + part X C a3 b3 c3 3 d r + part X C a4 b4 c4 4 d r
            + part X C a5 b5 c5 5 d r + part X C a6 b6 c6 6 d r + part X C a7 b7 c7 7 d r) * P (ix2 r t) := by
  rw [pay18_apply]
  refine congrArg (fun z => acc (ix2 d t) + z) (Finset.sum_congr rfl fun r _ => ?_)
  rw [pay15_apply, pay13_apply, pay11_apply, pay10_apply]

variable (v6 : BitVec 32) (k : Fin (k0_t1_loop v6).trips)

/-- The first expert's part, its first product and sigmoid given apart. -/
theorem first_apply (v15 : Vec Ideal S1024x1 .f32) (h0 h1 : Vec Ideal S1x512x1024 .bf16) (C : Vec Ideal S8x256 .f32)
    (a b : Vec Ideal S1x256x1024 .bf16) (c : Vec Ideal S1x1024x256 .bf16) (d : Fin 1024) (r : Fin 256) :
    (∑ f : Fin 256, c (ix3 0 d f) * (k0_pay8 v6 v15 (k0_pay44 (F := Ideal)) 0#32 1#32 k h0 h1 a (ix2 f r)
        * Ideal.div (Scalar.ofBits .f32 0x3F800000#32 : Ideal .f32) (k0_pay9 v6 v15 (k0_pay44 (F := Ideal)) 0#32 1#32 k h0 h1 a (ix2 f r))
        * (∑ j : Fin 1024, b (ix3 0 f j) * k0_pay6 v6 v15 (k0_pay44 (F := Ideal)) 0#32 1#32 k h0 h1 (ix2 j r)) * C (ix2 0 r)))
      = part (k0_pay6 v6 v15 (k0_pay44 (F := Ideal)) 0#32 1#32 k h0 h1) C a b c 0 d r := by
  have one : (Scalar.ofBits .f32 0x3F800000#32 : Ideal .f32) = 1 := by pointwise
  unfold part
  refine Finset.sum_congr rfl fun f _ => ?_
  rw [pay8_apply, pay9_apply, one]
  rfl

/-- What chunk `k` makes of the accumulator. -/
def chunk (h : Vec Ideal S1x1024x1024 .bf16) (w1 w3 : Vec Ideal S1x2048x1024 .bf16) (w2 : Vec Ideal S1x1024x2048 .bf16)
    (v15 : Vec Ideal S1024x1 .f32) (v23 : Vec Ideal S1x1024 .f32) (v29 v32 : Vec Ideal S8x1024 .bf16) (acc : Vec Ideal S1024x1024 .f32) :
    Vec Ideal S1024x1024 .f32 :=
  k0_pay18 (k0_pay5 v6 v23 (k0_pay1 (F := Ideal) (iota .tc S256x1024 32 [0] iota_S256x1024_d0_w32)) 0#32 1#32 k)
    (picked v6 k h v15) (pickedWeights v6 k v15 v29 v32)
    (k0_pay15 (picked v6 k h v15) (pickedWeights v6 k v15 v29 v32)
      (k0_pay13 (picked v6 k h v15) (pickedWeights v6 k v15 v29 v32)
        (k0_pay11 (picked v6 k h v15) (pickedWeights v6 k v15 v29 v32)
          (k0_pay10 (picked v6 k h v15) (pickedWeights v6 k v15 v29 v32)
            (k0_pay8 v6 v15 (k0_pay44 (F := Ideal)) 0#32 1#32 k
              (View.ld h (Rect.unit ![0, 0, 0] S1x512x1024.size inb_S1x1024x1024_S1x512x1024_0_0_0))
              (View.ld h (Rect.unit ![0, 512, 0] S1x512x1024.size inb_S1x1024x1024_S1x512x1024_0_512_0))
              (View.ld w1 (Rect.unit ![0, 0, 0] S1x256x1024.size inb_S1x2048x1024_S1x256x1024_0_0_0)))
            (k0_pay9 v6 v15 (k0_pay44 (F := Ideal)) 0#32 1#32 k
              (View.ld h (Rect.unit ![0, 0, 0] S1x512x1024.size inb_S1x1024x1024_S1x512x1024_0_0_0))
              (View.ld h (Rect.unit ![0, 512, 0] S1x512x1024.size inb_S1x1024x1024_S1x512x1024_0_512_0))
              (View.ld w1 (Rect.unit ![0, 0, 0] S1x256x1024.size inb_S1x2048x1024_S1x256x1024_0_0_0)))
            (Scalar.ofBits .f32 0x3F800000#32)
            (View.ld w3 (Rect.unit ![0, 0, 0] S1x256x1024.size inb_S1x2048x1024_S1x256x1024_0_0_0))
            (View.ld w2 (Rect.unit ![0, 0, 0] S1x1024x256.size inb_S1x1024x2048_S1x1024x256_0_0_0))
            (View.ld w1 (Rect.unit ![0, 256, 0] S1x256x1024.size inb_S1x2048x1024_S1x256x1024_0_256_0))
            (View.ld w3 (Rect.unit ![0, 256, 0] S1x256x1024.size inb_S1x2048x1024_S1x256x1024_0_256_0))
            (View.ld w2 (Rect.unit ![0, 0, 256] S1x1024x256.size inb_S1x1024x2048_S1x1024x256_0_0_256)))
          (View.ld w1 (Rect.unit ![0, 512, 0] S1x256x1024.size inb_S1x2048x1024_S1x256x1024_0_512_0))
          (View.ld w3 (Rect.unit ![0, 512, 0] S1x256x1024.size inb_S1x2048x1024_S1x256x1024_0_512_0))
          (View.ld w2 (Rect.unit ![0, 0, 512] S1x1024x256.size inb_S1x1024x2048_S1x1024x256_0_0_512)))
        (k0_pay12 (picked v6 k h v15) (View.ld w1 (Rect.unit ![0, 768, 0] S1x256x1024.size inb_S1x2048x1024_S1x256x1024_0_768_0)))
        (View.ld w3 (Rect.unit ![0, 768, 0] S1x256x1024.size inb_S1x2048x1024_S1x256x1024_0_768_0))
        (View.ld w2 (Rect.unit ![0, 0, 768] S1x1024x256.size inb_S1x1024x2048_S1x1024x256_0_0_768))
        (View.ld w1 (Rect.unit ![0, 1024, 0] S1x256x1024.size inb_S1x2048x1024_S1x256x1024_0_1024_0))
        (View.ld w3 (Rect.unit ![0, 1024, 0] S1x256x1024.size inb_S1x2048x1024_S1x256x1024_0_1024_0))
        (View.ld w2 (Rect.unit ![0, 0, 1024] S1x1024x256.size inb_S1x1024x2048_S1x1024x256_0_0_1024)))
      (k0_pay14 (View.ld w1 (Rect.unit ![0, 1280, 0] S1x256x1024.size inb_S1x2048x1024_S1x256x1024_0_1280_0)))
      (constant S256x256 .f32 0x00000000#32)
      (View.ld w3 (Rect.unit ![0, 1280, 0] S1x256x1024.size inb_S1x2048x1024_S1x256x1024_0_1280_0))
      (View.ld w2 (Rect.unit ![0, 0, 1280] S1x1024x256.size inb_S1x1024x2048_S1x1024x256_0_0_1280)))
    (k0_pay16 (picked v6 k h v15) (View.ld w1 (Rect.unit ![0, 1536, 0] S1x256x1024.size inb_S1x2048x1024_S1x256x1024_0_1536_0))
      (View.ld w3 (Rect.unit ![0, 1536, 0] S1x256x1024.size inb_S1x2048x1024_S1x256x1024_0_1536_0)))
    (k0_pay17 (pickedWeights v6 k v15 v29 v32))
    (View.ld w2 (Rect.unit ![0, 0, 1536] S1x1024x256.size inb_S1x1024x2048_S1x1024x256_0_0_1536))
    (View.ld w1 (Rect.unit ![0, 1792, 0] S1x256x1024.size inb_S1x2048x1024_S1x256x1024_0_1792_0))
    (View.ld w3 (Rect.unit ![0, 1792, 0] S1x256x1024.size inb_S1x2048x1024_S1x256x1024_0_1792_0))
    (View.ld w2 (Rect.unit ![0, 0, 1792] S1x1024x256.size inb_S1x1024x2048_S1x1024x256_0_0_1792))
    acc

/-- A chunk at an index: every picked token's experts, added where the token sits. -/
theorem chunk_apply (h : Vec Ideal S1x1024x1024 .bf16) (w1 w3 : Vec Ideal S1x2048x1024 .bf16) (w2 : Vec Ideal S1x1024x2048 .bf16)
    (v15 : Vec Ideal S1024x1 .f32) (v23 : Vec Ideal S1x1024 .f32) (v29 v32 : Vec Ideal S8x1024 .bf16) (acc : Vec Ideal S1024x1024 .f32)
    (d t : Fin 1024) :
    chunk v6 k h w1 w3 w2 v15 v23 v29 v32 acc (ix2 d t)
      = acc (ix2 d t) + ∑ r : Fin 256,
          (∑ e : Fin 8, share (fun j => picked v6 k h v15 (ix2 j r)) w1 w3 w2 (fun e => pickedWeights v6 k v15 v29 v32 (ix2 e r)) e d)
            * (if v23 (ix2 0 t) - k0_pay3 (F := Ideal) v6 0#32 1#32 k = ((r.val : ℝ) : EReal) then 1 else 0) := by
  refine (eight_apply ..).trans ?_
  refine congrArg (fun z => acc (ix2 d t) + z) (Finset.sum_congr rfl fun r _ => ?_)
  rw [first_apply, pay5_apply]
  refine congrArg (fun z => z * _) ?_
  rw [← sum_eight]
  unfold picked pickedWeights
  generalize k0_pay6 v6 v15 (k0_pay44 (F := Ideal)) 0#32 1#32 k
    (View.ld h (Rect.unit ![0, 0, 0] S1x512x1024.size inb_S1x1024x1024_S1x512x1024_0_0_0))
    (View.ld h (Rect.unit ![0, 512, 0] S1x512x1024.size inb_S1x1024x1024_S1x512x1024_0_512_0)) = X
  generalize k0_pay7 v6 v15 v29 v32 (k0_pay44 (F := Ideal)) 0#32 1#32 k = C
  rw [part_ld X C w1 w3 w2 0 0 rfl, part_ld X C w1 w3 w2 1 256 rfl, part_ld X C w1 w3 w2 2 512 rfl, part_ld X C w1 w3 w2 3 768 rfl,
    part_ld X C w1 w3 w2 4 1024 rfl, part_ld X C w1 w3 w2 5 1280 rfl, part_ld X C w1 w3 w2 6 1536 rfl, part_ld X C w1 w3 w2 7 1792 rfl]

end Cert.Kernel3Ideal.Experts

end
-- ==== Proof.ExpertsTrip.lean ====
/- A trip of the experts kernel's loop: the one store it makes, and what the loop leaves in the accumulator. -/
module

public import proofs.«01_k».proof.Proof.ExpertsLoop
public import Idealize.ShloMosaic.Lib.VecWindow
public import proofs.«01_k».proof.Proof.ExpertsChunk

@[expose] public section

set_option maxRecDepth 16384

noncomputable section

namespace Cert.Kernel3Ideal.Experts

open Cert.Kernel3Ideal Cert.Kernel3Ideal.Gen Idealize.ShloMosaic Idealize.ShloMosaic.TcCoe
open Cert.Kernel3Ideal.Facts

/-- A trip stores the whole accumulator, once: the chunk it makes of what it found there. -/
theorem trip_eq (𝒱 : Variants) (c : Dev nD) (bd : Option 𝒱.V) (i : grid0.Coords) (arg2 : Memref sig .tc .smem S128 .i32) (harg2 : arg2.IsWhole) (arg3 : Memref sig .tc .vmem S1x1024x1024 .bf16) (harg3 : arg3.IsWhole) (arg4 : Memref sig .tc .vmem S1x1024x128 .f32) (harg4 : arg4.IsWhole) (arg5 : Memref sig .tc .vmem S1x128x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x2048x1024 .bf16) (harg10 : arg10.IsWhole) (arg11 : Memref sig .tc .vmem S1x1024x2048 .bf16) (harg11 : arg11.IsWhole) (arg12 : Memref sig .tc .vmem S1x1024x1024 .f32) (harg12 : arg12.IsWhole) (arg13 : Memref sig .tc .vmem S1024x1024 .f32) (harg13 : arg13.IsWhole) (v6 : Elt Ideal .i32) (k0_hw1 : k0_chk1 v6) (v15 : FVec Ideal S1024x1 .f32) (v23 : FVec Ideal S1x1024 .f32) (v29 : FVec Ideal S8x1024 .bf16) (v32 : FVec Ideal S8x1024 .bf16) (X_arg3 : BufTy.Contents (Elt Ideal) arg3.view.ty) (X_arg9 : BufTy.Contents (Elt Ideal) arg9.view.ty) (X_arg10 : BufTy.Contents (Elt Ideal) arg10.view.ty) (X_arg11 : BufTy.Contents (Elt Ideal) arg11.view.ty) (k : Fin (k0_t1_loop v6).trips) (f_arg13 : BufTy.Contents (Elt Ideal) arg13.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v6 k0_hw1 v15 v23 v29 v32 (k0_pay44 (F := Ideal)) (iota .tc S256x1024 32 [0] iota_S256x1024_d0_w32) X_arg3 X_arg9 X_arg10 X_arg11 k f_arg13
      = [⟨Rect.unit ![0, 0] ![1024, 1024] inb_S1024x1024_S1024x1024_0_0,
          chunk v6 k (arg3.view.read (Elt Ideal) X_arg3) (arg9.view.read (Elt Ideal) X_arg9) (arg10.view.read (Elt Ideal) X_arg10) (arg11.view.read (Elt Ideal) X_arg11)
            v15 v23 v29 v32 (arg13.view.read (Elt Ideal) f_arg13)⟩] := by
  unfold tripL_k0_t1 trip_k0_t1
  refine congrArg (fun w => [(⟨Rect.unit ![0, 0] ![1024, 1024] inb_S1024x1024_S1024x1024_0_0, w⟩ : View.Piece (Elt Ideal) S1024x1024 .f32)]) ?_
  have e : View.ld (arg13.view.read (Elt Ideal) f_arg13) (Rect.unit ![0, 0] S1024x1024.size inb_S1024x1024_S1024x1024_0_0) = arg13.view.read (Elt Ideal) f_arg13 := by
    funext y
    refine congrArg (arg13.view.read (Elt Ideal) f_arg13) ?_
    blk_ext [Rect.idx_unit_val]
  rw [← e]
  rfl

/-- The accumulator after the first `n` chunks, from `acc`. -/
def loop (v6 : BitVec 32) (h : Vec Ideal S1x1024x1024 .bf16) (w1 w3 : Vec Ideal S1x2048x1024 .bf16) (w2 : Vec Ideal S1x1024x2048 .bf16)
    (v15 : Vec Ideal S1024x1 .f32) (v23 : Vec Ideal S1x1024 .f32) (v29 v32 : Vec Ideal S8x1024 .bf16) (acc : Vec Ideal S1024x1024 .f32) :
    ℕ → Vec Ideal S1024x1024 .f32
  | 0 => acc
  | n + 1 => if hn : n < (k0_t1_loop v6).trips then chunk v6 ⟨n, hn⟩ h w1 w3 w2 v15 v23 v29 v32 (loop v6 h w1 w3 w2 v15 v23 v29 v32 acc n)
      else loop v6 h w1 w3 w2 v15 v23 v29 v32 acc n

/-- What the first `n` trips leave in the accumulator. -/
theorem loop_eq (𝒱 : Variants) (c : Dev nD) (bd : Option 𝒱.V) (i : grid0.Coords) (arg2 : Memref sig .tc .smem S128 .i32) (harg2 : arg2.IsWhole) (arg3 : Memref sig .tc .vmem S1x1024x1024 .bf16) (harg3 : arg3.IsWhole) (arg4 : Memref sig .tc .vmem S1x1024x128 .f32) (harg4 : arg4.IsWhole) (arg5 : Memref sig .tc .vmem S1x128x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x2048x1024 .bf16) (harg10 : arg10.IsWhole) (arg11 : Memref sig .tc .vmem S1x1024x2048 .bf16) (harg11 : arg11.IsWhole) (arg12 : Memref sig .tc .vmem S1x1024x1024 .f32) (harg12 : arg12.IsWhole) (arg13 : Memref sig .tc .vmem S1024x1024 .f32) (harg13 : arg13.IsWhole) (v6 : Elt Ideal .i32) (k0_hw1 : k0_chk1 v6) (v15 : FVec Ideal S1024x1 .f32) (v23 : FVec Ideal S1x1024 .f32) (v29 : FVec Ideal S8x1024 .bf16) (v32 : FVec Ideal S8x1024 .bf16) (X_arg3 : BufTy.Contents (Elt Ideal) arg3.view.ty) (X_arg9 : BufTy.Contents (Elt Ideal) arg9.view.ty) (X_arg10 : BufTy.Contents (Elt Ideal) arg10.view.ty) (X_arg11 : BufTy.Contents (Elt Ideal) arg11.view.ty) (f_arg13 : BufTy.Contents (Elt Ideal) arg13.view.ty) (n : ℕ) (hn : n ≤ (k0_t1_loop v6).trips) :
    arg13.view.read (Elt Ideal) (arg13.view.writes (Elt Ideal) f_arg13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v6 k0_hw1 v15 v23 v29 v32 (k0_pay44 (F := Ideal)) (iota .tc S256x1024 32 [0] iota_S256x1024_d0_w32) X_arg3 X_arg9 X_arg10 X_arg11 f_arg13 n))
      = loop v6 (arg3.view.read (Elt Ideal) X_arg3) (arg9.view.read (Elt Ideal) X_arg9) (arg10.view.read (Elt Ideal) X_arg10) (arg11.view.read (Elt Ideal) X_arg11)
          v15 v23 v29 v32 (arg13.view.read (Elt Ideal) f_arg13) n := by
  induction n with
  | zero => rfl
  | succ n ih =>
    have hlt : n < (k0_t1_loop v6).trips := hn
    have s := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 v6 k0_hw1 v15 v23 v29 v32 (k0_pay44 (F := Ideal)) (iota .tc S256x1024 32 [0] iota_S256x1024_d0_w32) X_arg3 X_arg9 X_arg10 X_arg11 f_arg13 ⟨n, hlt⟩
    rw [show (⟨n, hlt⟩ : Fin (k0_t1_loop v6).trips).val + 1 = n + 1 from rfl, trip_eq] at s
    rw [s, List.singleton_append]
    refine (View.read_writes_full arg13.view f_arg13 inb_S1024x1024_S1024x1024_0_0 _ _).trans ?_
    rw [ih (le_of_lt hlt)]
    rw [loop, dif_pos hlt]

end Cert.Kernel3Ideal.Experts

end
-- ==== Proof.ExpertsPoint.lean ====
/- What one grid point of the experts kernel leaves in the accumulator and in the output. -/
module

public import proofs.«01_k».proof.Proof.ExpertsLoop
public import Idealize.ShloMosaic.Lib.VecWindow
public import proofs.«01_k».proof.Proof.ExpertsTrip

@[expose] public section

set_option maxRecDepth 16384

noncomputable section

namespace Cert.Kernel3Ideal.Experts

open Cert.Kernel3Ideal Cert.Kernel3Ideal.Gen Idealize.ShloMosaic Idealize.ShloMosaic.TcCoe
open Cert.Kernel3Ideal.Facts

/-- The second loop starts where it ends: the step divides every bound. -/
theorem noTrips (v6 : BitVec 32) : (k0_t2_loop v6).trips = 0 := by
  have key : ∀ a : BitVec 32, Scf.trips (Scalar.addi 0#32 (Scalar.muli (Scalar.divsi a 1#32) 1#32)) (Scalar.addi 0#32 a) 1#32 = 0 := by
    intro a
    have e : Scalar.muli (Scalar.divsi a 1#32) 1#32 = a := by
      have hc : ¬ IntOp.SDivCorner a 1#32 := by
        unfold IntOp.SDivCorner
        simp
      unfold Scalar.divsi Scalar.muli IntOp.divsi IntOp.muli
      rw [if_neg hc, BitVec.sdiv_one, BitVec.mul_one]
    rw [e]
    unfold Scf.trips
    simp
  exact key _

/-- So it stores nothing. -/
theorem noPieces (𝒱 : Variants) (c : Dev nD) (bd : Option 𝒱.V) (i : grid0.Coords) (arg2 : Memref sig .tc .smem S128 .i32) (harg2 : arg2.IsWhole) (arg3 : Memref sig .tc .vmem S1x1024x1024 .bf16) (harg3 : arg3.IsWhole) (arg4 : Memref sig .tc .vmem S1x1024x128 .f32) (harg4 : arg4.IsWhole) (arg5 : Memref sig .tc .vmem S1x128x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x2048x1024 .bf16) (harg10 : arg10.IsWhole) (arg11 : Memref sig .tc .vmem S1x1024x2048 .bf16) (harg11 : arg11.IsWhole) (arg12 : Memref sig .tc .vmem S1x1024x1024 .f32) (harg12 : arg12.IsWhole) (arg13 : Memref sig .tc .vmem S1024x1024 .f32) (harg13 : arg13.IsWhole) (v6 : Elt Ideal .i32) (k0_hw1 : k0_chk1 v6) (v15 : FVec Ideal S1024x1 .f32) (v23 : FVec Ideal S1x1024 .f32) (v29 : FVec Ideal S8x1024 .bf16) (v32 : FVec Ideal S8x1024 .bf16) (v34 : FVec Ideal S1024x256 .f32) (v35 : IVec S256x1024 32) (v60 : BitVec 32) (X_arg3 : BufTy.Contents (Elt Ideal) arg3.view.ty) (X_arg9 : BufTy.Contents (Elt Ideal) arg9.view.ty) (X_arg10 : BufTy.Contents (Elt Ideal) arg10.view.ty) (X_arg11 : BufTy.Contents (Elt Ideal) arg11.view.ty) (G_arg13 : BufTy.Contents (Elt Ideal) arg13.view.ty) (n : ℕ) (hn : n = 0) :
    pb_k0_t2 (F := Ideal) 𝒱 c bd i arg2 harg2 arg3 harg3 arg4 harg4 arg5 harg5 arg6 harg6 arg7 harg7 arg8 harg8 arg9 harg9 arg10 harg10 arg11 harg11 arg12 harg12 arg13 harg13 v6 k0_hw1 v15 v23 v29 v32 v34 v35 v60 X_arg3 X_arg9 X_arg10 X_arg11 G_arg13 n = [] := by
  subst hn
  rfl

/-- A load of a block held whole. -/
theorem ld_unread {s : Shape} {e : EltTy} (M : Memref sig .tc .vmem s e) (hM : M.IsWhole) (x : Vec Ideal s e) (r : Rect s) :
    M.view.readAt (Elt Ideal) r.toLoadRect (hM.unread x) = View.ld x r :=
  congrArg (fun z => View.ld z r) (hM.read_unread x)

/-- The token's slot in its group, as a column. -/
def slots (i : grid0.Coords) (x1 : Vec Ideal S1x1024x128 .f32) : Vec Ideal S1024x1 .f32 :=
  k0_pay39 (F := Ideal) i (View.ld x1 (Rect.unit (s := S1x1024x128) ![0, 0, 32] S1x1024x1.size inb_S1x1024x128_S1x1024x1_0_0_32))
    (View.ld x1 (Rect.unit (s := S1x1024x128) ![0, 0, 33] S1x1024x1.size inb_S1x1024x128_S1x1024x1_0_0_33))

/-- The token's slot in its group, as a row. -/
def slotsRow (i : grid0.Coords) (x2 : Vec Ideal S1x128x1024 .f32) : Vec Ideal S1x1024 .f32 :=
  k0_pay40 (F := Ideal) i (View.ld x2 (Rect.unit (s := S1x128x1024) ![0, 32, 0] S1x1x1024.size inb_S1x128x1024_S1x1x1024_0_32_0))
    (View.ld x2 (Rect.unit (s := S1x128x1024) ![0, 33, 0] S1x1x1024.size inb_S1x128x1024_S1x1x1024_0_33_0))

/-- The weights of the group's experts, rounded. -/
def high (i : grid0.Coords) (x2 : Vec Ideal S1x128x1024 .f32) : Vec Ideal S8x1024 .bf16 :=
  k0_pay42 (F := Ideal) (View.ld x2 (Rect.unit (s := S1x128x1024) (k0_off2 i) S1x8x1024.size (k0_off2_inb i)))

/-- What the rounding leaves of them. -/
def low (i : grid0.Coords) (x2 : Vec Ideal S1x128x1024 .f32) : Vec Ideal S8x1024 .bf16 :=
  k0_pay43 (F := Ideal) (View.ld x2 (Rect.unit (s := S1x128x1024) (k0_off2 i) S1x8x1024.size (k0_off2_inb i)))

/-- The word of the table a point reads: its group's count. -/
def word (c : Dev nD) (i : grid0.Coords) (xt0 : TbBuf0 (F := Ideal) c tbM0_0) : BitVec 32 :=
  tbM0_0.view.readAt (Elt Ideal) (Rect.unit (s := S128) (k0_off1 i) S1.size (k0_off1_inb i)).toLoadRect xt0 (Shape.Idx.first (numel1_S1.symm ▸ Nat.one_pos))

/-- A point's accumulator from the one before. -/
def after (i : grid0.Coords) (W : BitVec 32) (x0 : Vec Ideal S1x1024x1024 .bf16) (x1 : Vec Ideal S1x1024x128 .f32) (x2 : Vec Ideal S1x128x1024 .f32)
    (x6 x7 : Vec Ideal S1x2048x1024 .bf16) (x8 : Vec Ideal S1x1024x2048 .bf16) (acc : Vec Ideal S1024x1024 .f32) : Vec Ideal S1024x1024 .f32 :=
  loop W x0 x6 x7 x8 (slots i x1) (slotsRow i x2) (high i x2) (low i x2) acc (k0_t1_loop W).trips

/-- The accumulator after a first group. -/
theorem sout0_A_eq (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x128x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x2048x1024 .bf16) (harg10 : arg10.IsWhole) (arg11 : Memref sig .tc .vmem S1x1024x2048 .bf16) (harg11 : arg11.IsWhole) (arg12 : Memref sig .tc .vmem S1x1024x1024 .f32) (harg12 : arg12.IsWhole) (arg13 : Memref sig .tc .vmem S1024x1024 .f32) (harg13 : arg13.IsWhole) (hc0 : cond0_0 i) (hc1 : ¬cond0_1 i) (x0 : Vec Ideal S1x1024x1024 .bf16) (x1 : Vec Ideal S1x1024x128 .f32) (x2 : Vec Ideal S1x128x1024 .f32) (x3 : Vec Ideal S1x1024x1024 .f32) (x4 : Vec Ideal S1x1x1024 .f32) (x5 : Vec Ideal S1x1x1024 .f32) (x6 : Vec Ideal S1x2048x1024 .bf16) (x7 : Vec Ideal S1x2048x1024 .bf16) (x8 : Vec Ideal S1x1024x2048 .bf16) (xt0 : TbBuf0 (F := Ideal) c tbM0_0) (k0_hw1 : k0_chk1 (tbM0_0.view.readAt (Elt Ideal) (Rect.unit (s := S128) (k0_off1 i) S1.size (k0_off1_inb i)).toLoadRect xt0 (Shape.Idx.first (numel1_S1.symm ▸ Nat.one_pos)))) :
    sout0_A_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xt0 k0_hw1 = after i (word c i xt0) x0 x1 x2 x6 x7 x8 (k0_pay37 (F := Ideal)) := by
  unfold sout0_A_0
  rw [View.read_writes_of_cover VS0_0 _ arg13.view arg13.view.junk _
    (scover0_A_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xt0 k0_hw1)]
  unfold kernelRun0_A
  dsimp only
  rw [noPieces]
  · rw [List.nil_append, View.writes_append]
    refine (loop_eq (hn := le_refl _) ..).trans ?_
    have z : arg13.view.read (Elt Ideal) (arg13.view.writes (Elt Ideal) arg13.view.junk kernelRun0_A.sl.HS0_1) = k0_pay37 (F := Ideal) :=
      View.read_writes_full arg13.view _ inb_S1024x1024_S1024x1024_0_0 _ _
    rw [z]
    simp only [harg3.read_unread, harg9.read_unread, harg10.read_unread, harg11.read_unread, harg13.read_unread]
    unfold kernelRun0_A.sl.r_1 kernelRun0_A.sl.r_2 kernelRun0_A.sl.r_3 kernelRun0_A.sl.r_4
    simp only [ld_unread]
    rfl
  · exact noTrips _

/-- The accumulator after a middle group. -/
theorem sout0_B_eq (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x128x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x2048x1024 .bf16) (harg10 : arg10.IsWhole) (arg11 : Memref sig .tc .vmem S1x1024x2048 .bf16) (harg11 : arg11.IsWhole) (arg12 : Memref sig .tc .vmem S1x1024x1024 .f32) (harg12 : arg12.IsWhole) (arg13 : Memref sig .tc .vmem S1024x1024 .f32) (harg13 : arg13.IsWhole) (hc0 : ¬cond0_0 i) (hc1 : ¬cond0_1 i) (x0 : Vec Ideal S1x1024x1024 .bf16) (x1 : Vec Ideal S1x1024x128 .f32) (x2 : Vec Ideal S1x128x1024 .f32) (x3 : Vec Ideal S1x1024x1024 .f32) (x4 : Vec Ideal S1x1x1024 .f32) (x5 : Vec Ideal S1x1x1024 .f32) (x6 : Vec Ideal S1x2048x1024 .bf16) (x7 : Vec Ideal S1x2048x1024 .bf16) (x8 : Vec Ideal S1x1024x2048 .bf16) (xt0 : TbBuf0 (F := Ideal) c tbM0_0) (xs0 : Vec Ideal S1024x1024 .f32) (k0_hw1 : k0_chk1 (tbM0_0.view.readAt (Elt Ideal) (Rect.unit (s := S128) (k0_off1 i) S1.size (k0_off1_inb i)).toLoadRect xt0 (Shape.Idx.first (numel1_S1.symm ▸ Nat.one_pos)))) :
    sout0_B_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xt0 xs0 k0_hw1 = after i (word c i xt0) x0 x1 x2 x6 x7 x8 xs0 := by
  unfold sout0_B_0 kernelRun0_B
  dsimp only
  rw [noPieces]
  · rw [List.nil_append]
    refine (loop_eq (hn := le_refl _) ..).trans ?_
    simp only [harg3.read_unread, harg9.read_unread, harg10.read_unread, harg11.read_unread, harg13.read_unread]
    unfold kernelRun0_B.sl.r_1 kernelRun0_B.sl.r_2 kernelRun0_B.sl.r_3 kernelRun0_B.sl.r_4
    simp only [ld_unread]
    rfl
  · exact noTrips _

/-- The accumulator after a last group. -/
theorem sout0_C_eq (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x128x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x2048x1024 .bf16) (harg10 : arg10.IsWhole) (arg11 : Memref sig .tc .vmem S1x1024x2048 .bf16) (harg11 : arg11.IsWhole) (arg12 : Memref sig .tc .vmem S1x1024x1024 .f32) (harg12 : arg12.IsWhole) (arg13 : Memref sig .tc .vmem S1024x1024 .f32) (harg13 : arg13.IsWhole) (hc0 : ¬cond0_0 i) (hc1 : cond0_1 i) (x0 : Vec Ideal S1x1024x1024 .bf16) (x1 : Vec Ideal S1x1024x128 .f32) (x2 : Vec Ideal S1x128x1024 .f32) (x3 : Vec Ideal S1x1024x1024 .f32) (x4 : Vec Ideal S1x1x1024 .f32) (x5 : Vec Ideal S1x1x1024 .f32) (x6 : Vec Ideal S1x2048x1024 .bf16) (x7 : Vec Ideal S1x2048x1024 .bf16) (x8 : Vec Ideal S1x1024x2048 .bf16) (xt0 : TbBuf0 (F := Ideal) c tbM0_0) (xs0 : Vec Ideal S1024x1024 .f32) (k0_hw1 : k0_chk1 (tbM0_0.view.readAt (Elt Ideal) (Rect.unit (s := S128) (k0_off1 i) S1.size (k0_off1_inb i)).toLoadRect xt0 (Shape.Idx.first (numel1_S1.symm ▸ Nat.one_pos)))) :
    sout0_C_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xt0 xs0 k0_hw1 = after i (word c i xt0) x0 x1 x2 x6 x7 x8 xs0 := by
  unfold sout0_C_0 kernelRun0_C
  dsimp only
  rw [noPieces]
  · rw [List.nil_append]
    refine (loop_eq (hn := le_refl _) ..).trans ?_
    simp only [harg3.read_unread, harg9.read_unread, harg10.read_unread, harg11.read_unread, harg13.read_unread]
    unfold kernelRun0_C.sl.r_1 kernelRun0_C.sl.r_2 kernelRun0_C.sl.r_3 kernelRun0_C.sl.r_4
    simp only [ld_unread]
    rfl
  · exact noTrips _

/-- The output block a last group writes. -/
theorem out0_C_eq (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x128x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x2048x1024 .bf16) (harg10 : arg10.IsWhole) (arg11 : Memref sig .tc .vmem S1x1024x2048 .bf16) (harg11 : arg11.IsWhole) (arg12 : Memref sig .tc .vmem S1x1024x1024 .f32) (harg12 : arg12.IsWhole) (arg13 : Memref sig .tc .vmem S1024x1024 .f32) (harg13 : arg13.IsWhole) (hc0 : ¬cond0_0 i) (hc1 : cond0_1 i) (x0 : Vec Ideal S1x1024x1024 .bf16) (x1 : Vec Ideal S1x1024x128 .f32) (x2 : Vec Ideal S1x128x1024 .f32) (x3 : Vec Ideal S1x1024x1024 .f32) (x4 : Vec Ideal S1x1x1024 .f32) (x5 : Vec Ideal S1x1x1024 .f32) (x6 : Vec Ideal S1x2048x1024 .bf16) (x7 : Vec Ideal S1x2048x1024 .bf16) (x8 : Vec Ideal S1x1024x2048 .bf16) (xt0 : TbBuf0 (F := Ideal) c tbM0_0) (xs0 : Vec Ideal S1024x1024 .f32) (k0_hw1 : k0_chk1 (tbM0_0.view.readAt (Elt Ideal) (Rect.unit (s := S128) (k0_off1 i) S1.size (k0_off1_inb i)).toLoadRect xt0 (Shape.Idx.first (numel1_S1.symm ▸ Nat.one_pos)))) :
    out0_C_9 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xt0 xs0 k0_hw1
      = k0_pay2 (F := Ideal) (k0_pay35 (View.ld x3 (Rect.unit (s := S1x1024x1024) ![0, 0, 0] S1x1024x1024.size inb_S1x1024x1024_S1x1024x1024_0_0_0)))
          (k0_pay36 (BitVec.ofNat 32 (i 0).val) (View.ld x4 (Rect.unit (s := S1x1x1024) ![0, 0, 0] S1x1x1024.size inb_S1x1x1024_S1x1x1024_0_0_0))
            (View.ld x5 (Rect.unit (s := S1x1x1024) ![0, 0, 0] S1x1x1024.size inb_S1x1x1024_S1x1x1024_0_0_0)))
          (after i (word c i xt0) x0 x1 x2 x6 x7 x8 xs0) := by
  rw [← sout0_C_eq c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xt0 xs0 k0_hw1]
  unfold out0_C_9 sout0_C_0 kernelRun0_C
  dsimp only
  refine (View.read_writes_full VO0_9 _ inb_S1x1024x1024_S1x1024x1024_0_0_0 _ _).trans ?_
  unfold kernelRun0_C.sl.r_5 kernelRun0_C.sl.r_6 kernelRun0_C.sl.v102
  simp only [ld_unread]
  refine congrArg (k0_pay2 (F := Ideal) _ _) ?_
  exact View.readAt_full ..

end Cert.Kernel3Ideal.Experts

end
-- ==== Proof.ExpertsSum.lean ====
/- The experts kernel's accumulator in closed form: a token gets its own group's experts, once, in the chunk its rank falls in. -/
module

public import proofs.«01_k».proof.Proof.ExpertsPoint

@[expose] public section

set_option maxRecDepth 16384

noncomputable section

namespace Cert.Kernel3Ideal.Experts

open Cert.Kernel3Ideal Cert.Kernel3Ideal.Gen Idealize.ShloMosaic Idealize.ShloMosaic.TcCoe
open Cert.Kernel3Ideal.Facts

/-- The chunk's first slot. -/
theorem start_eq (v6 : BitVec 32) (k : Fin (k0_t1_loop v6).trips) (hk : k.val < 1000) :
    k0_pay3 (F := Ideal) v6 0#32 1#32 k = (((256 * k.val : ℕ) : ℝ) : EReal) := by
  have e : Scalar.muli (Scf.iv 0#32 1#32 k.val) 256#32 = BitVec.ofNat 32 (256 * k.val) := by
    unfold Scf.iv Scalar.muli IntOp.muli
    apply BitVec.eq_of_toNat_eq
    simp only [BitVec.toNat_mul, BitVec.toNat_add, BitVec.toNat_ofNat]
    omega
  show (FloatOps.sitofp FTy.f32 (Scalar.muli (Scf.iv 0#32 1#32 k.val) 256#32) : Ideal .f32) = _
  rw [e]
  exact number (by omega)

/-- The slot of a token: its rank if it is of the group, minus one if not. -/
abbrev slot (own : Fin 1024 → Prop) [DecidablePred own] (rk : Fin 1024 → ℕ) (t : Fin 1024) : EReal :=
  if own t then ((rk t : ℝ) : EReal) else ((-1 : ℝ) : EReal)

/-- A slot falls on lane `r` of the chunk from `n` exactly when the token is of the group and its rank is `n + r`. -/
theorem slot_iff (own : Fin 1024 → Prop) [DecidablePred own] (rk : Fin 1024 → ℕ) (t : Fin 1024) (n r : ℕ) :
    slot own rk t - ((n : ℝ) : EReal) = ((r : ℝ) : EReal) ↔ own t ∧ rk t = n + r := by
  unfold slot
  by_cases h : own t
  · rw [if_pos h, ← EReal.coe_sub, EReal.coe_eq_coe_iff]
    constructor
    · intro e
      refine ⟨h, ?_⟩
      have : (rk t : ℝ) = ((n + r : ℕ) : ℝ) := by push_cast; linarith
      exact_mod_cast this
    · rintro ⟨-, e⟩
      rw [e]
      push_cast
      ring
  · rw [if_neg h, ← EReal.coe_sub, EReal.coe_eq_coe_iff]
    constructor
    · intro e
      have h1 : (0 : ℝ) ≤ n := Nat.cast_nonneg n
      have h2 : (0 : ℝ) ≤ r := Nat.cast_nonneg r
      linarith
    · rintro ⟨h', -⟩
      exact absurd h' h

section
variable (h : Vec Ideal S1x1024x1024 .bf16) (w1 w3 : Vec Ideal S1x2048x1024 .bf16) (w2 : Vec Ideal S1x1024x2048 .bf16)
  (v15 : Vec Ideal S1024x1 .f32) (v23 : Vec Ideal S1x1024 .f32) (v29 v32 : Vec Ideal S8x1024 .bf16)
  (own : Fin 1024 → Prop) [DecidablePred own] (rk : Fin 1024 → ℕ)

/-- What a token of the group gets at feature `d`. -/
def gain (d t : Fin 1024) : EReal :=
  ∑ e : Fin 8, share (fun j => h (ix3 0 j t)) w1 w3 w2 (fun e => v29 (ix2 e t) + v32 (ix2 e t)) e d

/-- A picked column of the features is its token's. -/
theorem picked_eq (v6 : BitVec 32) (k : Fin (k0_t1_loop v6).trips) (hk : k.val < 1000)
    (h15 : ∀ t, v15 (ix2 t 0) = slot own rk t) (inj : ∀ t u, own t → own u → rk t = rk u → t = u)
    (t : Fin 1024) (ht : own t) (r : Fin 256) (hr : rk t = 256 * k.val + r.val) (j : Fin 1024) :
    picked v6 k h v15 (ix2 j r) = h (ix3 0 j t) := by
  unfold picked
  rw [pay6_apply, Finset.sum_eq_single t]
  · rw [pay4_apply, start_eq v6 k hk, h15, if_pos ((slot_iff own rk t _ _).2 ⟨ht, hr⟩), mul_one]
    split
    · refine congrArg h ?_
      blk_ext [Rect.idx_unit_val]
    · refine congrArg h ?_
      blk_ext [Rect.idx_unit_val]
  · intro u _ hu
    rw [pay4_apply, start_eq v6 k hk, h15, if_neg, mul_zero]
    intro e
    obtain ⟨h1, h2⟩ := (slot_iff own rk u _ _).1 e
    exact hu (inj _ _ h1 ht (h2.trans hr.symm))
  · intro hn
    exact absurd (Finset.mem_univ _) hn

/-- A picked column of the weights is its token's. -/
theorem pickedWeights_eq (v6 : BitVec 32) (k : Fin (k0_t1_loop v6).trips) (hk : k.val < 1000)
    (h15 : ∀ t, v15 (ix2 t 0) = slot own rk t) (inj : ∀ t u, own t → own u → rk t = rk u → t = u)
    (t : Fin 1024) (ht : own t) (r : Fin 256) (hr : rk t = 256 * k.val + r.val) (e : Fin 8) :
    pickedWeights v6 k v15 v29 v32 (ix2 e r) = v29 (ix2 e t) + v32 (ix2 e t) := by
  have one : ∀ v : Vec Ideal S8x1024 .bf16, (∑ u : Fin 1024, v (ix2 e u) * k0_pay4 v6 v15 (k0_pay44 (F := Ideal)) 0#32 1#32 k (ix2 u r)) = v (ix2 e t) := by
    intro v
    rw [Finset.sum_eq_single t]
    · rw [pay4_apply, start_eq v6 k hk, h15, if_pos ((slot_iff own rk t _ _).2 ⟨ht, hr⟩), mul_one]
    · intro u _ hu
      rw [pay4_apply, start_eq v6 k hk, h15, if_neg, mul_zero]
      intro e
      obtain ⟨h1, h2⟩ := (slot_iff own rk u _ _).1 e
      exact hu (inj _ _ h1 ht (h2.trans hr.symm))
    · intro hn
      exact absurd (Finset.mem_univ _) hn
  unfold pickedWeights
  rw [pay7_apply, one, one]

/-- A chunk adds the gain of the group's tokens whose rank it holds. -/
theorem chunk_value (v6 : BitVec 32) (k : Fin (k0_t1_loop v6).trips) (hk : k.val < 1000)
    (h15 : ∀ t, v15 (ix2 t 0) = slot own rk t) (h23 : ∀ t, v23 (ix2 0 t) = slot own rk t)
    (inj : ∀ t u, own t → own u → rk t = rk u → t = u) (acc : Vec Ideal S1024x1024 .f32) (d t : Fin 1024) :
    chunk v6 k h w1 w3 w2 v15 v23 v29 v32 acc (ix2 d t)
      = acc (ix2 d t) + if own t ∧ 256 * k.val ≤ rk t ∧ rk t < 256 * (k.val + 1) then gain h w1 w3 w2 v29 v32 d t else 0 := by
  rw [chunk_apply]
  refine congrArg (fun z => acc (ix2 d t) + z) ?_
  simp only [start_eq v6 k hk, h23, slot_iff]
  by_cases hc : own t ∧ 256 * k.val ≤ rk t ∧ rk t < 256 * (k.val + 1)
  · obtain ⟨ho, hlo, hhi⟩ := hc
    rw [if_pos ⟨ho, hlo, hhi⟩]
    have hr : rk t - 256 * k.val < 256 := by omega
    rw [Finset.sum_eq_single (⟨rk t - 256 * k.val, hr⟩ : Fin 256)]
    · rw [if_pos ⟨ho, by show rk t = 256 * k.val + (rk t - 256 * k.val); omega⟩, mul_one]
      unfold gain
      have e1 := fun j => picked_eq h v15 own rk v6 k hk h15 inj t ho (⟨rk t - 256 * k.val, hr⟩ : Fin 256)
        (by show rk t = 256 * k.val + (rk t - 256 * k.val); omega) j
      have e2 := fun e => pickedWeights_eq v15 v29 v32 own rk v6 k hk h15 inj t ho (⟨rk t - 256 * k.val, hr⟩ : Fin 256)
        (by show rk t = 256 * k.val + (rk t - 256 * k.val); omega) e
      refine Finset.sum_congr rfl fun e _ => ?_
      exact congrArg₂ (fun X c => share X w1 w3 w2 c e d) (funext e1) (funext e2)
    · intro r _ hne
      rw [if_neg, mul_zero]
      rintro ⟨-, e⟩
      refine hne (Fin.ext ?_)
      show r.val = rk t - 256 * k.val
      omega
    · intro hn
      exact absurd (Finset.mem_univ _) hn
  · rw [if_neg hc]
    refine Finset.sum_eq_zero fun r _ => ?_
    rw [if_neg, mul_zero]
    rintro ⟨ho, e⟩
    exact hc ⟨ho, by omega, by have := r.isLt; omega⟩

/-- The first chunks add the gain of the tokens whose rank they hold. -/
theorem loop_value (v6 : BitVec 32) (hv : (k0_t1_loop v6).trips ≤ 1000)
    (h15 : ∀ t, v15 (ix2 t 0) = slot own rk t) (h23 : ∀ t, v23 (ix2 0 t) = slot own rk t)
    (inj : ∀ t u, own t → own u → rk t = rk u → t = u) (acc : Vec Ideal S1024x1024 .f32) (d t : Fin 1024) (n : ℕ)
    (hn : n ≤ (k0_t1_loop v6).trips) :
    loop v6 h w1 w3 w2 v15 v23 v29 v32 acc n (ix2 d t)
      = acc (ix2 d t) + if own t ∧ rk t < 256 * n then gain h w1 w3 w2 v29 v32 d t else 0 := by
  induction n with
  | zero => simp [loop]
  | succ n ih =>
    have hlt : n < (k0_t1_loop v6).trips := hn
    rw [loop, dif_pos hlt, chunk_value h w1 w3 w2 v15 v23 v29 v32 own rk v6 ⟨n, hlt⟩ (by show n < 1000; omega) h15 h23 inj, ih (le_of_lt hlt), add_assoc]
    refine congrArg (fun z => acc (ix2 d t) + z) ?_
    show (_ + if own t ∧ 256 * n ≤ rk t ∧ rk t < 256 * (n + 1) then _ else (0 : EReal)) = _
    by_cases ho : own t
    · by_cases h1 : rk t < 256 * n
      · rw [if_pos ⟨ho, h1⟩, if_neg (fun c => absurd c.2.1 (by omega)), if_pos ⟨ho, by omega⟩, add_zero]
      · by_cases h2 : rk t < 256 * (n + 1)
        · rw [if_neg (fun c => h1 c.2), if_pos ⟨ho, by omega, h2⟩, if_pos ⟨ho, h2⟩, zero_add]
        · rw [if_neg (fun c => h1 c.2), if_neg (fun c => h2 c.2.2), if_neg (fun c => h2 c.2), zero_add]
    · rw [if_neg (fun c => ho c.1), if_neg (fun c => ho c.1), if_neg (fun c => ho c.1), zero_add]

/-- A count of tokens makes as many trips as hold them. -/
theorem trips_of (n : ℕ) (hn : n ≤ 1024) :
    n ≤ 256 * (k0_t1_loop (BitVec.ofNat 32 n)).trips ∧ (k0_t1_loop (BitVec.ofNat 32 n)).trips ≤ 1000 :=
  (by decide +kernel : ∀ n : Fin 1025, n.val ≤ 256 * (k0_t1_loop (BitVec.ofNat 32 n.val)).trips ∧ (k0_t1_loop (BitVec.ofNat 32 n.val)).trips ≤ 1000) ⟨n, by omega⟩

end

/-- All the chunks of a point: every token of its group gets its gain. -/
theorem after_value (i : grid0.Coords) (x0 : Vec Ideal S1x1024x1024 .bf16) (x1 : Vec Ideal S1x1024x128 .f32) (x2 : Vec Ideal S1x128x1024 .f32)
    (x6 x7 : Vec Ideal S1x2048x1024 .bf16) (x8 : Vec Ideal S1x1024x2048 .bf16) (own : Fin 1024 → Prop) [DecidablePred own] (rk : Fin 1024 → ℕ)
    (cnt : ℕ) (hcnt : cnt ≤ 1024) (hrk : ∀ t, own t → rk t < cnt)
    (h15 : ∀ t, slots i x1 (ix2 t 0) = slot own rk t) (h23 : ∀ t, slotsRow i x2 (ix2 0 t) = slot own rk t)
    (inj : ∀ t u, own t → own u → rk t = rk u → t = u) (acc : Vec Ideal S1024x1024 .f32) (d t : Fin 1024) :
    after i (BitVec.ofNat 32 cnt) x0 x1 x2 x6 x7 x8 acc (ix2 d t)
      = acc (ix2 d t) + if own t then gain x0 x6 x7 x8 (high i x2) (low i x2) d t else 0 := by
  unfold after
  rw [loop_value x0 x6 x7 x8 _ _ _ _ own rk _ (trips_of cnt hcnt).2 h15 h23 inj acc d t _ (le_refl _)]
  refine congrArg (fun z => acc (ix2 d t) + z) ?_
  by_cases ho : own t
  · rw [if_pos ho, if_pos ⟨ho, lt_of_lt_of_le (hrk t ho) (trips_of cnt hcnt).1⟩]
  · rw [if_neg ho, if_neg (fun c => ho c.1)]

end Cert.Kernel3Ideal.Experts

end
-- ==== Proof.ExpertsTile.lean ====
module
public import proofs.«01_k».proof.Proof.ExpertsHost
public import proofs.«01_k».proof.Proof.ExpertsSum
public import Idealize.ShloMosaic.Lib.Pipeline.ValueKit
public import Idealize.ShloMosaic.Lib.Pointwise
@[expose] public section
/-!
# One point of the experts call

A tile of 1024 tokens and a group: which of the tokens are the group's, the slot of each, and what the point adds to the
accumulator.
-/
set_option maxRecDepth 16384
noncomputable section
namespace Cert.Kernel3Ideal.Experts
open Cert.Kernel3Ideal Cert.Kernel3Ideal.Gen Idealize.ShloMosaic Idealize.ShloMosaic.TcCoe
open Idealize.ShloMosaic.Pointwise
open Cert.Kernel3Ideal.Facts
variable (m : (ℓ : Loc nD τ sig) → Buf (Elt Ideal) ℓ) (c : Dev nD)

section Words
variable (i : grid0.Coords) (x1 : Vec Ideal S1x1024x128 .f32) (x2 : Vec Ideal S1x128x1024 .f32)

/-- The table's entry a point reads. -/
theorem off1 : ∀ i : grid0.Coords, k0_off1 i = ![4 * (i 0).val + (i 1).val] := by decide +kernel
/-- The rows of the group's weights. -/
theorem off2 : ∀ i : grid0.Coords, k0_off2 i = ![0, 8 * (i 1).val, 0] := by decide +kernel

/-- The fill of the slots of other groups' tokens. -/
theorem minus_one : Ideal.ofBits FTy.f32 3212836864#32 = ((-1 : ℝ) : EReal) := by
  simp [Ideal.ofBits, Ideal.ieee]
  rw [← EReal.coe_mul]
  norm_num

/-- The slots' column at a token. -/
theorem pay39_apply (a b : Vec Ideal S1x1024x1 .f32) (t : Fin 1024) : (k0_pay39 (F := Ideal) i a b : S1024x1.Idx → EReal) (ix2 t 0)
    = if a (ix3 0 t 0) = FloatOps.sitofp (F := Ideal) .f32 (BitVec.ofNat 32 (i 1).val) then (b (ix3 0 t 0) : EReal) else Ideal.ofBits FTy.f32 3212836864#32 := by
  unfold k0_pay39 k0_pay38
  pointwise
  rfl

/-- The slots' row at a token. -/
theorem pay40_apply (a b : Vec Ideal S1x1x1024 .f32) (t : Fin 1024) : (k0_pay40 (F := Ideal) i a b : S1x1024.Idx → EReal) (ix2 0 t)
    = if a (ix3 0 0 t) = FloatOps.sitofp (F := Ideal) .f32 (BitVec.ofNat 32 (i 1).val) then (b (ix3 0 0 t) : EReal) else Ideal.ofBits FTy.f32 3212836864#32 := by
  unfold k0_pay40 k0_pay38
  pointwise
  rfl

/-- The weights, rounded (a cast: dropped). -/
theorem pay42_apply (a : Vec Ideal S1x8x1024 .f32) (e : Fin 8) (t : Fin 1024) : (k0_pay42 (F := Ideal) a : S8x1024.Idx → EReal) (ix2 e t) = (a (ix3 0 e t) : EReal) := by
  unfold k0_pay42 k0_pay41
  pointwise

/-- What the rounding leaves. -/
theorem pay43_apply (a : Vec Ideal S1x8x1024 .f32) (e : Fin 8) (t : Fin 1024) : (k0_pay43 (F := Ideal) a : S8x1024.Idx → EReal) (ix2 e t) = (a (ix3 0 e t) - a (ix3 0 e t) : EReal) := by
  unfold k0_pay43 k0_pay42 k0_pay41
  pointwise

/-- The slots' column, of the record. -/
theorem slots_apply (t : Fin 1024) : (slots i x1 : S1024x1.Idx → EReal) (ix2 t 0)
    = if x1 (ix3 0 t 32) = FloatOps.sitofp (F := Ideal) .f32 (BitVec.ofNat 32 (i 1).val) then (x1 (ix3 0 t 33) : EReal) else ((-1 : ℝ) : EReal) := by
  unfold slots
  rw [pay39_apply, minus_one]
  have e1 : View.ld x1 (Rect.unit (s := S1x1024x128) ![0, 0, 32] S1x1024x1.size inb_S1x1024x128_S1x1024x1_0_0_32) (ix3 0 t 0) = x1 (ix3 0 t 32) := by
    show x1 _ = _
    refine congrArg x1 ?_
    blk_ext [Rect.idx_unit_val]
  have e2 : View.ld x1 (Rect.unit (s := S1x1024x128) ![0, 0, 33] S1x1024x1.size inb_S1x1024x128_S1x1024x1_0_0_33) (ix3 0 t 0) = x1 (ix3 0 t 33) := by
    show x1 _ = _
    refine congrArg x1 ?_
    blk_ext [Rect.idx_unit_val]
  rw [e1, e2]

/-- The slots' row, of the record. -/
theorem slotsRow_apply (t : Fin 1024) : (slotsRow i x2 : S1x1024.Idx → EReal) (ix2 0 t)
    = if x2 (ix3 0 32 t) = FloatOps.sitofp (F := Ideal) .f32 (BitVec.ofNat 32 (i 1).val) then (x2 (ix3 0 33 t) : EReal) else ((-1 : ℝ) : EReal) := by
  unfold slotsRow
  rw [pay40_apply, minus_one]
  have e1 : View.ld x2 (Rect.unit (s := S1x128x1024) ![0, 32, 0] S1x1x1024.size inb_S1x128x1024_S1x1x1024_0_32_0) (ix3 0 0 t) = x2 (ix3 0 32 t) := by
    show x2 _ = _
    refine congrArg x2 ?_
    blk_ext [Rect.idx_unit_val]
  have e2 : View.ld x2 (Rect.unit (s := S1x128x1024) ![0, 33, 0] S1x1x1024.size inb_S1x128x1024_S1x1x1024_0_33_0) (ix3 0 0 t) = x2 (ix3 0 33 t) := by
    show x2 _ = _
    refine congrArg x2 ?_
    blk_ext [Rect.idx_unit_val]
  rw [e1, e2]

/-- The slots' column, of the record's entries. -/
theorem slots_of (t : Fin 1024) (g : ℕ) (hg : (i 1).val = g) (a b : EReal) (ha : x1 (ix3 0 t 32) = a) (hb : x1 (ix3 0 t 33) = b) :
    (slots i x1 : S1024x1.Idx → EReal) (ix2 t 0) = if a = FloatOps.sitofp (F := Ideal) .f32 (BitVec.ofNat 32 g) then b else ((-1 : ℝ) : EReal) := by
  rw [slots_apply, ha, hb, hg]

/-- The slots' row, of the record's entries. -/
theorem slotsRow_of (t : Fin 1024) (g : ℕ) (hg : (i 1).val = g) (a b : EReal) (ha : x2 (ix3 0 32 t) = a) (hb : x2 (ix3 0 33 t) = b) :
    (slotsRow i x2 : S1x1024.Idx → EReal) (ix2 0 t) = if a = FloatOps.sitofp (F := Ideal) .f32 (BitVec.ofNat 32 g) then b else ((-1 : ℝ) : EReal) := by
  rw [slotsRow_apply, ha, hb, hg]

/-- The rows of weights a point loads. -/
theorem ld_weights (e : Fin 8) (t : Fin 1024) (h : 8 * (i 1).val + e.val < 128) :
    View.ld x2 (Rect.unit (s := S1x128x1024) (k0_off2 i) S1x8x1024.size (k0_off2_inb i)) (ix3 0 e t) = x2 (ix3 0 ⟨8 * (i 1).val + e.val, h⟩ t) := by
  show x2 _ = _
  refine congrArg x2 ?_
  blk_ext [Rect.idx_unit_val, off2]

/-- The two parts of a weight, added up. -/
theorem high_low (e : Fin 8) (t : Fin 1024) (h : 8 * (i 1).val + e.val < 128) :
    (high i x2 (ix2 e t) + low i x2 (ix2 e t) : EReal) = x2 (ix3 0 ⟨8 * (i 1).val + e.val, h⟩ t) + (x2 (ix3 0 ⟨8 * (i 1).val + e.val, h⟩ t) - x2 (ix3 0 ⟨8 * (i 1).val + e.val, h⟩ t)) := by
  unfold high low
  rw [pay42_apply, pay43_apply, ld_weights i x2 e t h]

/-- The count a point reads. -/
theorem word_eq (c : Dev nD) (x : S128.Idx → BitVec 32) : word c i x = x (ix1 ⟨4 * (i 0).val + (i 1).val, by have h0 : (i 0).val < 32 := (i 0).isLt; have h1 : (i 1).val < 4 := (i 1).isLt; omega⟩) := by
  unfold word
  show x _ = _
  refine congrArg x ?_
  blk_ext [Rect.idx_unit_val, off1]

/-- Every token of a tile is of the tile's first gate. -/
theorem first_gate : ∀ (w : Fin 32) (r : Fin 1024), (IntOp.cmpi CmpIPredicate.slt (IntOp.addi (BitVec.ofNat 32 r.val) (Scalar.muli (BitVec.ofNat 32 w.val) 1024#32))
            (Scalar.muli
              (Scalar.addi
                (Scalar.select
                  (Scalar.andi
                    (Scalar.cmpi CmpIPredicate.ne
                      (Scalar.subi (Scalar.extui (Scalar.cmpi CmpIPredicate.sgt (Scalar.muli (BitVec.ofNat 32 w.val) 1024#32) 0#32) : BitVec 32)
                        (Scalar.extui (Scalar.cmpi CmpIPredicate.slt (Scalar.muli (BitVec.ofNat 32 w.val) 1024#32) 0#32)))
                      (Scalar.subi (Scalar.extui (Scalar.cmpi CmpIPredicate.sgt 2048#32 0#32))
                        (Scalar.extui (Scalar.cmpi CmpIPredicate.slt 2048#32 0#32))))
                    (Scalar.cmpi CmpIPredicate.ne (Scalar.remsi (Scalar.muli (BitVec.ofNat 32 w.val) 1024#32) 2048#32) 0#32))
                  (Scalar.subi (Scalar.divsi (Scalar.muli (BitVec.ofNat 32 w.val) 1024#32) 2048#32) 1#32)
                  (Scalar.divsi (Scalar.muli (BitVec.ofNat 32 w.val) 1024#32) 2048#32))
                1#32)
              2048#32)) = 1#1 := by decide +kernel

/-- The output block, of the residual, the gate and the accumulator. -/
theorem out_apply (x : Vec Ideal S1x1024x1024 .f32) (p q : Vec Ideal S1x1x1024 .f32) (w : Fin 32) (a : Vec Ideal S1024x1024 .f32) (r d : Fin 1024) :
    (k0_pay2 (F := Ideal) (k0_pay35 x) (k0_pay36 (BitVec.ofNat 32 w.val) p q) a : S1x1024x1024.Idx → EReal) (ix3 0 r d) = (x (ix3 0 r d) + p (ix3 0 0 d) * a (ix2 d r) : EReal) := by
  unfold k0_pay2 k0_pay35 k0_pay36
  pointwise
  rw [first_gate w r]
  rfl
end Words

/-- Token `t` of tile `i` is of group `g`. -/
def own (i : Fin 32) (g : Fin 4) (t : Fin 1024) : Prop := gid m c (ix1 ⟨i.val * 1024 + t.val, by omega⟩) = BitVec.ofNat 32 g.val

instance (i : Fin 32) (g : Fin 4) : DecidablePred (own m c i g) := fun _ => inferInstanceAs (Decidable (_ = _))

/-- How many of the group's tokens come before it in the tile. -/
def rk (i : Fin 32) (g : Fin 4) (t : Fin 1024) : ℕ := (Finset.univ.filter fun x : Fin 1024 => own m c i g x ∧ x < t).card

/-- How many of the tile's tokens are the group's. -/
def cnt (i : Fin 32) (g : Fin 4) : ℕ := (Finset.univ.filter (own m c i g)).card

theorem cnt_le (i : Fin 32) (g : Fin 4) : cnt m c i g ≤ 1024 := by
  refine (Finset.card_le_univ _).trans (le_of_eq ?_)
  simp

theorem rk_lt (i : Fin 32) (g : Fin 4) (t : Fin 1024) (h : own m c i g t) : rk m c i g t < cnt m c i g := by
  refine Finset.card_lt_card ⟨fun x hx => ?_, fun hs => ?_⟩
  · exact Finset.mem_filter.mpr ⟨Finset.mem_univ _, (Finset.mem_filter.mp hx).2.1⟩
  · exact lt_irrefl t (Finset.mem_filter.mp (hs (Finset.mem_filter.mpr ⟨Finset.mem_univ _, h⟩))).2.2

theorem rk_mono (i : Fin 32) (g : Fin 4) (t u : Fin 1024) (h : own m c i g t) (htu : t < u) : rk m c i g t < rk m c i g u := by
  refine Finset.card_lt_card ⟨fun x hx => ?_, fun hs => ?_⟩
  · have := (Finset.mem_filter.mp hx).2
    exact Finset.mem_filter.mpr ⟨Finset.mem_univ _, this.1, this.2.trans htu⟩
  · exact lt_irrefl t (Finset.mem_filter.mp (hs (Finset.mem_filter.mpr ⟨Finset.mem_univ _, h, htu⟩))).2.2

theorem rk_inj (i : Fin 32) (g : Fin 4) (t u : Fin 1024) (ht : own m c i g t) (hu : own m c i g u) (e : rk m c i g t = rk m c i g u) : t = u := by
  rcases lt_trichotomy t u with h | h | h
  · exact absurd e (rk_mono m c i g t u ht h).ne
  · exact h
  · exact absurd e (rk_mono m c i g u t hu h).ne'

/-- A small word compares as its number. -/
theorem sle_small (x t : Fin 1024) : IntOp.cmpi CmpIPredicate.sle (BitVec.ofNat 32 x.val) (BitVec.ofNat 32 t.val) = BitVec.ofBool (decide (x ≤ t)) := by
  have h : ∀ y : Fin 1024, (BitVec.ofNat 32 y.val).toInt = (y.val : ℤ) := by
    intro y
    have e : (BitVec.ofNat 32 y.val).toNat = y.val := by
      rw [BitVec.toNat_ofNat]; exact Nat.mod_eq_of_lt (by omega)
    rw [BitVec.toInt_eq_toNat_of_lt (by rw [e]; omega), e]
  show BitVec.ofBool (BitVec.sle _ _) = _
  rw [BitVec.sle_eq_decide, h, h]
  refine congrArg BitVec.ofBool (decide_eq_decide.mpr ?_)
  rw [Nat.cast_le]; rfl

/-- The rank's column at a token of the group: how many come before it. -/
theorem rank_at (i : Fin 32) (g : Fin 4) (t : Fin 1024) (h : own m c i g t) :
    (V m c main_v38 : S32768x128.Idx → EReal) (ix2 ⟨i.val * 1024 + t.val, by omega⟩ 33) = ((rk m c i g t : ℝ) : EReal) := by
  rw [v38_rank]
  have hs : ∀ x : Fin 1024, Scalar.select (IntOp.andi
          (IntOp.cmpi CmpIPredicate.eq (gid m c (ix1 ⟨i.val * 1024 + t.val, by omega⟩)) (gid m c (ix1 ⟨i.val * 1024 + x.val, by omega⟩)))
          (IntOp.cmpi CmpIPredicate.sle (BitVec.ofNat 32 x.val) (BitVec.ofNat 32 t.val))) (1 : EReal) 0 = if own m c i g x ∧ x ≤ t then 1 else 0 := by
    intro x
    rw [sle_small, (h : gid m c (ix1 ⟨i.val * 1024 + t.val, by omega⟩) = BitVec.ofNat 32 g.val)]
    by_cases ho : own m c i g x
    · rw [(ho : gid m c (ix1 ⟨i.val * 1024 + x.val, by omega⟩) = BitVec.ofNat 32 g.val)]
      by_cases hx : x ≤ t <;> simp [Scalar.select, IntOp.cmpi, IntOp.andi, ho, hx]
    · have hb : (BitVec.ofNat 32 g.val == gid m c (ix1 ⟨i.val * 1024 + x.val, by omega⟩)) = false := beq_eq_false_iff_ne.mpr fun e => ho e.symm
      by_cases hx : x ≤ t <;> simp [Scalar.select, IntOp.cmpi, IntOp.andi, hb, ho, hx]
  rw [Finset.sum_congr rfl fun x _ => hs x, Finset.sum_boole]
  have hk : (Finset.univ.filter fun x : Fin 1024 => own m c i g x ∧ x ≤ t).card = rk m c i g t + 1 := by
    have hi : (Finset.univ.filter fun x : Fin 1024 => own m c i g x ∧ x ≤ t) = insert t (Finset.univ.filter fun x : Fin 1024 => own m c i g x ∧ x < t) := by
      ext x
      simp only [Finset.mem_filter, Finset.mem_univ, true_and, Finset.mem_insert]
      constructor
      · rintro ⟨ho, hx⟩
        rcases eq_or_lt_of_le hx with e | e
        · exact Or.inl e
        · exact Or.inr ⟨ho, e⟩
      · rintro (e | e)
        · rw [e]; exact ⟨h, le_refl _⟩
        · exact ⟨e.1, e.2.le⟩
    rw [hi, Finset.card_insert_of_notMem (fun hm => lt_irrefl t (Finset.mem_filter.mp hm).2.2)]
    rfl
  rw [hk]
  have hc : ((rk m c i g t + 1 : ℕ) : EReal) = (((rk m c i g t : ℝ) + 1 : ℝ) : EReal) := by push_cast; rfl
  rw [hc, ← EReal.coe_one, ← EReal.coe_sub, add_sub_cancel_right]

/-- What token `n` gets at feature `d` of the experts of group `g`. -/
def term (n : Fin 32768) (g : Fin 4) (d : Fin 1024) : EReal :=
  ∑ e : Fin 8, ∑ f : Fin 256, down m c (ix4 g e f d)
    * unit (fun k => feats m c (ix2 n k)) (fun k => up m c (ix4 g e k f)) (fun k => side m c (ix4 g e k f)) (wts m c (ix2 n e))

/-- What a point adds for a token. -/
def contrib (i : Fin 32) (g : Fin 4) (d t : Fin 1024) : EReal :=
  if own m c i g t then term m c ⟨i.val * 1024 + t.val, by omega⟩ g d else 0

/-- A finite number and nothing. -/
theorem add_sub_self (a : EReal) (h : max a (-a) < ⊤) : a + (a - a) = a := by
  induction a with
  | bot => simp at h
  | top => simp at h
  | coe r => rw [← EReal.coe_sub, ← EReal.coe_add]; congr 1; ring

/-- The grid's coordinates. -/
theorem coords_eq : ∀ t : Fin grid0.N, (grid0.coords t 0).val = t.val / 4 ∧ (grid0.coords t 1).val = t.val % 4 := by decide +kernel

/-- A point's tile. -/
abbrev tileOf (t : Fin (cfgM m (ok m)).N) : Fin 32 := ⟨t.val / 4, by have : t.val < 128 := t.isLt; omega⟩
/-- A point's group. -/
abbrev groupOf (t : Fin (cfgM m (ok m)).N) : Fin 4 := ⟨t.val % 4, Nat.mod_lt _ (by decide)⟩

section Point
variable (t : Fin (cfgM m (ok m)).N)

/-- The slots' column at a point. -/
theorem slots_at (r : Fin 1024) : (slots (grid0.coords t) (iblk m (ok m) c 1 t) : S1024x1.Idx → EReal) (ix2 r 0)
    = slot (own m c (tileOf m t) (groupOf m t)) (rk m c (tileOf m t) (groupOf m t)) r := by
  refine (slots_of (grid0.coords t) _ r _ (coords_eq t).2 _ _ ((block1 m c t r 32).trans ((v51_apply m c _ _).trans (v38_group m c _)))
    ((block1 m c t r 33).trans (v51_apply m c _ _))).trans ?_
  unfold slot
  by_cases ho : own m c (tileOf m t) (groupOf m t) r
  · rw [if_pos ho, if_pos ((sitofp_inj _ _).mpr ho)]
    exact rank_at m c (tileOf m t) (groupOf m t) r ho
  · rw [if_neg ho, if_neg fun e => ho ((sitofp_inj _ _).mp e)]

/-- The slots' row at a point. -/
theorem slotsRow_at (r : Fin 1024) : (slotsRow (grid0.coords t) (iblk m (ok m) c 2 t) : S1x1024.Idx → EReal) (ix2 0 r)
    = slot (own m c (tileOf m t) (groupOf m t)) (rk m c (tileOf m t) (groupOf m t)) r := by
  refine (slotsRow_of (grid0.coords t) _ r _ (coords_eq t).2 _ _ ((block2 m c t 32 r).trans ((v53_apply m c _ _).trans (v38_group m c _)))
    ((block2 m c t 33 r).trans (v53_apply m c _ _))).trans ?_
  unfold slot
  by_cases ho : own m c (tileOf m t) (groupOf m t) r
  · rw [if_pos ho, if_pos ((sitofp_inj _ _).mpr ho)]
    exact rank_at m c (tileOf m t) (groupOf m t) r ho
  · rw [if_neg ho, if_neg fun e => ho ((sitofp_inj _ _).mp e)]

/-- The count at a point. -/
theorem word_at : word c (grid0.coords t) (tbl m 0) = BitVec.ofNat 32 (cnt m c (tileOf m t) (groupOf m t)) := by
  obtain rfl : c = 0 := Subsingleton.elim _ _
  refine (word_eq (grid0.coords t) 0 (V m 0 main_v64 : S128.Idx → BitVec 32)).trans ?_
  refine Eq.trans ?_ (v64_apply m 0 (tileOf m t) (groupOf m t))
  refine congrArg (V m 0 main_v64 : S128.Idx → BitVec 32) (congrArg ix1 (Fin.ext ?_))
  show 4 * (grid0.coords t 0).val + (grid0.coords t 1).val = 4 * (t.val / 4) + t.val % 4
  rw [(coords_eq t).1, (coords_eq t).2]

/-- A weight of a token of the group at a point. -/
theorem weight_at (hw : ∀ j, max (wts m c j) (-wts m c j) < ⊤) (e : Fin 8) (r : Fin 1024) (ho : own m c (tileOf m t) (groupOf m t) r) :
    (high (grid0.coords t) (iblk m (ok m) c 2 t) (ix2 e r) + low (grid0.coords t) (iblk m (ok m) c 2 t) (ix2 e r) : EReal)
      = wts m c (ix2 ⟨(tileOf m t).val * 1024 + r.val, by omega⟩ e) := by
  have h1 : (grid0.coords t 1).val = t.val % 4 := (coords_eq t).2
  have hx : (iblk m (ok m) c 2 t : S1x128x1024.Idx → EReal) (ix3 0 ⟨8 * (grid0.coords t 1).val + e.val, by omega⟩ r)
      = wts m c (ix2 ⟨(tileOf m t).val * 1024 + r.val, by omega⟩ e) := by
    rw [block2, v53_apply]
    have hi : (⟨8 * (grid0.coords t 1).val + e.val, by omega⟩ : Fin 128) = ⟨8 * (groupOf m t).val + e.val, by omega⟩ := Fin.ext (by show 8 * (grid0.coords t 1).val + e.val = 8 * (t.val % 4) + e.val; rw [h1])
    rw [hi, v38_weight]
    exact if_pos ho
  refine (high_low (grid0.coords t) (iblk m (ok m) c 2 t) e r (by omega)).trans ?_
  rw [hx]
  exact add_sub_self _ (hw _)

/-- What a point adds. -/
theorem point_value (hw : ∀ j, max (wts m c j) (-wts m c j) < ⊤) (acc : Vec Ideal S1024x1024 .f32) (d r : Fin 1024) :
    after (grid0.coords t) (word c (grid0.coords t) (tbl m 0)) (iblk m (ok m) c 0 t) (iblk m (ok m) c 1 t) (iblk m (ok m) c 2 t)
        (iblk m (ok m) c 6 t) (iblk m (ok m) c 7 t) (iblk m (ok m) c 8 t) acc (ix2 d r)
      = acc (ix2 d r) + contrib m c (tileOf m t) (groupOf m t) d r := by
  rw [word_at m c t]
  rw [after_value (grid0.coords t) (iblk m (ok m) c 0 t) (iblk m (ok m) c 1 t) (iblk m (ok m) c 2 t) (iblk m (ok m) c 6 t) (iblk m (ok m) c 7 t) (iblk m (ok m) c 8 t)
    (own m c (tileOf m t) (groupOf m t)) (rk m c (tileOf m t) (groupOf m t)) (cnt m c (tileOf m t) (groupOf m t)) (cnt_le m c _ _)
    (rk_lt m c _ _) (slots_at m c t) (slotsRow_at m c t) (rk_inj m c _ _) acc d r]
  refine congrArg (fun z => acc (ix2 d r) + z) ?_
  unfold contrib
  by_cases ho : own m c (tileOf m t) (groupOf m t) r
  · rw [if_pos ho, if_pos ho]
    unfold gain term share
    refine Finset.sum_congr rfl fun e _ => Finset.sum_congr rfl fun f _ => ?_
    refine congrArg₂ (fun a b : EReal => a * b) ?_ ?_
    · rw [block8, v47_apply]
    · dsimp only
      rw [weight_at m c t hw e r ho]
      have e0 : (fun k : Fin 1024 => (iblk m (ok m) c 0 t : S1x1024x1024.Idx → EReal) (ix3 0 k r)) = fun k => feats m c (ix2 ⟨(tileOf m t).val * 1024 + r.val, by omega⟩ k) :=
        funext fun k => by rw [block0, v50_apply]
      have e6 : (fun k : Fin 1024 => (iblk m (ok m) c 6 t : S1x2048x1024.Idx → EReal) (ix3 0 ⟨e.val * 256 + f.val, by omega⟩ k)) = fun k => up m c (ix4 (groupOf m t) e k f) :=
        funext fun k => by rw [block6, v41_apply]
      have e7 : (fun k : Fin 1024 => (iblk m (ok m) c 7 t : S1x2048x1024.Idx → EReal) (ix3 0 ⟨e.val * 256 + f.val, by omega⟩ k)) = fun k => side m c (ix4 (groupOf m t) e k f) :=
        funext fun k => by rw [block7, v44_apply]
      exact congr (congr (congrArg₂ unit e0 e6) e7) rfl
  · rw [if_neg ho, if_neg ho]
end Point

end Cert.Kernel3Ideal.Experts

end
-- ==== Proof.ExpertsValue.lean ====
module
public import proofs.«01_k».proof.Proof.ExpertsTile
public import Idealize.ShloMosaic.Lib.Pipeline.ValueKit
public import Idealize.ShloMosaic.Lib.Pointwise
@[expose] public section
/-!
# The experts call's result

The accumulator, group after group, and the array the call leaves.
-/
set_option maxRecDepth 16384
noncomputable section
namespace Cert.Kernel3Ideal.Experts
open Cert.Kernel3Ideal Cert.Kernel3Ideal.Gen Idealize.ShloMosaic Idealize.ShloMosaic.TcCoe
open Idealize.ShloMosaic.Pointwise
open Cert.Kernel3Ideal.Facts
variable (m : (ℓ : Loc nD τ sig) → Buf (Elt Ideal) ℓ) (c : Dev nD)

/-- A number and the product of two more. -/
def axpy (x a y : EReal) : EReal := x + a * y

section Steps
variable (hw : ∀ j, max (wts m c j) (-wts m c j) < ⊤) (t : Fin (cfgM m (ok m)).N)
include hw

/-- A tile's first group starts from nothing. -/
theorem step_first (h0 : t.val % 4 = 0) (d r : Fin 1024) :
    (outsAt0 m (ok m) (hyps m) c t.val t.isLt).2 (ix2 d r) = contrib m c (tileOf m t) (groupOf m t) d r := by
  have h1 : ¬t.val % 4 = 3 := by omega
  rw [outsAt0_A m (ok m) (hyps m) c t h0 h1]
  refine (congrFun (sout0_A_eq c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) scM0_0 (Memref.isWhole_whole _) ((hcond0_0 t).mpr h0) (fun h => h1 ((hcond0_1 t).mp h)) (iblk m (ok m) c 0 t) (iblk m (ok m) c 1 t) (iblk m (ok m) c 2 t) (iblk m (ok m) c 3 t) (iblk m (ok m) c 4 t) (iblk m (ok m) c 5 t) (iblk m (ok m) c 6 t) (iblk m (ok m) c 7 t) (iblk m (ok m) c 8 t) (tbl m 0) (Hyps.c0 (hyps m) c t)) (ix2 d r)).trans ?_
  refine (point_value m c t hw _ d r).trans ?_
  have hz : (k0_pay37 (F := Ideal) : S1024x1024.Idx → EReal) (ix2 d r) = 0 := by
    unfold k0_pay37
    pointwise
  exact (congrArg (fun z : EReal => z + contrib m c (tileOf m t) (groupOf m t) d r) hz).trans (zero_add _)

/-- Every later group adds to what the one before left. -/
theorem step_next (h0 : ¬t.val % 4 = 0) (d r : Fin 1024) :
    (outsAt0 m (ok m) (hyps m) c t.val t.isLt).2 (ix2 d r)
      = (outsAt0 m (ok m) (hyps m) c (t.val - 1) (Nat.lt_of_le_of_lt (Nat.sub_le _ _) t.isLt)).2 (ix2 d r) + contrib m c (tileOf m t) (groupOf m t) d r := by
  by_cases h1 : t.val % 4 = 3
  · rw [outsAt0_C m (ok m) (hyps m) c t h0 h1]
    refine (congrFun (sout0_C_eq c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) scM0_0 (Memref.isWhole_whole _) (fun h => h0 ((hcond0_0 t).mp h)) ((hcond0_1 t).mpr h1) (iblk m (ok m) c 0 t) (iblk m (ok m) c 1 t) (iblk m (ok m) c 2 t) (iblk m (ok m) c 3 t) (iblk m (ok m) c 4 t) (iblk m (ok m) c 5 t) (iblk m (ok m) c 6 t) (iblk m (ok m) c 7 t) (iblk m (ok m) c 8 t) (tbl m 0) _ (Hyps.c0 (hyps m) c t)) (ix2 d r)).trans ?_
    exact point_value m c t hw _ d r
  · rw [outsAt0_B m (ok m) (hyps m) c t h0 h1]
    refine (congrFun (sout0_B_eq c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) scM0_0 (Memref.isWhole_whole _) (fun h => h0 ((hcond0_0 t).mp h)) (fun h => h1 ((hcond0_1 t).mp h)) (iblk m (ok m) c 0 t) (iblk m (ok m) c 1 t) (iblk m (ok m) c 2 t) (iblk m (ok m) c 3 t) (iblk m (ok m) c 4 t) (iblk m (ok m) c 5 t) (iblk m (ok m) c 6 t) (iblk m (ok m) c 7 t) (iblk m (ok m) c 8 t) (tbl m 0) _ (Hyps.c0 (hyps m) c t)) (ix2 d r)).trans ?_
    exact point_value m c t hw _ d r

set_option maxHeartbeats 1000000 in
omit hw in
/-- The last group's point writes the tile's result. -/
theorem step_last (h1 : t.val % 4 = 3) (r d : Fin 1024) :
    ((outsAt0 m (ok m) (hyps m) c t.val t.isLt).1 : S1x1024x1024.Idx → EReal) (ix3 0 r d)
      = axpy ((iblk m (ok m) c 3 t : S1x1024x1024.Idx → EReal) (ix3 0 r d)) ((iblk m (ok m) c 4 t : S1x1x1024.Idx → EReal) (ix3 0 0 d))
        ((outsAt0 m (ok m) (hyps m) c t.val t.isLt).2 (ix2 d r)) := by
  have h0 : ¬t.val % 4 = 0 := by omega
  have e := outsAt0_C m (ok m) (hyps m) c t h0 h1
  have o := out0_C_eq c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) scM0_0 (Memref.isWhole_whole _) (fun h => h0 ((hcond0_0 t).mp h)) ((hcond0_1 t).mpr h1) (iblk m (ok m) c 0 t) (iblk m (ok m) c 1 t) (iblk m (ok m) c 2 t) (iblk m (ok m) c 3 t) (iblk m (ok m) c 4 t) (iblk m (ok m) c 5 t) (iblk m (ok m) c 6 t) (iblk m (ok m) c 7 t) (iblk m (ok m) c 8 t) (tbl m 0) (outsAt0 m (ok m) (hyps m) c (t.val - 1) (Nat.lt_of_le_of_lt (Nat.sub_le _ _) t.isLt)).2 (Hyps.c0 (hyps m) c t)
  have e2 := (congrArg Prod.snd e).trans (sout0_C_eq c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) scM0_0 (Memref.isWhole_whole _) (fun h => h0 ((hcond0_0 t).mp h)) ((hcond0_1 t).mpr h1) (iblk m (ok m) c 0 t) (iblk m (ok m) c 1 t) (iblk m (ok m) c 2 t) (iblk m (ok m) c 3 t) (iblk m (ok m) c 4 t) (iblk m (ok m) c 5 t) (iblk m (ok m) c 6 t) (iblk m (ok m) c 7 t) (iblk m (ok m) c 8 t) (tbl m 0) _ (Hyps.c0 (hyps m) c t))
  refine (congrFun (congrArg Prod.fst e) (ix3 0 r d)).trans ?_
  dsimp only
  refine (congrFun o (ix3 0 r d)).trans ((out_apply _ _ _ (grid0.coords t 0) _ r d).trans ?_)
  refine congrArg₂ (fun a b : EReal => a + b) ?_ (congrArg₂ (fun a b : EReal => a * b) ?_ (congrFun e2 (ix2 d r)).symm)
  · show (iblk m (ok m) c 3 t : S1x1024x1024.Idx → EReal) _ = _
    refine congrArg (iblk m (ok m) c 3 t : S1x1024x1024.Idx → EReal) ?_
    blk_ext [Rect.idx_unit_val]
  · show (iblk m (ok m) c 4 t : S1x1x1024.Idx → EReal) _ = _
    refine congrArg (iblk m (ok m) c 4 t : S1x1x1024.Idx → EReal) ?_
    blk_ext [Rect.idx_unit_val]
/-- All four groups' contributions, at a tile's last point. -/
theorem acc_last (h3 : t.val % 4 = 3) (d r : Fin 1024) :
    (outsAt0 m (ok m) (hyps m) c t.val t.isLt).2 (ix2 d r)
      = contrib m c (tileOf m t) 0 d r + contrib m c (tileOf m t) 1 d r + contrib m c (tileOf m t) 2 d r + contrib m c (tileOf m t) 3 d r := by
  obtain ⟨n, hn⟩ := t
  have h3' : n % 4 = 3 := h3
  obtain ⟨k, rfl⟩ : ∃ k, n = k + 3 := ⟨n - 3, by omega⟩
  have a3 := step_next m c hw ⟨k + 3, hn⟩ (by show ¬(k + 3) % 4 = 0; omega) d r
  have a2 := step_next m c hw ⟨k + 2, by omega⟩ (by show ¬(k + 2) % 4 = 0; omega) d r
  have a1 := step_next m c hw ⟨k + 1, by omega⟩ (by show ¬(k + 1) % 4 = 0; omega) d r
  have a0 := step_first m c hw ⟨k, by omega⟩ (by show k % 4 = 0; omega) d r
  have cg : ∀ (j : ℕ) (hj : k + j < (cfgM m (ok m)).N) (hj4 : j < 4), contrib m c (tileOf m ⟨k + j, hj⟩) (groupOf m ⟨k + j, hj⟩) d r = contrib m c (tileOf m ⟨k + 3, hn⟩) ⟨j, hj4⟩ d r := by
    intro j hj hj4
    exact congrArg₂ (fun a b => contrib m c a b d r) (Fin.ext (by show (k + j) / 4 = (k + 3) / 4; omega)) (Fin.ext (by show (k + j) % 4 = j; omega))
  refine a3.trans (congrArg₂ (fun a b : EReal => a + b) (a2.trans (congrArg₂ (fun a b : EReal => a + b) (a1.trans (congrArg₂ (fun a b : EReal => a + b) (a0.trans ?_) ?_)) ?_)) ?_)
  · exact cg 0 (by omega) (by decide)
  · exact cg 1 (by omega) (by decide)
  · exact cg 2 (by omega) (by decide)
  · exact cg 3 hn (by decide)
end Steps

/-- What token `n` gets of group `g`'s experts: its own group's, or nothing. -/
def groupPart (n : Fin 32768) (g : Fin 4) (d : Fin 1024) : EReal :=
  if gid m c (ix1 n) = BitVec.ofNat 32 g.val then term m c n g d else 0

/-- The result at token `n` and feature `d`. -/
def value (n : Fin 32768) (d : Fin 1024) : EReal :=
  axpy (resid m c (ix3 ⟨n.val / 2048, by omega⟩ ⟨n.val % 2048, Nat.mod_lt _ (by decide)⟩ d)) (gates m c (ix3 ⟨n.val / 2048, by omega⟩ 0 d))
    (groupPart m c n 0 d + groupPart m c n 1 d + groupPart m c n 2 d + groupPart m c n 3 d)

/-- The points that write a block back are the tiles' last. -/
theorem last_of_flush (t : Fin (cfgM m (ok m)).N) (hf : ((cfgM m (ok m)).win 9).flush t = true) : t.val % 4 = 3 := by
  by_contra h1
  by_cases h0 : t.val % 4 = 0
  · rw [noFlush0_9_A m (ok m) t ((hcond0_0 t).mpr h0) (fun h => h1 ((hcond0_1 t).mp h))] at hf
    exact Bool.false_ne_true hf
  · rw [noFlush0_9_B m (ok m) t (fun h => h0 ((hcond0_0 t).mp h)) (fun h => h1 ((hcond0_1 t).mp h))] at hf
    exact Bool.false_ne_true hf

/-- Every tile's last point writes its block back (decided). -/
theorem flush_last : ∀ b : Fin 32, Pipeline.Window.flushOf grid0 true cc0_transform_9 ⟨4 * b.val + 3, by have := b.isLt; rw [N_0]; omega⟩ = true := by decide +kernel

/-- A position below a rounded-up quotient is below its value. -/
theorem lt_quot {x A s A' s' : ℕ} (h : x < (A + s - 1) / s) (hA : A = A') (hs : s = s') : x < (A' + s' - 1) / s' := by
  subst hA; subst hs; exact h

/-- The blocks written back cover the result. -/
theorem covers : ((cfgM m (ok m)).win 9).Covers := by
  refine ⟨fun a => (by decide : ∀ a : Fin 3, 0 < S1x1024x1024.size a) a, fun β => ?_⟩
  have h0 : (β (0 : Fin 3)).val < 1 := lt_quot (A' := 1) (s' := 1) (β (0 : Fin 3)).isLt rfl rfl
  have hb : (β (1 : Fin 3)).val < 32 := lt_quot (A' := 32768) (s' := 1024) (β (1 : Fin 3)).isLt rfl rfl
  have h2 : (β (2 : Fin 3)).val < 1 := lt_quot (A' := 1024) (s' := 1024) (β (2 : Fin 3)).isLt rfl rfl
  have hp : 4 * (β (1 : Fin 3)).val + 3 < grid0.N := by rw [N_0]; omega
  refine ⟨⟨4 * (β (1 : Fin 3)).val + 3, hp⟩, flush_last ⟨_, hb⟩, fun a => ⟨?_, Or.inl rfl⟩⟩
  obtain ⟨e0, e1, e2, e3, e4, e6, e7, e8, e9⟩ := idx ⟨4 * (β (1 : Fin 3)).val + 3, hp⟩
  refine (congrFun e9 a).trans ?_
  match a with
  | ⟨0, _⟩ => show 0 = (β (0 : Fin 3)).val; omega
  | ⟨1, _⟩ => show (4 * (β (1 : Fin 3)).val + 3) / 4 = (β (1 : Fin 3)).val; omega
  | ⟨2, _⟩ => show 0 = (β (2 : Fin 3)).val; omega

/-- The residual's block at a point. -/
theorem resid_at (t : Fin (cfgM m (ok m)).N) (r d : Fin 1024) : (iblk m (ok m) c 3 t : S1x1024x1024.Idx → EReal) (ix3 0 r d)
    = resid m c (ix3 ⟨(t.val / 4 * 1024 + r.val) / 2048, by have : t.val < 128 := t.isLt; omega⟩ ⟨(t.val / 4 * 1024 + r.val) % 2048, Nat.mod_lt _ (by decide)⟩ d) :=
  (block3 m c t r d).trans (v65_apply m c _ d)

/-- The gate at a point. -/
theorem gate_at (t : Fin (cfgM m (ok m)).N) (r d : Fin 1024) : (iblk m (ok m) c 4 t : S1x1x1024.Idx → EReal) (ix3 0 0 d)
    = gates m c (ix3 ⟨(t.val / 4 * 1024 + r.val) / 2048, by have : t.val < 128 := t.isLt; omega⟩ 0 d) := by
  refine (block4 m c t d).trans ?_
  rw [V_main_arg4]
  have ht : t.val < 128 := t.isLt
  exact congrArg (fun z => gates m c (ix3 z 0 d)) (Fin.ext (by show t.val / 8 = (t.val / 4 * 1024 + r.val) / 2048; omega))

/-- A block's index is its row and its feature. -/
theorem split_row (y : S1x1024x1024.Idx) : ∃ (r d : Fin 1024), y = ix3 (n0 := 1) 0 r d :=
  ⟨y 1, y 2, (eq_ix3 (n0 := 1) (n1 := 1024) (n2 := 1024) y).trans
    (congrArg (fun a : Fin 1 => ix3 a (y 1 : Fin 1024) (y 2 : Fin 1024)) (Subsingleton.elim (α := Fin 1) _ _))⟩

/-- The array the call leaves. -/
theorem final (hw : ∀ j, max (wts m c j) (-wts m c j) < ⊤) : (dats m (ok m) (hyps m) 0 c).arrAt 9 (cfgM m (ok m)).N = fun i : S1x32768x1024.Idx => value m c (i 1) (i 2) := by
  refine (dats m (ok m) (hyps m) 0 c).arrAt_eq_of_covers 9 _ (covers m) fun t hf y => ?_
  obtain ⟨e0, e1, e2, e3, e4, e6, e7, e8, e9⟩ := idx t
  have e : ((cfgM m (ok m)).win 9).index t = ![0, t.val / 4, 0] := e9
  have h3 := last_of_flush m t hf
  blk_simp
  rw [after0_9]
  obtain ⟨r, d, hy⟩ := split_row y
  subst hy
  have ht : t.val < 128 := t.isLt
  have he : (((cfgM m (ok m)).win 9).blk t).view.emb (ix3 (n0 := 1) 0 r d)
      = ix3 (0 : Fin 1) (⟨t.val / 4 * 1024 + r.val, by omega⟩ : Fin 32768) d := by
    blk_ext [e]
  refine (step_last m c t h3 r d).trans ?_
  rw [he]
  refine congr (congrArg₂ axpy (resid_at m c t r d) (gate_at m c t r d)) ?_
  exact acc_last m c hw t h3 d r

end Cert.Kernel3Ideal.Experts

end
-- ==== Proof.ExpertsRef.lean ====
module

public import proofs.«01_k».proof.Proof.Gen.Reference3Ideal.Run
public import proofs.«01_k».proof.Proof.Experts
public import Idealize.ShloMosaic.Lib.Pipeline.ValueKit
public import Idealize.ShloMosaic.Lib.Pointwise

@[expose] public section

/-!
# The experts' reference, entry by entry

Every group's experts on every token, weighted by the token's weights or by zero.
-/

set_option maxRecDepth 16384

noncomputable section

namespace Cert.Reference3Ideal.Experts

open Cert.Reference3Ideal Cert.Reference3Ideal.Gen Cert.Reference3Ideal.Value Idealize.ShloMosaic Idealize.ShloMosaic.TcCoe
open Idealize.ShloMosaic.Pointwise Cert.Reference3Ideal.Facts

variable (H : FVec Ideal S32768x1024 .f32) (G : S32768.Idx → BitVec 32) (W : FVec Ideal S32768x8 .f32) (X : FVec Ideal S16x2048x1024 .f32)
  (Q : FVec Ideal S16x1x1024 .f32) (U S : FVec Ideal S4x8x1024x256 .f32) (D : FVec Ideal S4x8x256x1024 .f32)

/-- A weight of a token's own group, or zero. -/
theorem own_weight (a b : BitVec 32) (w : EReal) : FloatOps.uitofp (F := Ideal) FTy.f32 (IntOp.cmpi CmpIPredicate.eq a b) * w = if a = b then w else 0 := by
  show (((IntOp.cmpi CmpIPredicate.eq a b).toNat : ℝ) : EReal) * w = _
  by_cases h : a = b
  · simp [IntOp.cmpi, h]
  · simp [IntOp.cmpi, (beq_eq_false_iff_ne.mpr h : (a == b) = false), h]

/-- What a token gets of a group's experts. -/
def share3 (n : Fin 32768) (g : Fin 4) (d : Fin 1024) : EReal :=
  ∑ e : Fin 8, ∑ f : Fin 256, D (ix4 g e f d)
    * Cert.Kernel3Ideal.Experts.unit (fun k => H (ix2 n k)) (fun k => U (ix4 g e k f)) (fun k => S (ix4 g e k f)) (W (ix2 n e))

/-- A group's masked sum is its own tokens' share. -/
theorem masked_sum (n : Fin 32768) (g : Fin 4) (d : Fin 1024) :
    (∑ e : Fin 8, ∑ f : Fin 256, (∑ k : Fin 1024, H (ix2 n k) * U (ix4 g e k f)) * Ideal.div 1 (1 + Ideal.exp (-(∑ k : Fin 1024, H (ix2 n k) * U (ix4 g e k f))))
        * (∑ k : Fin 1024, H (ix2 n k) * S (ix4 g e k f)) * (if G (ix1 n) = BitVec.ofNat 32 g.val then (W (ix2 n e) : EReal) else 0) * D (ix4 g e f d) : EReal)
      = if G (ix1 n) = BitVec.ofNat 32 g.val then share3 H W U S D n g d else 0 := by
  by_cases h : G (ix1 n) = BitVec.ofNat 32 g.val
  · rw [if_pos h]
    unfold share3 Cert.Kernel3Ideal.Experts.unit
    refine Finset.sum_congr rfl fun e _ => Finset.sum_congr rfl fun f _ => ?_
    have hU : (∑ k : Fin 1024, (U (ix4 g e k f) * H (ix2 n k) : EReal)) = ∑ k : Fin 1024, H (ix2 n k) * U (ix4 g e k f) := Finset.sum_congr rfl fun k _ => mul_comm (G := EReal) _ _
    have hS : (∑ k : Fin 1024, (S (ix4 g e k f) * H (ix2 n k) : EReal)) = ∑ k : Fin 1024, H (ix2 n k) * S (ix4 g e k f) := Finset.sum_congr rfl fun k _ => mul_comm (G := EReal) _ _
    rw [if_pos h, hU, hS, zero_sub]
    exact mul_comm (G := EReal) _ _
  · rw [if_neg h]
    refine Finset.sum_eq_zero fun e _ => Finset.sum_eq_zero fun f _ => ?_
    rw [if_neg h, mul_zero, zero_mul]

/-- Group 0's first product. -/
def a0 : FVec Ideal S32768x8x256 .f32 := (Host.dotGeneral dot_S32768x1024_S8x1024x256_S32768x8x256_1_1_0_02_n_n none H (shapeCast _ (extractStridedSlice S1x8x1024x256 ![0, 0, 0, 0] U slices_S4x8x1024x256_S1x8x1024x256_0_0_0_0) shapeCasts_S1x8x1024x256_S8x1024x256))
/-- Group 0's second product. -/
def b0 : FVec Ideal S32768x8x256 .f32 := (Host.dotGeneral dot_S32768x1024_S8x1024x256_S32768x8x256_1_1_0_02_n_n none H (shapeCast _ (extractStridedSlice S1x8x1024x256 ![0, 0, 0, 0] S slices_S4x8x1024x256_S1x8x1024x256_0_0_0_0) shapeCasts_S1x8x1024x256_S8x1024x256))
/-- Group 0's weights. -/
def cw0 : FVec Ideal S32768x8x256 .f32 := (broadcastInDim S32768x8x256 ![0, 1, 2] bcast_S32768x8x1_S32768x8x256_0_1_2 (broadcastInDim S32768x8x1 ![0, 1] bcast_S32768x8_S32768x8x1_0_1 (shapeCast _ (extractStridedSlice S32768x1x8 ![0, 0, 0] (mulf (broadcastInDim S32768x4x8 ![0, 1, 2] bcast_S32768x4x1_S32768x4x8_0_1_2 (broadcastInDim S32768x4x1 ![0, 1] bcast_S32768x4_S32768x4x1_0_1 (uitofp .f32 (cmpi .eq (broadcastInDim S32768x4 ![0, 1] bcast_S32768x1_S32768x4_0_1 (broadcastInDim S32768x1 ![0] bcast_S32768_S32768x1_0 G)) (broadcastInDim S32768x4 ![0, 1] bcast_S1x4_S32768x4_0_1 (iotaInDim S1x4 32 1)))))) (broadcastInDim S32768x4x8 ![0, 1, 2] bcast_S32768x1x8_S32768x4x8_0_1_2 (broadcastInDim S32768x1x8 ![0, 2] bcast_S32768x8_S32768x1x8_0_2 W))) slices_S32768x4x8_S32768x1x8_0_0_0) shapeCasts_S32768x1x8_S32768x8)))
/-- Group 0's hidden units. -/
def hid0 : FVec Ideal S32768x8x256 .f32 := (mulf (mulf (mulf (a0 H U) (Host.divf (broadcastInDim S32768x8x256 ![] bcast_S_S32768x8x256 (constant S_ .f32 0x3F800000#32)) (addf (broadcastInDim S32768x8x256 ![] bcast_S_S32768x8x256 (constant S_ .f32 0x3F800000#32)) (Host.exp (Host.negf (a0 H U)))))) (b0 H S)) (cw0 G W))
/-- Group 0's output. -/
def y0 : FVec Ideal S32768x1024 .f32 := (Host.dotGeneral dot_S32768x8x256_S8x256x1024_S32768x1024_12_01_0_2_n_n none (hid0 H G W U S) (shapeCast _ (extractStridedSlice S1x8x256x1024 ![0, 0, 0, 0] D slices_S4x8x256x1024_S1x8x256x1024_0_0_0_0) shapeCasts_S1x8x256x1024_S8x256x1024))

theorem a0_apply (n : Fin 32768) (e : Fin 8) (f : Fin 256) : a0 H U (ix3 n e f) = ∑ k : Fin 1024, H (ix2 n k) * U (ix4 0 e k f) := by
  unfold a0
  pointwise

theorem b0_apply (n : Fin 32768) (e : Fin 8) (f : Fin 256) : b0 H S (ix3 n e f) = ∑ k : Fin 1024, H (ix2 n k) * S (ix4 0 e k f) := by
  unfold b0
  pointwise

theorem cw0_apply (n : Fin 32768) (e : Fin 8) (f : Fin 256) : cw0 G W (ix3 n e f) = if G (ix1 n) = BitVec.ofNat 32 0 then W (ix2 n e) else 0 := by
  unfold cw0
  pointwise
  exact own_weight _ _ _

theorem hid0_apply (n : Fin 32768) (e : Fin 8) (f : Fin 256) : hid0 H G W U S (ix3 n e f)
    = a0 H U (ix3 n e f) * Ideal.div 1 (1 + Ideal.exp (-(a0 H U (ix3 n e f)))) * b0 H S (ix3 n e f) * cw0 G W (ix3 n e f) := by
  unfold hid0
  pointwise

theorem y0_apply (n : Fin 32768) (d : Fin 1024) : y0 H G W U S D (ix2 n d) = ∑ e : Fin 8, ∑ f : Fin 256, hid0 H G W U S (ix3 n e f) * D (ix4 0 e f d) := by
  unfold y0
  pointwise

/-- Group 0's output is its own tokens'. -/
theorem y0_eq (n : Fin 32768) (d : Fin 1024) : y0 H G W U S D (ix2 n d) = if G (ix1 n) = BitVec.ofNat 32 0 then share3 H W U S D n 0 d else 0 := by
  rw [y0_apply]
  simp only [hid0_apply, cw0_apply, a0_apply, b0_apply]
  exact masked_sum H G W U S D n 0 d

/-- Group 1's first product. -/
def a1 : FVec Ideal S32768x8x256 .f32 := (Host.dotGeneral dot_S32768x1024_S8x1024x256_S32768x8x256_1_1_0_02_n_n none H (shapeCast _ (extractStridedSlice S1x8x1024x256 ![1, 0, 0, 0] U slices_S4x8x1024x256_S1x8x1024x256_1_0_0_0) shapeCasts_S1x8x1024x256_S8x1024x256))
/-- Group 1's second product. -/
def b1 : FVec Ideal S32768x8x256 .f32 := (Host.dotGeneral dot_S32768x1024_S8x1024x256_S32768x8x256_1_1_0_02_n_n none H (shapeCast _ (extractStridedSlice S1x8x1024x256 ![1, 0, 0, 0] S slices_S4x8x1024x256_S1x8x1024x256_1_0_0_0) shapeCasts_S1x8x1024x256_S8x1024x256))
/-- Group 1's weights. -/
def cw1 : FVec Ideal S32768x8x256 .f32 := (broadcastInDim S32768x8x256 ![0, 1, 2] bcast_S32768x8x1_S32768x8x256_0_1_2 (broadcastInDim S32768x8x1 ![0, 1] bcast_S32768x8_S32768x8x1_0_1 (shapeCast _ (extractStridedSlice S32768x1x8 ![0, 1, 0] (mulf (broadcastInDim S32768x4x8 ![0, 1, 2] bcast_S32768x4x1_S32768x4x8_0_1_2 (broadcastInDim S32768x4x1 ![0, 1] bcast_S32768x4_S32768x4x1_0_1 (uitofp .f32 (cmpi .eq (broadcastInDim S32768x4 ![0, 1] bcast_S32768x1_S32768x4_0_1 (broadcastInDim S32768x1 ![0] bcast_S32768_S32768x1_0 G)) (broadcastInDim S32768x4 ![0, 1] bcast_S1x4_S32768x4_0_1 (iotaInDim S1x4 32 1)))))) (broadcastInDim S32768x4x8 ![0, 1, 2] bcast_S32768x1x8_S32768x4x8_0_1_2 (broadcastInDim S32768x1x8 ![0, 2] bcast_S32768x8_S32768x1x8_0_2 W))) slices_S32768x4x8_S32768x1x8_0_1_0) shapeCasts_S32768x1x8_S32768x8)))
/-- Group 1's hidden units. -/
def hid1 : FVec Ideal S32768x8x256 .f32 := (mulf (mulf (mulf (a1 H U) (Host.divf (broadcastInDim S32768x8x256 ![] bcast_S_S32768x8x256 (constant S_ .f32 0x3F800000#32)) (addf (broadcastInDim S32768x8x256 ![] bcast_S_S32768x8x256 (constant S_ .f32 0x3F800000#32)) (Host.exp (Host.negf (a1 H U)))))) (b1 H S)) (cw1 G W))
/-- Group 1's output. -/
def y1 : FVec Ideal S32768x1024 .f32 := (Host.dotGeneral dot_S32768x8x256_S8x256x1024_S32768x1024_12_01_0_2_n_n none (hid1 H G W U S) (shapeCast _ (extractStridedSlice S1x8x256x1024 ![1, 0, 0, 0] D slices_S4x8x256x1024_S1x8x256x1024_1_0_0_0) shapeCasts_S1x8x256x1024_S8x256x1024))

theorem a1_apply (n : Fin 32768) (e : Fin 8) (f : Fin 256) : a1 H U (ix3 n e f) = ∑ k : Fin 1024, H (ix2 n k) * U (ix4 1 e k f) := by
  unfold a1
  pointwise

theorem b1_apply (n : Fin 32768) (e : Fin 8) (f : Fin 256) : b1 H S (ix3 n e f) = ∑ k : Fin 1024, H (ix2 n k) * S (ix4 1 e k f) := by
  unfold b1
  pointwise

theorem cw1_apply (n : Fin 32768) (e : Fin 8) (f : Fin 256) : cw1 G W (ix3 n e f) = if G (ix1 n) = BitVec.ofNat 32 1 then W (ix2 n e) else 0 := by
  unfold cw1
  pointwise
  exact own_weight _ _ _

theorem hid1_apply (n : Fin 32768) (e : Fin 8) (f : Fin 256) : hid1 H G W U S (ix3 n e f)
    = a1 H U (ix3 n e f) * Ideal.div 1 (1 + Ideal.exp (-(a1 H U (ix3 n e f)))) * b1 H S (ix3 n e f) * cw1 G W (ix3 n e f) := by
  unfold hid1
  pointwise

theorem y1_apply (n : Fin 32768) (d : Fin 1024) : y1 H G W U S D (ix2 n d) = ∑ e : Fin 8, ∑ f : Fin 256, hid1 H G W U S (ix3 n e f) * D (ix4 1 e f d) := by
  unfold y1
  pointwise

/-- Group 1's output is its own tokens'. -/
theorem y1_eq (n : Fin 32768) (d : Fin 1024) : y1 H G W U S D (ix2 n d) = if G (ix1 n) = BitVec.ofNat 32 1 then share3 H W U S D n 1 d else 0 := by
  rw [y1_apply]
  simp only [hid1_apply, cw1_apply, a1_apply, b1_apply]
  exact masked_sum H G W U S D n 1 d

/-- Group 2's first product. -/
def a2 : FVec Ideal S32768x8x256 .f32 := (Host.dotGeneral dot_S32768x1024_S8x1024x256_S32768x8x256_1_1_0_02_n_n none H (shapeCast _ (extractStridedSlice S1x8x1024x256 ![2, 0, 0, 0] U slices_S4x8x1024x256_S1x8x1024x256_2_0_0_0) shapeCasts_S1x8x1024x256_S8x1024x256))
/-- Group 2's second product. -/
def b2 : FVec Ideal S32768x8x256 .f32 := (Host.dotGeneral dot_S32768x1024_S8x1024x256_S32768x8x256_1_1_0_02_n_n none H (shapeCast _ (extractStridedSlice S1x8x1024x256 ![2, 0, 0, 0] S slices_S4x8x1024x256_S1x8x1024x256_2_0_0_0) shapeCasts_S1x8x1024x256_S8x1024x256))
/-- Group 2's weights. -/
def cw2 : FVec Ideal S32768x8x256 .f32 := (broadcastInDim S32768x8x256 ![0, 1, 2] bcast_S32768x8x1_S32768x8x256_0_1_2 (broadcastInDim S32768x8x1 ![0, 1] bcast_S32768x8_S32768x8x1_0_1 (shapeCast _ (extractStridedSlice S32768x1x8 ![0, 2, 0] (mulf (broadcastInDim S32768x4x8 ![0, 1, 2] bcast_S32768x4x1_S32768x4x8_0_1_2 (broadcastInDim S32768x4x1 ![0, 1] bcast_S32768x4_S32768x4x1_0_1 (uitofp .f32 (cmpi .eq (broadcastInDim S32768x4 ![0, 1] bcast_S32768x1_S32768x4_0_1 (broadcastInDim S32768x1 ![0] bcast_S32768_S32768x1_0 G)) (broadcastInDim S32768x4 ![0, 1] bcast_S1x4_S32768x4_0_1 (iotaInDim S1x4 32 1)))))) (broadcastInDim S32768x4x8 ![0, 1, 2] bcast_S32768x1x8_S32768x4x8_0_1_2 (broadcastInDim S32768x1x8 ![0, 2] bcast_S32768x8_S32768x1x8_0_2 W))) slices_S32768x4x8_S32768x1x8_0_2_0) shapeCasts_S32768x1x8_S32768x8)))
/-- Group 2's hidden units. -/
def hid2 : FVec Ideal S32768x8x256 .f32 := (mulf (mulf (mulf (a2 H U) (Host.divf (broadcastInDim S32768x8x256 ![] bcast_S_S32768x8x256 (constant S_ .f32 0x3F800000#32)) (addf (broadcastInDim S32768x8x256 ![] bcast_S_S32768x8x256 (constant S_ .f32 0x3F800000#32)) (Host.exp (Host.negf (a2 H U)))))) (b2 H S)) (cw2 G W))
/-- Group 2's output. -/
def y2 : FVec Ideal S32768x1024 .f32 := (Host.dotGeneral dot_S32768x8x256_S8x256x1024_S32768x1024_12_01_0_2_n_n none (hid2 H G W U S) (shapeCast _ (extractStridedSlice S1x8x256x1024 ![2, 0, 0, 0] D slices_S4x8x256x1024_S1x8x256x1024_2_0_0_0) shapeCasts_S1x8x256x1024_S8x256x1024))

theorem a2_apply (n : Fin 32768) (e : Fin 8) (f : Fin 256) : a2 H U (ix3 n e f) = ∑ k : Fin 1024, H (ix2 n k) * U (ix4 2 e k f) := by
  unfold a2
  pointwise

theorem b2_apply (n : Fin 32768) (e : Fin 8) (f : Fin 256) : b2 H S (ix3 n e f) = ∑ k : Fin 1024, H (ix2 n k) * S (ix4 2 e k f) := by
  unfold b2
  pointwise

theorem cw2_apply (n : Fin 32768) (e : Fin 8) (f : Fin 256) : cw2 G W (ix3 n e f) = if G (ix1 n) = BitVec.ofNat 32 2 then W (ix2 n e) else 0 := by
  unfold cw2
  pointwise
  exact own_weight _ _ _

theorem hid2_apply (n : Fin 32768) (e : Fin 8) (f : Fin 256) : hid2 H G W U S (ix3 n e f)
    = a2 H U (ix3 n e f) * Ideal.div 1 (1 + Ideal.exp (-(a2 H U (ix3 n e f)))) * b2 H S (ix3 n e f) * cw2 G W (ix3 n e f) := by
  unfold hid2
  pointwise

theorem y2_apply (n : Fin 32768) (d : Fin 1024) : y2 H G W U S D (ix2 n d) = ∑ e : Fin 8, ∑ f : Fin 256, hid2 H G W U S (ix3 n e f) * D (ix4 2 e f d) := by
  unfold y2
  pointwise

/-- Group 2's output is its own tokens'. -/
theorem y2_eq (n : Fin 32768) (d : Fin 1024) : y2 H G W U S D (ix2 n d) = if G (ix1 n) = BitVec.ofNat 32 2 then share3 H W U S D n 2 d else 0 := by
  rw [y2_apply]
  simp only [hid2_apply, cw2_apply, a2_apply, b2_apply]
  exact masked_sum H G W U S D n 2 d

/-- Group 3's first product. -/
def a3 : FVec Ideal S32768x8x256 .f32 := (Host.dotGeneral dot_S32768x1024_S8x1024x256_S32768x8x256_1_1_0_02_n_n none H (shapeCast _ (extractStridedSlice S1x8x1024x256 ![3, 0, 0, 0] U slices_S4x8x1024x256_S1x8x1024x256_3_0_0_0) shapeCasts_S1x8x1024x256_S8x1024x256))
/-- Group 3's second product. -/
def b3 : FVec Ideal S32768x8x256 .f32 := (Host.dotGeneral dot_S32768x1024_S8x1024x256_S32768x8x256_1_1_0_02_n_n none H (shapeCast _ (extractStridedSlice S1x8x1024x256 ![3, 0, 0, 0] S slices_S4x8x1024x256_S1x8x1024x256_3_0_0_0) shapeCasts_S1x8x1024x256_S8x1024x256))
/-- Group 3's weights. -/
def cw3 : FVec Ideal S32768x8x256 .f32 := (broadcastInDim S32768x8x256 ![0, 1, 2] bcast_S32768x8x1_S32768x8x256_0_1_2 (broadcastInDim S32768x8x1 ![0, 1] bcast_S32768x8_S32768x8x1_0_1 (shapeCast _ (extractStridedSlice S32768x1x8 ![0, 3, 0] (mulf (broadcastInDim S32768x4x8 ![0, 1, 2] bcast_S32768x4x1_S32768x4x8_0_1_2 (broadcastInDim S32768x4x1 ![0, 1] bcast_S32768x4_S32768x4x1_0_1 (uitofp .f32 (cmpi .eq (broadcastInDim S32768x4 ![0, 1] bcast_S32768x1_S32768x4_0_1 (broadcastInDim S32768x1 ![0] bcast_S32768_S32768x1_0 G)) (broadcastInDim S32768x4 ![0, 1] bcast_S1x4_S32768x4_0_1 (iotaInDim S1x4 32 1)))))) (broadcastInDim S32768x4x8 ![0, 1, 2] bcast_S32768x1x8_S32768x4x8_0_1_2 (broadcastInDim S32768x1x8 ![0, 2] bcast_S32768x8_S32768x1x8_0_2 W))) slices_S32768x4x8_S32768x1x8_0_3_0) shapeCasts_S32768x1x8_S32768x8)))
/-- Group 3's hidden units. -/
def hid3 : FVec Ideal S32768x8x256 .f32 := (mulf (mulf (mulf (a3 H U) (Host.divf (broadcastInDim S32768x8x256 ![] bcast_S_S32768x8x256 (constant S_ .f32 0x3F800000#32)) (addf (broadcastInDim S32768x8x256 ![] bcast_S_S32768x8x256 (constant S_ .f32 0x3F800000#32)) (Host.exp (Host.negf (a3 H U)))))) (b3 H S)) (cw3 G W))
/-- Group 3's output. -/
def y3 : FVec Ideal S32768x1024 .f32 := (Host.dotGeneral dot_S32768x8x256_S8x256x1024_S32768x1024_12_01_0_2_n_n none (hid3 H G W U S) (shapeCast _ (extractStridedSlice S1x8x256x1024 ![3, 0, 0, 0] D slices_S4x8x256x1024_S1x8x256x1024_3_0_0_0) shapeCasts_S1x8x256x1024_S8x256x1024))

theorem a3_apply (n : Fin 32768) (e : Fin 8) (f : Fin 256) : a3 H U (ix3 n e f) = ∑ k : Fin 1024, H (ix2 n k) * U (ix4 3 e k f) := by
  unfold a3
  pointwise

theorem b3_apply (n : Fin 32768) (e : Fin 8) (f : Fin 256) : b3 H S (ix3 n e f) = ∑ k : Fin 1024, H (ix2 n k) * S (ix4 3 e k f) := by
  unfold b3
  pointwise

theorem cw3_apply (n : Fin 32768) (e : Fin 8) (f : Fin 256) : cw3 G W (ix3 n e f) = if G (ix1 n) = BitVec.ofNat 32 3 then W (ix2 n e) else 0 := by
  unfold cw3
  pointwise
  exact own_weight _ _ _

theorem hid3_apply (n : Fin 32768) (e : Fin 8) (f : Fin 256) : hid3 H G W U S (ix3 n e f)
    = a3 H U (ix3 n e f) * Ideal.div 1 (1 + Ideal.exp (-(a3 H U (ix3 n e f)))) * b3 H S (ix3 n e f) * cw3 G W (ix3 n e f) := by
  unfold hid3
  pointwise

theorem y3_apply (n : Fin 32768) (d : Fin 1024) : y3 H G W U S D (ix2 n d) = ∑ e : Fin 8, ∑ f : Fin 256, hid3 H G W U S (ix3 n e f) * D (ix4 3 e f d) := by
  unfold y3
  pointwise

/-- Group 3's output is its own tokens'. -/
theorem y3_eq (n : Fin 32768) (d : Fin 1024) : y3 H G W U S D (ix2 n d) = if G (ix1 n) = BitVec.ofNat 32 3 then share3 H W U S D n 3 d else 0 := by
  rw [y3_apply]
  simp only [hid3_apply, cw3_apply, a3_apply, b3_apply]
  exact masked_sum H G W U S D n 3 d

/-- The reference's result, of its groups' outputs. -/
def total : FVec Ideal S1x32768x1024 .f32 := shapeCast _ (addf X (mulf (broadcastInDim S16x2048x1024 ![0, 1, 2] bcast_S16x1x1024_S16x2048x1024_0_1_2 Q) (shapeCast _ (addf (addf (addf (addf (broadcastInDim S32768x1024 ![] bcast_S_S32768x1024 (constant S_ .f32 0x00000000#32)) (y0 H G W U S D)) (y1 H G W U S D)) (y2 H G W U S D)) (y3 H G W U S D)) shapeCasts_S32768x1024_S16x2048x1024))) shapeCasts_S16x2048x1024_S1x32768x1024

theorem total_eq (m : (ℓ : Loc nD τ sig) → Buf (Elt Ideal) ℓ) (c : Dev nD) :
    res_out0 m c = total (m (c, Proc.devRef .tc main_arg0)) (m (c, Proc.devRef .tc main_arg1)) (m (c, Proc.devRef .tc main_arg2)) (m (c, Proc.devRef .tc main_arg3))
      (m (c, Proc.devRef .tc main_arg4)) (m (c, Proc.devRef .tc main_arg5)) (m (c, Proc.devRef .tc main_arg6)) (m (c, Proc.devRef .tc main_arg7)) := rfl

theorem total_apply (n : Fin 32768) (d : Fin 1024) : total H G W X Q U S D (ix3 0 n d) = X (ix3 ⟨n.val / 2048, by omega⟩ ⟨n.val % 2048, Nat.mod_lt _ (by decide)⟩ d)
    + Q (ix3 ⟨n.val / 2048, by omega⟩ 0 d) * (y0 H G W U S D (ix2 n d) + y1 H G W U S D (ix2 n d) + y2 H G W U S D (ix2 n d) + y3 H G W U S D (ix2 n d)) := by
  unfold total
  pointwise

end Cert.Reference3Ideal.Experts

end
-- ==== Proof.ExpertsEqual.lean ====
/- The experts call's result is its reference's, where the weights are finite. -/
module

public import proofs.«01_k».proof.Pre_finite_weights
public import proofs.«01_k».proof.Proof.ExpertsValue
public import proofs.«01_k».proof.Proof.ExpertsRef
public import Idealize.ShloMosaic.Lib.ReduceAll
public import Idealize.ShloMosaic.Lib.WordCmp

@[expose] public section

set_option maxRecDepth 16384

noncomputable section

namespace Cert.ExpertsEqual

open Idealize.ShloMosaic Idealize.SL.Sem

/-- The shape relations the precondition's operations take. -/
theorem facts : Cert.Pre_finite_weights.Facts := ⟨by decide, by decide, by decide⟩

instance : Subsingleton Cert.Pre_finite_weights.S_.Idx := ⟨fun a b => funext fun k => k.elim0⟩

/-- A number that passes the precondition's test is below infinity in absolute value. -/
theorem below_of_test (x : EReal) (h : Ideal.cmp .olt (max x (-x)) (Ideal.ofBits .f32 0x7F800000#32) = 1#1) : max x (-x) < ⊤ := by
  have htop : Ideal.ofBits .f32 0x7F800000#32 = ⊤ := by simp [Ideal.ofBits, Ideal.ieee]
  rw [htop] at h
  by_contra hn
  simp [Ideal.cmp, hn] at h

/-- The precondition bounds every weight. -/
theorem weights (hf : Cert.Pre_finite_weights.Facts) (H : FVec Ideal Cert.Pre_finite_weights.S32768x1024 .f32) (G : IVec Cert.Pre_finite_weights.S32768 32)
    (W : FVec Ideal Cert.Pre_finite_weights.S32768x8 .f32) (X : FVec Ideal Cert.Pre_finite_weights.S16x2048x1024 .f32) (Q : FVec Ideal Cert.Pre_finite_weights.S16x1x1024 .f32)
    (U S : FVec Ideal Cert.Pre_finite_weights.S4x8x1024x256 .f32) (D : FVec Ideal Cert.Pre_finite_weights.S4x8x256x1024 .f32)
    (h : Cert.Pre_finite_weights.fn (F := Ideal) H G W X Q U S D = fun _ => 1#1) (i : Cert.Pre_finite_weights.S32768x8.Idx) : max (W i : EReal) (-(W i : EReal)) < ⊤ := by
  have e := congrFun h (fun a => a.elim0)
  simp only [Cert.Pre_finite_weights.fn] at e
  exact below_of_test _ (Host.reduce_andi_all _ _ _ _ _ e i)

open Cert.Kernel3Ideal Cert.Kernel3Ideal.Gen Cert.Kernel3Ideal.Experts in
/-- The kernel's value at a token and a feature is the reference's. -/
theorem value_eq (m : (ℓ : Loc Cert.Kernel3Ideal.nD Cert.Kernel3Ideal.τ Cert.Kernel3Ideal.sig) → Buf (Elt Ideal) ℓ) (c : Dev Cert.Kernel3Ideal.nD) (n : Fin 32768) (d : Fin 1024) :
    value m c n d = Cert.Reference3Ideal.Experts.total (feats m c) (gid m c) (wts m c) (resid m c) (gates m c) (up m c) (side m c) (down m c) (ix3 0 n d) := by
  rw [Cert.Reference3Ideal.Experts.total_apply, Cert.Reference3Ideal.Experts.y0_eq, Cert.Reference3Ideal.Experts.y1_eq, Cert.Reference3Ideal.Experts.y2_eq, Cert.Reference3Ideal.Experts.y3_eq]
  rfl

open Cert.Kernel3Ideal Cert.Kernel3Ideal.Gen Cert.Kernel3Ideal.Experts in
/-- The kernel's result array is the reference's, of the kernel's arguments. -/
theorem result_eq (m : (ℓ : Loc Cert.Kernel3Ideal.nD Cert.Kernel3Ideal.τ Cert.Kernel3Ideal.sig) → Buf (Elt Ideal) ℓ) (c : Dev Cert.Kernel3Ideal.nD)
    (hw : ∀ j, max (wts m c j) (-wts m c j) < ⊤) :
    (dats m (ok m) (hyps m) 0 c).arrAt 9 (cfgM m (ok m)).N = Cert.Reference3Ideal.Experts.total (feats m c) (gid m c) (wts m c) (resid m c) (gates m c) (up m c) (side m c) (down m c) := by
  refine (final m c hw).trans (funext fun i => (value_eq m c (i 1) (i 2)).trans (congrArg (Cert.Reference3Ideal.Experts.total _ _ _ _ _ _ _ _) ?_))
  refine (congrArg (fun a : Fin 1 => ix3 a (i 1 : Fin 32768) (i 2 : Fin 1024)) (Subsingleton.elim (α := Fin 1) _ (i 0))).trans (eq_ix3 (n0 := 1) (n1 := 32768) (n2 := 1024) i).symm

open Cert.Kernel3Ideal Cert.Kernel3Ideal.Gen Cert.Kernel3Ideal.Experts in
/-- The idealized kernel ends with the reference's result and its arguments unchanged. -/
theorem run_result (m : (ℓ : Loc Cert.Kernel3Ideal.nD Cert.Kernel3Ideal.τ Cert.Kernel3Ideal.sig) → Buf (Elt Ideal) ℓ) (ρ : Dev Cert.Kernel3Ideal.nD → PrngReg)
    (hw : ∀ c, ∀ j, max (wts m c j) (-wts m c j) < ⊤) :
    θ_run (defs (F := Ideal)) (onTc (τ := τ) (main (F := Ideal))) ⟨m, fun _ => 0, ρ⟩ (fun r => ∀ c : Dev nD,
      r.2.mem ((c.tc : Thread nD τ).loc main_v66) = Cert.Reference3Ideal.Experts.total (feats m c) (gid m c) (wts m c) (resid m c) (gates m c) (up m c) (side m c) (down m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 9).trans (result_eq m c (hw c)), h.2 c⟩)
    (θ_run_and (run_main m ρ (ok m) (hyps m)) (unchanged m ρ (ok m) (hyps m)))

end Cert.ExpertsEqual

end
-- ==== Proof.ExpertsPrinted.lean ====
/- The side conditions of the experts kernel as printed: its loops mean something whatever word the table holds. -/
module

public import proofs.«01_k».proof.Proof.Gen.Kernel3.Frame
public import proofs.«01_k».proof.Proof.ExpertsLoop

@[expose] public section

set_option maxRecDepth 16384

noncomputable section

namespace Cert.Kernel3.Experts

open Cert.Kernel3 Cert.Kernel3.Gen Idealize.ShloMosaic Idealize.ShloMosaic.TcCoe Idealize.SL.Sem

variable {F : FTy → Type} [FloatOps F] (m : (ℓ : Loc nD τ sig) → Buf (Elt F) ℓ)

/-- The table's side condition. -/
theorem ok : Ok m := trivial

/-- What the body takes for granted of the table's words. -/
theorem hyps : Hyps m (ok m) := fun c t => ⟨Cert.Kernel3Ideal.Experts.ok_one _ _, Cert.Kernel3Ideal.Experts.ok_one _ _⟩

end Cert.Kernel3.Experts

end
-- ==== Proof.lean ====
module

public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.KernelPoint
public import proofs.«01_k».proof.Proof.Finite
public import proofs.«01_k».proof.Proof.SameText
public import proofs.«01_k».proof.Proof.Equation
public import proofs.«01_k».proof.Proof.ProjectSame
public import proofs.«01_k».proof.Proof.ProjectValue
public import proofs.«01_k».proof.Proof.ExpertsValue
public import proofs.«01_k».proof.Proof.ExpertsRef
public import proofs.«01_k».proof.Proof.ExpertsEqual
public import proofs.«01_k».proof.Proof.ExpertsPrinted
public import proofs.«01_k».proof.Defs
public import proofs.«01_k».proof.Proof.Gen.Kernel
public import proofs.«01_k».proof.Proof.Gen.Kernel2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Reference3Ideal.Run
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel as printed runs and leaves its arguments as they were. Its text is the idealized program's
    text, so this is that program's run, read over bit patterns. -/
theorem frame_kernel : Cert.quiescent_Kernel (hKernel := Cert.Kernel.Gen.facts) := fun m ρ _ => by
  rw [Cert.SameText.tables, Cert.SameText.mains]
  exact Cert.KernelIdeal.Gen.frame (F := Bits) m ρ

/-- The idealized kernel runs and leaves its arguments as they were. -/
theorem frame_kernelIdeal : Cert.quiescent_KernelIdeal (hKernelIdeal := Cert.KernelIdeal.Gen.facts) := fun m ρ _ =>
  Cert.KernelIdeal.Gen.frame m ρ

/-- The reference runs and leaves its arguments as they were. -/
theorem frame_reference : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩) (Cert.ReferenceIdeal.Value.run m ρ)

/-- The idealized kernel runs the same where the precondition holds. -/
theorem frame_kernelIdeal_finite : Cert.quiescent_KernelIdeal_pre_finite_scores (hKernelIdeal := Cert.KernelIdeal.Gen.facts)
    (hPre_finite_scores := Cert.Finite.facts) := fun m ρ _ => frame_kernelIdeal m ρ trivial

/-- The reference runs the same where the precondition holds. -/
theorem frame_reference_finite : Cert.quiescent_ReferenceIdeal_pre_finite_scores (hReferenceIdeal := Cert.ReferenceIdeal.Gen.facts)
    (hPre_finite_scores := Cert.Finite.facts) := fun m ρ _ => frame_reference m ρ trivial

/-- The kernel's result array is the reference's, from arguments that agree and satisfy the precondition. -/
theorem result_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (hpre : haveI := Cert.Finite.facts; Cert.Pre_KernelIdeal_finite_scores m)
    (h0 : Cert.ReferenceIdeal.RefValue.qRot V0 = Cert.KernelIdeal.Geometry.qRot m c)
    (h1 : Cert.ReferenceIdeal.RefValue.qPlain V0 = Cert.KernelIdeal.Geometry.qPlain m c)
    (h2 : Cert.ReferenceIdeal.RefValue.kRot V0 = Cert.KernelIdeal.Geometry.kRot m c)
    (h3 : Cert.ReferenceIdeal.RefValue.vals V0 = Cert.KernelIdeal.Geometry.vals m c)
    (h4 : Cert.ReferenceIdeal.RefValue.kCtx V0 = Cert.KernelIdeal.Geometry.kCtx m c)
    (h5 : Cert.ReferenceIdeal.RefValue.vCtx V0 = Cert.KernelIdeal.Geometry.vCtx m c)
    (h6 : Cert.ReferenceIdeal.RefValue.rpb V0 = Cert.KernelIdeal.Geometry.rpb m c) :
    (Cert.KernelIdeal.Gen.dats m 0 c).arrAt 7 Cert.KernelIdeal.cfg0.N = Cert.ReferenceIdeal.RefValue.result V0 := by
  obtain ⟨q, qp, k, kc, t⟩ := Cert.Finite.reals Cert.Finite.facts _ _ _ _ _ _ _ (hpre c)
  refine (Cert.KernelIdeal.Geometry.final m c).trans (funext fun i => ?_)
  have e := Cert.Equation.value_eq V0 (fun i => by rw [h0]; exact q i) (fun i => by rw [h1]; exact qp i) (fun i => by rw [h2]; exact k i)
    (fun i => by rw [h4]; exact kc i) (fun i => by rw [h6]; exact t i) (i 0) (i 1) (i 2)
  rw [h0, h1, h2, h3, h4, h5, h6] at e
  exact e.trans (congrArg (Cert.ReferenceIdeal.RefValue.result V0) (Idealize.ShloMosaic.eq_ix3 i).symm)

/-- The idealized kernel and the reference end with equal results. -/
theorem equal_results : Cert.algebraic_KernelIdeal_ReferenceIdeal_pre_finite_scores (hKernelIdeal := Cert.KernelIdeal.Gen.facts)
    (hReferenceIdeal := Cert.ReferenceIdeal.Gen.facts) (hPre_finite_scores := Cert.Finite.facts) := fun m ρ m' ρ' hpre hag =>
  ⟨fun c => Cert.ReferenceIdeal.RefValue.result (StableHlo.launchContents m' c),
    (θ_run _ _ _).mono (fun r h c => ⟨(h c).1.trans (result_eq m c (StableHlo.launchContents m' c) hpre (hag c).1 (hag c).2.1 (hag c).2.2.1
      (hag c).2.2.2.1 (hag c).2.2.2.2.1 (hag c).2.2.2.2.2.1 (hag c).2.2.2.2.2.2), (h c).2⟩) (Cert.KernelIdeal.Value.run_blocks m ρ),
    Cert.ReferenceIdeal.RefValue.run_result m' ρ'⟩

/-- The projection kernel as printed runs and leaves its arguments as they were, as the idealized program of the same text does. -/
theorem frame_project : Cert.quiescent_Kernel2 (hKernel2 := Cert.Kernel2.Gen.facts) := fun m ρ _ => by
  rw [Cert.ProjectSame.tables, Cert.ProjectSame.mains]
  exact Cert.Kernel2Ideal.Gen.frame (F := Bits) m ρ

/-- The idealized projection kernel runs and leaves its arguments as they were. -/
theorem frame_projectIdeal : Cert.quiescent_Kernel2Ideal (hKernel2Ideal := Cert.Kernel2Ideal.Gen.facts) := fun m ρ _ =>
  Cert.Kernel2Ideal.Gen.frame m ρ

/-- The projection's reference runs and leaves its arguments as they were. -/
theorem frame_projectReference : Cert.quiescent_Reference2Ideal (hReference2Ideal := Cert.Reference2Ideal.Gen.facts) := fun m ρ _ =>
  (θ_run _ _ _).mono (fun r h => ⟨fun c => (h c).2, Idealize.ShloMosaic.sem_eq_zero_of_no_sems (by decide) r.2⟩) (Cert.Reference2Ideal.Value.run m ρ)

/-- The projection kernel's result array is the reference's, of the kernel's arguments. -/
theorem project_eq (m : (ℓ : Loc Cert.Kernel2Ideal.nD Cert.Kernel2Ideal.τ Cert.Kernel2Ideal.sig) → Buf (Elt Ideal) ℓ) (c : Dev Cert.Kernel2Ideal.nD) :
    (Cert.Kernel2Ideal.Gen.dats m 0 c).arrAt 5 Cert.Kernel2Ideal.cfg0.N
      = Cert.Reference2Ideal.Project.result (Cert.Kernel2Ideal.Project.tokens m c) (Cert.Kernel2Ideal.Project.gain m c)
          (Cert.Kernel2Ideal.Project.modScale m c) (Cert.Kernel2Ideal.Project.modShift m c) (Cert.Kernel2Ideal.Project.weights m c) :=
  (Cert.Kernel2Ideal.Project.final m c).trans (funext fun i =>
    (Cert.Reference2Ideal.Project.result_apply _ _ _ _ _ (i 0) (i 1) (i 2)).symm.trans
      (congrArg (Cert.Reference2Ideal.Project.result _ _ _ _ _) (Idealize.ShloMosaic.eq_ix3 i).symm))

/-- The idealized projection kernel and its reference end with equal results. -/
theorem equal_projections : Cert.algebraic_Kernel2Ideal_Reference2Ideal (hKernel2Ideal := Cert.Kernel2Ideal.Gen.facts)
    (hReference2Ideal := Cert.Reference2Ideal.Gen.facts) := fun m ρ m' ρ' _ hag =>
  ⟨fun c => Cert.Reference2Ideal.Project.result (Cert.Kernel2Ideal.Project.tokens m c) (Cert.Kernel2Ideal.Project.gain m c)
      (Cert.Kernel2Ideal.Project.modScale m c) (Cert.Kernel2Ideal.Project.modShift m c) (Cert.Kernel2Ideal.Project.weights m c),
    (θ_run _ _ _).mono (fun r h c => ⟨(h c).1.trans (project_eq m c), (h c).2⟩) (Cert.Kernel2Ideal.Value.run_blocks m ρ),
    (θ_run _ _ _).mono (fun r h c => ⟨by
      obtain ⟨h0, h1, h2, h3, h4⟩ := hag c
      refine (h c).1.trans ?_
      rw [h0, h1, h2, h3, h4]
      rfl, (h c).2⟩) (Cert.Reference2Ideal.Value.run m' ρ')⟩

/-- The experts kernel as printed runs and leaves its arguments as they were. -/
theorem frame_experts : Cert.quiescent_Kernel3 (hKernel3 := Cert.Kernel3.Gen.facts) := fun m ρ _ =>
  Cert.Kernel3.Gen.frame m ρ (Cert.Kernel3.Experts.ok m) (Cert.Kernel3.Experts.hyps m)

/-- The idealized experts kernel runs and leaves its arguments as they were. -/
theorem frame_expertsIdeal : Cert.quiescent_Kernel3Ideal (hKernel3Ideal := Cert.Kernel3Ideal.Gen.facts) := fun m ρ _ =>
  Cert.Kernel3Ideal.Gen.frame m ρ (Cert.Kernel3Ideal.Experts.ok m) (Cert.Kernel3Ideal.Experts.hyps m)

/-- The experts' reference runs and leaves its arguments as they were. -/
theorem frame_expertsReference : Cert.quiescent_Reference3Ideal (hReference3Ideal := Cert.Reference3Ideal.Gen.facts) := fun m ρ _ =>
  (θ_run _ _ _).mono (fun r h => ⟨fun c => (h c).2, Idealize.ShloMosaic.sem_eq_zero_of_no_sems (by decide) r.2⟩) (Cert.Reference3Ideal.Value.run m ρ)

/-- The idealized experts kernel runs the same where the weights are finite. -/
theorem frame_expertsIdeal_finite : Cert.quiescent_Kernel3Ideal_pre_finite_weights (hKernel3Ideal := Cert.Kernel3Ideal.Gen.facts)
    (hPre_finite_weights := Cert.ExpertsEqual.facts) := fun m ρ _ => frame_expertsIdeal m ρ trivial

/-- The experts' reference runs the same where the weights are finite. -/
theorem frame_expertsReference_finite : Cert.quiescent_Reference3Ideal_pre_finite_weights (hReference3Ideal := Cert.Reference3Ideal.Gen.facts)
    (hPre_finite_weights := Cert.ExpertsEqual.facts) := fun m ρ _ => frame_expertsReference m ρ trivial

/-- The idealized experts kernel and its reference end with equal results, where the weights are finite. -/
theorem equal_experts : Cert.algebraic_Kernel3Ideal_Reference3Ideal_pre_finite_weights (hKernel3Ideal := Cert.Kernel3Ideal.Gen.facts)
    (hReference3Ideal := Cert.Reference3Ideal.Gen.facts) (hPre_finite_weights := Cert.ExpertsEqual.facts) := fun m ρ m' ρ' hpre hag =>
  ⟨fun c => Cert.Reference3Ideal.Experts.total (Cert.Kernel3Ideal.Experts.feats m c) (Cert.Kernel3Ideal.Experts.gid m c) (Cert.Kernel3Ideal.Experts.wts m c)
      (Cert.Kernel3Ideal.Experts.resid m c) (Cert.Kernel3Ideal.Experts.gates m c) (Cert.Kernel3Ideal.Experts.up m c) (Cert.Kernel3Ideal.Experts.side m c) (Cert.Kernel3Ideal.Experts.down m c),
    Cert.ExpertsEqual.run_result m ρ (fun c j => Cert.ExpertsEqual.weights Cert.ExpertsEqual.facts _ _ _ _ _ _ _ _ (hpre c) j),
    (θ_run _ _ _).mono (fun r h c => ⟨by
      obtain ⟨h0, h1, h2, h3, h4, h5, h6, h7⟩ := hag c
      refine ((h c).1.trans (Cert.Reference3Ideal.Experts.total_eq m' c)).trans ?_
      exact congr (congr (congr (congr (congr (congr (congr (congrArg Cert.Reference3Ideal.Experts.total h0) h1) h2) h3) h4) h5) h6) h7, (h c).2⟩) (Cert.Reference3Ideal.Value.run m' ρ')⟩

/-- Every claim. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Finite.facts, Cert.ExpertsEqual.facts, frame_kernel, frame_kernelIdeal, frame_kernelIdeal_finite,
  frame_reference, frame_reference_finite, frame_project, frame_projectIdeal, frame_projectReference, frame_experts, frame_expertsIdeal,
  frame_expertsIdeal_finite, frame_expertsReference, frame_expertsReference_finite, trivial, equal_results, trivial,
  equal_projections, trivial, equal_experts⟩

end Cert.Proof

end
